-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "sm_log2e" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_v86) = v5 c
          ∧ r.2.mem ((c.tc : Thread Cert.ReferenceIdeal.nD Cert.ReferenceIdeal.τ).loc Cert.ReferenceIdeal.main_v87) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x1024 : Shape := ⟨3, ![8, 8192, 1024]⟩
abbrev S8x8192x256 : Shape := ⟨3, ![8, 8192, 256]⟩
abbrev S8x64x8 : Shape := ⟨3, ![8, 64, 8]⟩
abbrev S8x64x1024 : Shape := ⟨3, ![8, 64, 1024]⟩
abbrev S8x64x2 : Shape := ⟨3, ![8, 64, 2]⟩
abbrev S8x2x64x128x128 : Shape := ⟨5, ![8, 2, 64, 128, 128]⟩
abbrev S1x1024x1024 : Shape := ⟨3, ![1, 1024, 1024]⟩
abbrev S1x1024x256 : Shape := ⟨3, ![1, 1024, 256]⟩
abbrev S1x8x8 : Shape := ⟨3, ![1, 8, 8]⟩
abbrev S1x8x1024 : Shape := ⟨3, ![1, 8, 1024]⟩
abbrev S1x8x2 : Shape := ⟨3, ![1, 8, 2]⟩
abbrev S1x2x8x128x128 : Shape := ⟨5, ![1, 2, 8, 128, 128]⟩
abbrev S8x8 : Shape := ⟨2, ![8, 8]⟩
abbrev S8x2 : Shape := ⟨2, ![8, 2]⟩
abbrev S1x128x128 : Shape := ⟨3, ![1, 128, 128]⟩
abbrev S128x128 : Shape := ⟨2, ![128, 128]⟩
abbrev S1 : Shape := ⟨1, ![1]⟩
abbrev S1x1x1 : Shape := ⟨3, ![1, 1, 1]⟩
abbrev S1x1 : Shape := ⟨2, ![1, 1]⟩
abbrev S1x128 : Shape := ⟨2, ![1, 128]⟩
abbrev S1x1x128 : Shape := ⟨3, ![1, 1, 128]⟩
abbrev S1x1x1x128x128 : Shape := ⟨5, ![1, 1, 1, 128, 128]⟩
abbrev S8x2x64 : Shape := ⟨3, ![8, 2, 64]⟩
abbrev S8x2x64x1 : Shape := ⟨4, ![8, 2, 64, 1]⟩
abbrev S8x64x1x1024 : Shape := ⟨4, ![8, 64, 1, 1024]⟩
abbrev S1x128x512 : Shape := ⟨3, ![1, 128, 512]⟩
abbrev S1x1x1x512 : Shape := ⟨4, ![1, 1, 1, 512]⟩
abbrev S1x8192x128 : Shape := ⟨3, ![1, 8192, 128]⟩
abbrev S1x1x64x128x128 : Shape := ⟨5, ![1, 1, 64, 128, 128]⟩
abbrev S1x1x64x1 : Shape := ⟨4, ![1, 1, 64, 1]⟩
abbrev S4224x512 : Shape := ⟨2, ![4224, 512]⟩
abbrev S128x512 : Shape := ⟨2, ![128, 512]⟩
abbrev S1x512 : Shape := ⟨2, ![1, 512]⟩
abbrev S64x512 : Shape := ⟨2, ![64, 512]⟩
abbrev S512x128 : Shape := ⟨2, ![512, 128]⟩
abbrev S512 : Shape := ⟨1, ![512]⟩
abbrev S64x1 : Shape := ⟨2, ![64, 1]⟩
abbrev S64x128 : Shape := ⟨2, ![64, 128]⟩
abbrev S64 : Shape := ⟨1, ![64]⟩

abbrev nBuf : Space → Nat
  | .hbm => 17
  | .vmem => 44
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x256, .bf16⟩
  | .hbm, ⟨2, _⟩ => ⟨S8x8192x256, .bf16⟩
  | .hbm, ⟨3, _⟩ => ⟨S8x8192x1024, .fp8e4m3⟩
  | .hbm, ⟨4, _⟩ => ⟨S8x64x8, .f32⟩
  | .hbm, ⟨5, _⟩ => ⟨S8x64x1024, .f32⟩
  | .hbm, ⟨6, _⟩ => ⟨S8x8192x256, .fp8e4m3⟩
  | .hbm, ⟨7, _⟩ => ⟨S8x64x2, .f32⟩
  | .hbm, ⟨8, _⟩ => ⟨S8x8192x256, .fp8e4m3⟩
  | .hbm, ⟨9, _⟩ => ⟨S8x64x2, .f32⟩
  | .hbm, ⟨10, _⟩ => ⟨S8x2x64x128x128, .fp8e4m3⟩
  | .hbm, ⟨11, _⟩ => ⟨S8x2x64, .f32⟩
  | .hbm, ⟨12, _⟩ => ⟨S8x2x64x1, .f32⟩
  | .hbm, ⟨13, _⟩ => ⟨S8x2x64, .f32⟩
  | .hbm, ⟨14, _⟩ => ⟨S8x2x64x1, .f32⟩
  | .hbm, ⟨15, _⟩ => ⟨S8x64x1x1024, .f32⟩
  | .hbm, ⟨16, _⟩ => ⟨S8x8192x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x1024, .fp8e4m3⟩
  | .local _ .vmem, ⟨7, _⟩ => ⟨S1x1024x1024, .fp8e4m3⟩
  | .local _ .vmem, ⟨8, _⟩ => ⟨S1x8x8, .f32⟩
  | .local _ .vmem, ⟨9, _⟩ => ⟨S1x8x8, .f32⟩
  | .local _ .vmem, ⟨10, _⟩ => ⟨S1x8x1024, .f32⟩
  | .local _ .vmem, ⟨11, _⟩ => ⟨S1x8x1024, .f32⟩
  | .local _ .vmem, ⟨12, _⟩ => ⟨S1x1024x256, .fp8e4m3⟩
  | .local _ .vmem, ⟨13, _⟩ => ⟨S1x1024x256, .fp8e4m3⟩
  | .local _ .vmem, ⟨14, _⟩ => ⟨S1x8x2, .f32⟩
  | .local _ .vmem, ⟨15, _⟩ => ⟨S1x8x2, .f32⟩
  | .local _ .vmem, ⟨16, _⟩ => ⟨S1x1024x256, .fp8e4m3⟩
  | .local _ .vmem, ⟨17, _⟩ => ⟨S1x1024x256, .fp8e4m3⟩
  | .local _ .vmem, ⟨18, _⟩ => ⟨S1x8x2, .f32⟩
  | .local _ .vmem, ⟨19, _⟩ => ⟨S1x8x2, .f32⟩
  | .local _ .vmem, ⟨20, _⟩ => ⟨S1x2x8x128x128, .fp8e4m3⟩
  | .local _ .vmem, ⟨21, _⟩ => ⟨S1x2x8x128x128, .fp8e4m3⟩
  | .local _ .vmem, ⟨22, _⟩ => ⟨S1x128x512, .fp8e4m3⟩
  | .local _ .vmem, ⟨23, _⟩ => ⟨S1x128x512, .fp8e4m3⟩
  | .local _ .vmem, ⟨24, _⟩ => ⟨S1x1x1x512, .f32⟩
  | .local _ .vmem, ⟨25, _⟩ => ⟨S1x1x1x512, .f32⟩
  | .local _ .vmem, ⟨26, _⟩ => ⟨S1x8192x128, .fp8e4m3⟩
  | .local _ .vmem, ⟨27, _⟩ => ⟨S1x8192x128, .fp8e4m3⟩
  | .local _ .vmem, ⟨28, _⟩ => ⟨S1x1x64x128x128, .fp8e4m3⟩
  | .local _ .vmem, ⟨29, _⟩ => ⟨S1x1x64x128x128, .fp8e4m3⟩
  | .local _ .vmem, ⟨30, _⟩ => ⟨S1x1x64x1, .f32⟩
  | .local _ .vmem, ⟨31, _⟩ => ⟨S1x1x64x1, .f32⟩
  | .local _ .vmem, ⟨32, _⟩ => ⟨S1x1x64x1, .f32⟩
  | .local _ .vmem, ⟨33, _⟩ => ⟨S1x1x64x1, .f32⟩
  | .local _ .vmem, ⟨34, _⟩ => ⟨S1x128x512, .bf16⟩
  | .local _ .vmem, ⟨35, _⟩ => ⟨S1x128x512, .bf16⟩
  | .local _ .vmem, ⟨36, _⟩ => ⟨S4224x512, .f32⟩
  | .local _ .vmem, ⟨37, _⟩ => ⟨S128x512, .f32⟩
  | .local _ .vmem, ⟨38, _⟩ => ⟨S1x512, .f32⟩
  | .local _ .vmem, ⟨39, _⟩ => ⟨S64x512, .f32⟩
  | .local _ .vmem, ⟨40, _⟩ => ⟨S64x512, .f32⟩
  | .local _ .vmem, ⟨41, _⟩ => ⟨S64x512, .f32⟩
  | .local _ .vmem, ⟨42, _⟩ => ⟨S64x512, .f32⟩
  | .local _ .vmem, ⟨43, _⟩ => ⟨S64x512, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_scratch0 : Ref sig .tc := ⟨.vmem, 36, rfl⟩
abbrev cc1_scratch1 : Ref sig .tc := ⟨.vmem, 37, rfl⟩
abbrev cc1_scratch2 : Ref sig .tc := ⟨.vmem, 38, rfl⟩
abbrev cc1_scratch3 : Ref sig .tc := ⟨.vmem, 39, rfl⟩
abbrev cc1_scratch4 : Ref sig .tc := ⟨.vmem, 40, rfl⟩
abbrev cc1_scratch5 : Ref sig .tc := ⟨.vmem, 41, rfl⟩
abbrev cc1_scratch6 : Ref sig .tc := ⟨.vmem, 42, rfl⟩
abbrev cc1_scratch7 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x8x128x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨3, ![8, 2, 64], ![false, false, false]⟩

@[reducible] def k1_t1_loop (i : grid1.Coords) : Scf.Loop 32 :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_6 : BitVec 32 := 1#32
  let v28 : BitVec 32 := Scalar.addi arg2 c1_i32_6
  let v29 : BitVec 32 := Scalar.subi v28 v1
  let c1_i32_8 : BitVec 32 := 1#32
  let v31 : BitVec 32 := Scalar.divsi v29 c1_i32_8
  let v32 : BitVec 32 := Scalar.muli v31 c1_i32_8
  let v33 : BitVec 32 := Scalar.addi v1 v32
  let c1_i32_9 : BitVec 32 := 1#32
  ⟨v1, v33, c1_i32_9⟩
def k1_off1 (i : grid1.Coords) (k1_t1 : Fin (k1_t1_loop i).trips) : Fin 3 → Nat :=
  let c0_118 : Index := 0#32
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_9 : BitVec 32 := 1#32
  let arg18 : BitVec 32 := Scf.iv v1 c1_i32_9 k1_t1
  let c128_i32_117 : BitVec 32 := 128#32
  let v276 : BitVec 32 := Scalar.muli arg18 c128_i32_117
  let v277 : Index := Scalar.indexCast v276
  let c0_119 : Index := 0#32
  ![0, v277.toNat, 0]
def k1_off2 (i : grid1.Coords) (k1_t1 : Fin (k1_t1_loop i).trips) : Fin 2 → Nat :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_9 : BitVec 32 := 1#32
  let arg18 : BitVec 32 := Scf.iv v1 c1_i32_9 k1_t1
  let v292 : BitVec 32 := Scalar.subi arg18 v1
  let c128_i32_124 : BitVec 32 := 128#32
  let v293 : BitVec 32 := Scalar.muli v292 c128_i32_124
  let v294 : Index := Scalar.indexCast v293
  let c0_125 : Index := 0#32
  ![v294.toNat, 0]
def k1_off3 (i : grid1.Coords) (k1_t1 : Fin (k1_t1_loop i).trips) : Fin 2 → Nat :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_9 : BitVec 32 := 1#32
  let arg18 : BitVec 32 := Scf.iv v1 c1_i32_9 k1_t1
  let v300 : Index := Scalar.indexCast arg18
  let c0_127 : Index := 0#32
  ![v300.toNat, 0]
@[reducible] def k1_t2_loop (i : grid1.Coords) : Scf.Loop 32 :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_6 : BitVec 32 := 1#32
  let v28 : BitVec 32 := Scalar.addi arg2 c1_i32_6
  let v29 : BitVec 32 := Scalar.subi v28 v1
  let c1_i32_8 : BitVec 32 := 1#32
  let v31 : BitVec 32 := Scalar.divsi v29 c1_i32_8
  let v32 : BitVec 32 := Scalar.muli v31 c1_i32_8
  let v33 : BitVec 32 := Scalar.addi v1 v32
  let v30 : BitVec 32 := Scalar.addi v1 v29
  let c1_i32_10 : BitVec 32 := 1#32
  ⟨v33, v30, c1_i32_10⟩
def k1_off4 (i : grid1.Coords) (k1_t2 : Fin (k1_t2_loop i).trips) : Fin 3 → Nat :=
  let c0_118 : Index := 0#32
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_6 : BitVec 32 := 1#32
  let v28 : BitVec 32 := Scalar.addi arg2 c1_i32_6
  let v29 : BitVec 32 := Scalar.subi v28 v1
  let c1_i32_8 : BitVec 32 := 1#32
  let v31 : BitVec 32 := Scalar.divsi v29 c1_i32_8
  let v32 : BitVec 32 := Scalar.muli v31 c1_i32_8
  let v33 : BitVec 32 := Scalar.addi v1 v32
  let c1_i32_10 : BitVec 32 := 1#32
  let arg18 : BitVec 32 := Scf.iv v33 c1_i32_10 k1_t2
  let c128_i32_117 : BitVec 32 := 128#32
  let v276 : BitVec 32 := Scalar.muli arg18 c128_i32_117
  let v277 : Index := Scalar.indexCast v276
  let c0_119 : Index := 0#32
  ![0, v277.toNat, 0]
def k1_off5 (i : grid1.Coords) (k1_t2 : Fin (k1_t2_loop i).trips) : Fin 2 → Nat :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_6 : BitVec 32 := 1#32
  let v28 : BitVec 32 := Scalar.addi arg2 c1_i32_6
  let v29 : BitVec 32 := Scalar.subi v28 v1
  let c1_i32_8 : BitVec 32 := 1#32
  let v31 : BitVec 32 := Scalar.divsi v29 c1_i32_8
  let v32 : BitVec 32 := Scalar.muli v31 c1_i32_8
  let v33 : BitVec 32 := Scalar.addi v1 v32
  let c1_i32_10 : BitVec 32 := 1#32
  let arg18 : BitVec 32 := Scf.iv v33 c1_i32_10 k1_t2
  let v292 : BitVec 32 := Scalar.subi arg18 v1
  let c128_i32_124 : BitVec 32 := 128#32
  let v293 : BitVec 32 := Scalar.muli v292 c128_i32_124
  let v294 : Index := Scalar.indexCast v293
  let c0_125 : Index := 0#32
  ![v294.toNat, 0]
def k1_off6 (i : grid1.Coords) (k1_t2 : Fin (k1_t2_loop i).trips) : Fin 2 → Nat :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_6 : BitVec 32 := 1#32
  let v28 : BitVec 32 := Scalar.addi arg2 c1_i32_6
  let v29 : BitVec 32 := Scalar.subi v28 v1
  let c1_i32_8 : BitVec 32 := 1#32
  let v31 : BitVec 32 := Scalar.divsi v29 c1_i32_8
  let v32 : BitVec 32 := Scalar.muli v31 c1_i32_8
  let v33 : BitVec 32 := Scalar.addi v1 v32
  let c1_i32_10 : BitVec 32 := 1#32
  let arg18 : BitVec 32 := Scf.iv v33 c1_i32_10 k1_t2
  let v300 : Index := Scalar.indexCast arg18
  let c0_127 : Index := 0#32
  ![v300.toNat, 0]
@[reducible] def k1_t3_loop (i : grid1.Coords) : Scf.Loop 32 :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_96 : BitVec 32 := 1#32
  let v242 : BitVec 32 := Scalar.addi arg2 c1_i32_96
  let v243 : BitVec 32 := Scalar.subi v242 v1
  let c1_i32_98 : BitVec 32 := 1#32
  let v245 : BitVec 32 := Scalar.divsi v243 c1_i32_98
  let v246 : BitVec 32 := Scalar.muli v245 c1_i32_98
  let v247 : BitVec 32 := Scalar.addi v1 v246
  let c1_i32_99 : BitVec 32 := 1#32
  ⟨v1, v247, c1_i32_99⟩
def k1_off7 (i : grid1.Coords) (k1_t3 : Fin (k1_t3_loop i).trips) : Fin 2 → Nat :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_99 : BitVec 32 := 1#32
  let arg18 : BitVec 32 := Scf.iv v1 c1_i32_99 k1_t3
  let v276 : BitVec 32 := Scalar.subi arg18 v1
  let c128_i32_117 : BitVec 32 := 128#32
  let v277 : BitVec 32 := Scalar.muli v276 c128_i32_117
  let v278 : Index := Scalar.indexCast v277
  let c0_118 : Index := 0#32
  ![v278.toNat, 0]
def k1_off8 (i : grid1.Coords) (k1_t3 : Fin (k1_t3_loop i).trips) : Fin 2 → Nat :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_99 : BitVec 32 := 1#32
  let arg18 : BitVec 32 := Scf.iv v1 c1_i32_99 k1_t3
  let v280 : Index := Scalar.indexCast arg18
  let c0_119 : Index := 0#32
  ![v280.toNat, 0]
def k1_off9 (i : grid1.Coords) (k1_t3 : Fin (k1_t3_loop i).trips) : Fin 5 → Nat :=
  let c0_129 : Index := 0#32
  let c0_130 : Index := 0#32
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_99 : BitVec 32 := 1#32
  let arg18 : BitVec 32 := Scf.iv v1 c1_i32_99 k1_t3
  let v304 : Index := Scalar.indexCast arg18
  let c0_131 : Index := 0#32
  let c0_132 : Index := 0#32
  ![0, 0, v304.toNat, 0, 0]
@[reducible] def k1_t4_loop (i : grid1.Coords) : Scf.Loop 32 :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_96 : BitVec 32 := 1#32
  let v242 : BitVec 32 := Scalar.addi arg2 c1_i32_96
  let v243 : BitVec 32 := Scalar.subi v242 v1
  let c1_i32_98 : BitVec 32 := 1#32
  let v245 : BitVec 32 := Scalar.divsi v243 c1_i32_98
  let v246 : BitVec 32 := Scalar.muli v245 c1_i32_98
  let v247 : BitVec 32 := Scalar.addi v1 v246
  let v244 : BitVec 32 := Scalar.addi v1 v243
  let c1_i32_100 : BitVec 32 := 1#32
  ⟨v247, v244, c1_i32_100⟩
def k1_off10 (i : grid1.Coords) (k1_t4 : Fin (k1_t4_loop i).trips) : Fin 2 → Nat :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_96 : BitVec 32 := 1#32
  let v242 : BitVec 32 := Scalar.addi arg2 c1_i32_96
  let v243 : BitVec 32 := Scalar.subi v242 v1
  let c1_i32_98 : BitVec 32 := 1#32
  let v245 : BitVec 32 := Scalar.divsi v243 c1_i32_98
  let v246 : BitVec 32 := Scalar.muli v245 c1_i32_98
  let v247 : BitVec 32 := Scalar.addi v1 v246
  let c1_i32_100 : BitVec 32 := 1#32
  let arg18 : BitVec 32 := Scf.iv v247 c1_i32_100 k1_t4
  let v276 : BitVec 32 := Scalar.subi arg18 v1
  let c128_i32_117 : BitVec 32 := 128#32
  let v277 : BitVec 32 := Scalar.muli v276 c128_i32_117
  let v278 : Index := Scalar.indexCast v277
  let c0_118 : Index := 0#32
  ![v278.toNat, 0]
def k1_off11 (i : grid1.Coords) (k1_t4 : Fin (k1_t4_loop i).trips) : Fin 2 → Nat :=
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_96 : BitVec 32 := 1#32
  let v242 : BitVec 32 := Scalar.addi arg2 c1_i32_96
  let v243 : BitVec 32 := Scalar.subi v242 v1
  let c1_i32_98 : BitVec 32 := 1#32
  let v245 : BitVec 32 := Scalar.divsi v243 c1_i32_98
  let v246 : BitVec 32 := Scalar.muli v245 c1_i32_98
  let v247 : BitVec 32 := Scalar.addi v1 v246
  let c1_i32_100 : BitVec 32 := 1#32
  let arg18 : BitVec 32 := Scf.iv v247 c1_i32_100 k1_t4
  let v280 : Index := Scalar.indexCast arg18
  let c0_119 : Index := 0#32
  ![v280.toNat, 0]
def k1_off12 (i : grid1.Coords) (k1_t4 : Fin (k1_t4_loop i).trips) : Fin 5 → Nat :=
  let c0_129 : Index := 0#32
  let c0_130 : Index := 0#32
  let arg2 : BitVec 32 := BitVec.ofNat 32 (i 2).val
  let c32_i32 : BitVec 32 := 32#32
  let v0 : BitVec 32 := Scalar.subi arg2 c32_i32
  let c0_i32 : BitVec 32 := 0#32
  let v1 : BitVec 32 := Scalar.maxsi v0 c0_i32
  let c1_i32_96 : BitVec 32 := 1#32
  let v242 : BitVec 32 := Scalar.addi arg2 c1_i32_96
  let v243 : BitVec 32 := Scalar.subi v242 v1
  let c1_i32_98 : BitVec 32 := 1#32
  let v245 : BitVec 32 := Scalar.divsi v243 c1_i32_98
  let v246 : BitVec 32 := Scalar.muli v245 c1_i32_98
  let v247 : BitVec 32 := Scalar.addi v1 v246
  let c1_i32_100 : BitVec 32 := 1#32
  let arg18 : BitVec 32 := Scf.iv v247 c1_i32_100 k1_t4
  let v304 : Index := Scalar.indexCast arg18
  let c0_131 : Index := 0#32
  let c0_132 : Index := 0#32
  ![0, 0, v304.toNat, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x128x512 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x8192x128 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x64x128x128 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1x64x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x128x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "ln2" => some ((Real.log 2 : ℝ) : EReal)
  | "sm_log2e" => some (((Real.sqrt 128)⁻¹ * (Real.log 2)⁻¹ : ℝ) : EReal)
  | _ => none
-- ==== ReferenceIdeal.lean ====
abbrev S8x8192x1024 : Shape := ⟨3, ![8, 8192, 1024]⟩
abbrev S8x8192x256 : Shape := ⟨3, ![8, 8192, 256]⟩
abbrev S8x64x128x2x4x128 : Shape := ⟨6, ![8, 64, 128, 2, 4, 128]⟩
abbrev S8x64x1x2x4x1 : Shape := ⟨6, ![8, 64, 1, 2, 4, 1]⟩
abbrev S8x64x128x2x128 : Shape := ⟨5, ![8, 64, 128, 2, 128]⟩
abbrev S8x64x1x2x1 : Shape := ⟨5, ![8, 64, 1, 2, 1]⟩
abbrev S8x64x2x4 : Shape := ⟨4, ![8, 64, 2, 4]⟩
abbrev S8x64x2 : Shape := ⟨3, ![8, 64, 2]⟩
abbrev S8x2x64x128x64x128x4 : Shape := ⟨7, ![8, 2, 64, 128, 64, 128, 4]⟩
abbrev S8x2x4x64x128x64x128 : Shape := ⟨7, ![8, 2, 4, 64, 128, 64, 128]⟩
abbrev S8x2x4x64x1x1 : Shape := ⟨6, ![8, 2, 4, 64, 1, 1]⟩
abbrev S8x2x4x64x1x1x1 : Shape := ⟨7, ![8, 2, 4, 64, 1, 1, 1]⟩
abbrev S8x2x1x64x1 : Shape := ⟨5, ![8, 2, 1, 64, 1]⟩
abbrev S8x2x1x1x1x64x1 : Shape := ⟨7, ![8, 2, 1, 1, 1, 64, 1]⟩
abbrev S8x2x4x64x1x64x1 : Shape := ⟨7, ![8, 2, 4, 64, 1, 64, 1]⟩
abbrev S_ : Shape := ⟨0, ![]⟩
abbrev S64x128x64x128 : Shape := ⟨4, ![64, 128, 64, 128]⟩
abbrev S8x2x4x64x128 : Shape := ⟨5, ![8, 2, 4, 64, 128]⟩
abbrev S8x2x4x64x128x1x1 : Shape := ⟨7, ![8, 2, 4, 64, 128, 1, 1]⟩
abbrev S8x2x4x64x64 : Shape := ⟨5, ![8, 2, 4, 64, 64]⟩
abbrev S8x2x64x128x4x64x128 : Shape := ⟨7, ![8, 2, 64, 128, 4, 64, 128]⟩
abbrev S8x2x4x64x128x128 : Shape := ⟨6, ![8, 2, 4, 64, 128, 128]⟩
abbrev S8x2x4x64x128x1 : Shape := ⟨6, ![8, 2, 4, 64, 128, 1]⟩
abbrev S8x64x8 : Shape := ⟨3, ![8, 64, 8]⟩

abbrev nBuf : Space → Nat
  | .hbm => 127
  | .vmem => 12
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x256, .bf16⟩
  | .hbm, ⟨2, _⟩ => ⟨S8x8192x256, .bf16⟩
  | .hbm, ⟨3, _⟩ => ⟨S8x64x128x2x4x128, .fp8e4m3⟩
  | .hbm, ⟨4, _⟩ => ⟨S8x64x1x2x4x1, .f32⟩
  | .hbm, ⟨5, _⟩ => ⟨S8x64x128x2x128, .fp8e4m3⟩
  | .hbm, ⟨6, _⟩ => ⟨S8x64x1x2x1, .f32⟩
  | .hbm, ⟨7, _⟩ => ⟨S8x64x128x2x128, .fp8e4m3⟩
  | .hbm, ⟨8, _⟩ => ⟨S8x64x1x2x1, .f32⟩
  | .hbm, ⟨9, _⟩ => ⟨S8x64x128x2x4x128, .f32⟩
  | .hbm, ⟨10, _⟩ => ⟨S8x64x128x2x128, .f32⟩
  | .hbm, ⟨11, _⟩ => ⟨S8x64x128x2x128, .f32⟩
  | .hbm, ⟨12, _⟩ => ⟨S8x2x64x128x64x128x4, .f32⟩
  | .hbm, ⟨13, _⟩ => ⟨S8x2x4x64x128x64x128, .f32⟩
  | .hbm, ⟨14, _⟩ => ⟨S8x2x4x64x1x1, .f32⟩
  | .hbm, ⟨15, _⟩ => ⟨S8x2x4x64x1x1x1, .f32⟩
  | .hbm, ⟨16, _⟩ => ⟨S8x2x1x64x1, .f32⟩
  | .hbm, ⟨17, _⟩ => ⟨S8x2x1x1x1x64x1, .f32⟩
  | .hbm, ⟨18, _⟩ => ⟨S8x2x1x64x1, .f32⟩
  | .hbm, ⟨19, _⟩ => ⟨S8x2x1x1x1x64x1, .f32⟩
  | .hbm, ⟨20, _⟩ => ⟨S8x2x4x64x1x64x1, .f32⟩
  | .hbm, ⟨21, _⟩ => ⟨S8x2x4x64x1x64x1, .f32⟩
  | .hbm, ⟨22, _⟩ => ⟨S8x2x4x64x1x64x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x2x4x64x1x64x1, .f32⟩
  | .hbm, ⟨28, _⟩ => ⟨S8x2x4x64x1x64x1, .f32⟩
  | .hbm, ⟨29, _⟩ => ⟨S8x2x4x64x128x64x128, .f32⟩
  | .hbm, ⟨30, _⟩ => ⟨S8x2x4x64x128x64x128, .f32⟩
  | .hbm, ⟨31, _⟩ => ⟨S64x128x64x128, .i32⟩
  | .hbm, ⟨32, _⟩ => ⟨S_, .i32⟩
  | .hbm, ⟨33, _⟩ => ⟨S64x128x64x128, .i32⟩
  | .hbm, ⟨34, _⟩ => ⟨S64x128x64x128, .i32⟩
  | .hbm, ⟨35, _⟩ => ⟨S64x128x64x128, .i32⟩
  | .hbm, ⟨36, _⟩ => ⟨S64x128x64x128, .i32⟩
  | .hbm, ⟨37, _⟩ => ⟨S64x128x64x128, .i32⟩
  | .hbm, ⟨38, _⟩ => ⟨S_, .i32⟩
  | .hbm, ⟨39, _⟩ => ⟨S64x128x64x128, .i32⟩
  | .hbm, ⟨40, _⟩ => ⟨S64x128x64x128, .i32⟩
  | .hbm, ⟨41, _⟩ => ⟨S64x128x64x128, .i32⟩
  | .hbm, ⟨42, _⟩ => ⟨S64x128x64x128, .i32⟩
  | .hbm, ⟨43, _⟩ => ⟨S64x128x64x128, .i32⟩
  | .hbm, ⟨44, _⟩ => ⟨S_, .i32⟩
  | .hbm, ⟨45, _⟩ => ⟨S64x128x64x128, .i32⟩
  | .hbm, ⟨46, _⟩ => ⟨S64x128x64x128, .i1⟩
  | .hbm, ⟨47, _⟩ => ⟨S_, .i32⟩
  | .hbm, ⟨48, _⟩ => ⟨S64x128x64x128, .i32⟩
  | .hbm, ⟨49, _⟩ => ⟨S64x128x64x128, .i1⟩
  | .hbm, ⟨50, _⟩ => ⟨S64x128x64x128, .i1⟩
  | .hbm, ⟨51, _⟩ => ⟨S_, .f32⟩
  | .hbm, ⟨52, _⟩ => ⟨S_, .f32⟩
  | .hbm, ⟨53, _⟩ => ⟨S8x2x4x64x128x64x128, .i1⟩
  | .hbm, ⟨54, _⟩ => ⟨S8x2x4x64x128x64x128, .f32⟩
  | .hbm, ⟨55, _⟩ => ⟨S8x2x4x64x128x64x128, .f32⟩
  | .hbm, ⟨56, _⟩ => ⟨S_, .f32⟩
  | .hbm, ⟨57, _⟩ => ⟨S8x2x4x64x128, .f32⟩
  | .hbm, ⟨58, _⟩ => ⟨S8x2x4x64x128x1x1, .f32⟩
  | .hbm, ⟨59, _⟩ => ⟨S8x2x4x64x128x64x128, .f32⟩
  | .hbm, ⟨60, _⟩ => ⟨S8x2x4x64x128x64x128, .f32⟩
  | .hbm, ⟨61, _⟩ => ⟨S8x2x4x64x128x64x128, .f32⟩
  | .hbm, ⟨62, _⟩ => ⟨S_, .f32⟩
  | .hbm, ⟨63, _⟩ => ⟨S8x2x4x64x128, .f32⟩
  | .hbm, ⟨64, _⟩ => ⟨S_, .f32⟩
  | .hbm, ⟨65, _⟩ => ⟨S_, .f32⟩
  | .hbm, ⟨66, _⟩ => ⟨S8x2x4x64x128x64x128, .f32⟩
  | .hbm, ⟨67, _⟩ => ⟨S_, .f32⟩
  | .hbm, ⟨68, _⟩ => ⟨S8x2x4x64x64, .f32⟩
  | .hbm, ⟨69, _⟩ => ⟨S8x2x4x64x1x64x1, .f32⟩
  | .hbm, ⟨70, _⟩ => ⟨S_, .f32⟩
  | .hbm, ⟨71, _⟩ => ⟨S8x2x4x64x1x64x1, .f32⟩
  | .hbm, ⟨72, _⟩ => ⟨S8x2x4x64x1x64x1, .i1⟩
  | .hbm, ⟨73, _⟩ => ⟨S_, .f32⟩
  | .hbm, ⟨74, _⟩ => ⟨S8x2x4x64x1x64x1, .f32⟩
  | .hbm, ⟨75, _⟩ => ⟨S8x2x4x64x1x64x1, .f32⟩
  | .hbm, ⟨76, _⟩ => ⟨S8x2x4x64x1x64x1, .f32⟩
  | .hbm, ⟨77, _⟩ => ⟨S8x2x4x64x1x64x1, .f32⟩
  | .hbm, ⟨78, _⟩ => ⟨S8x2x4x64x1x64x1, .f32⟩
  | .hbm, ⟨79, _⟩ => ⟨S8x2x4x64x1x64x1, .f32⟩
  | .hbm, ⟨80, _⟩ => ⟨S8x2x4x64x1x64x1, .i32⟩
  | .hbm, ⟨81, _⟩ => ⟨S_, .i32⟩
  | .hbm, ⟨82, _⟩ => ⟨S8x2x4x64x1x64x1, .i32⟩
  | .hbm, ⟨83, _⟩ => ⟨S8x2x4x64x1x64x1, .i32⟩
  | .hbm, ⟨84, _⟩ => ⟨S_, .i32⟩
  | .hbm, ⟨85, _⟩ => ⟨S_, .i32⟩
  | .hbm, ⟨86, _⟩ => ⟨S8x2x4x64x1x64x1, .i32⟩
  | .hbm, ⟨87, _⟩ => ⟨S8x2x4x64x1x64x1, .i32⟩
  | .hbm, ⟨88, _⟩ => ⟨S8x2x4x64x1x64x1, .i32⟩
  | .hbm, ⟨89, _⟩ => ⟨S8x2x4x64x1x64x1, .f32⟩
  | .hbm, ⟨90, _⟩ => ⟨S8x2x4x64x1x64x1, .f32⟩
  | .hbm, ⟨91, _⟩ => ⟨S8x2x4x64x1x64x1, .f32⟩
  | .hbm, ⟨92, _⟩ => ⟨S8x2x4x64x1x64x1, .f32⟩
  | .hbm, ⟨93, _⟩ => ⟨S8x2x4x64x128x64x128, .f32⟩
  | .hbm, ⟨94, _⟩ => ⟨S8x2x4x64x128x64x128, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S8x2x4x64x128x64x128, .f32⟩
  | .hbm, ⟨99, _⟩ => ⟨S8x2x4x64x128x64x128, .f32⟩
  | .hbm, ⟨100, _⟩ => ⟨S_, .f32⟩
  | .hbm, ⟨101, _⟩ => ⟨S8x2x4x64x128x64x128, .f32⟩
  | .hbm, ⟨102, _⟩ => ⟨S8x2x4x64x128x64x128, .f32⟩
  | .hbm, ⟨103, _⟩ => ⟨S8x2x4x64x1x64x1, .f32⟩
  | .hbm, ⟨104, _⟩ => ⟨S8x2x4x64x1x64x1, .f32⟩
  | .hbm, ⟨105, _⟩ => ⟨S8x2x4x64x1x64x1, .f32⟩
  | .hbm, ⟨106, _⟩ => ⟨S8x2x4x64x1x64x1, .f32⟩
  | .hbm, ⟨107, _⟩ => ⟨S8x2x64x128x4x64x128, .f32⟩
  | .hbm, ⟨108, _⟩ => ⟨S8x2x4x64x128x64x128, .f32⟩
  | .hbm, ⟨109, _⟩ => ⟨S8x2x4x64x1x64x1, .f32⟩
  | .hbm, ⟨110, _⟩ => ⟨S8x2x4x64x1x64x1, .f32⟩
  | .hbm, ⟨111, _⟩ => ⟨S8x2x4x64x128x64x128, .f32⟩
  | .hbm, ⟨112, _⟩ => ⟨S8x2x4x64x128x64x128, .f32⟩
  | .hbm, ⟨113, _⟩ => ⟨S_, .f32⟩
  | .hbm, ⟨114, _⟩ => ⟨S8x2x4x64x128x128, .f32⟩
  | .hbm, ⟨115, _⟩ => ⟨S8x2x4x64x128x1, .f32⟩
  | .hbm, ⟨116, _⟩ => ⟨S8x2x4x64x128x128, .f32⟩
  | .hbm, ⟨117, _⟩ => ⟨S8x2x4x64x128x128, .f32⟩
  | .hbm, ⟨118, _⟩ => ⟨S8x64x128x2x4x128, .f32⟩
  | .hbm, ⟨119, _⟩ => ⟨S8x8192x1024, .f32⟩
  | .hbm, ⟨120, _⟩ => ⟨S8x8192x1024, .bf16⟩
  | .hbm, ⟨121, _⟩ => ⟨S8x8192x1024, .fp8e4m3⟩
  | .hbm, ⟨122, _⟩ => ⟨S8x64x8, .f32⟩
  | .hbm, ⟨123, _⟩ => ⟨S8x8192x256, .fp8e4m3⟩
  | .hbm, ⟨124, _⟩ => ⟨S8x64x2, .f32⟩
  | .hbm, ⟨125, _⟩ => ⟨S8x8192x256, .fp8e4m3⟩
  | .hbm, ⟨126, _⟩ => ⟨S8x64x2, .f32⟩
  | .local _ .vmem, ⟨0, _⟩ => ⟨S8x8192x1024, .bf16⟩
  | .local _ .vmem, ⟨1, _⟩ => ⟨S8x8192x256, .bf16⟩
  | .local _ .vmem, ⟨2, _⟩ => ⟨S8x8192x256, .bf16⟩
  | .local _ .vmem, ⟨3, _⟩ => ⟨S8x64x128x2x4x128, .fp8e4m3⟩
  | .local _ .vmem, ⟨4, _⟩ => ⟨S8x64x1x2x4x1, .f32⟩
  | .local _ .vmem, ⟨5, _⟩ => ⟨S8x64x128x2x128, .fp8e4m3⟩
  | .local _ .vmem, ⟨6, _⟩ => ⟨S8x64x1x2x1, .f32⟩
  | .local _ .vmem, ⟨7, _⟩ => ⟨S8x64x128x2x128, .fp8e4m3⟩
  | .local _ .vmem, ⟨8, _⟩ => ⟨S8x64x1x2x1, .f32⟩
  | .local _ .vmem, ⟨9, _⟩ => ⟨S8x64x128x2x4x128, .f32⟩
  | .local _ .vmem, ⟨10, _⟩ => ⟨S8x64x128x2x128, .f32⟩
  | .local _ .vmem, ⟨11, _⟩ => ⟨S8x64x128x2x128, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_call1_v0 : Ref sig .tc := ⟨.hbm, 85, rfl⟩
abbrev main_call1_v1 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_cst_14 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_15 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S8x8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64x128x2x4x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x64x1x2x4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x64x128x2x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x64x1x2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x64x128x2x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x64x1x2x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x64x128x2x4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x64x128x2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x64x128x2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Kernel.QuantDefs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel's values: tile by tile -/

/-- The pieces `P 0, …, P (n-1)`, the latest first. -/
def tiles {α : Type _} (P : ℕ → α) : ℕ → List α
  | 0 => []
  | n + 1 => P n :: tiles P n

theorem mem_tiles {α : Type _} (P : ℕ → α) : ∀ {N n : ℕ}, n < N → P n ∈ tiles P N
  | 0, _, h => absurd h (Nat.not_lt_zero _)
  | N + 1, n, h => by
    rcases Nat.lt_succ_iff_lt_or_eq.mp h with h | rfl
    · exact List.mem_cons_of_mem _ (mem_tiles P h)
    · exact List.mem_cons_self

theorem exists_of_mem_tiles {α : Type _} (P : ℕ → α) : ∀ {N : ℕ} {p : α}, p ∈ tiles P N → ∃ n, n < N ∧ P n = p
  | 0, _, h => absurd h List.not_mem_nil
  | N + 1, p, h => by
    rcases List.mem_cons.mp h with rfl | h
    · exact ⟨N, Nat.lt_succ_self N, rfl⟩
    · obtain ⟨n, hn, e⟩ := exists_of_mem_tiles P h
      exact ⟨n, Nat.lt_succ_of_lt hn, e⟩

/-- The codes of one tile, at the tile's shape, and the tile's scale. -/
abbrev qcode (v : Vec F S1x128x128 .bf16) : FVec F S1x128x128 .fp8e4m3 := k0_pay8 (k0_pay7 v)
abbrev qscale (v : Vec F S1x128x128 .bf16) : FVec F S1x1 .f32 := k0_pay6 v

/-- A tile's codes before the storage cast. -/
def qclip (v3 : Vec F S1x128x128 .bf16) : FVec F S128x128 .f32 :=
  have v28 : IVec S1x1 32 := broadcast S1x1 0#32
  have v29 : IVec S1x1 32 := subi v28 (k0_pay5 v3)
  have v30 : FVec F S1x1 .f32 := sitofp .f32 v29
  have v31 : FVec F S1x1 .f32 := exp2 v30
  have v32 : FVec F S128x128 .f32 := broadcastTo S128x128 v31 broadcasts_S1x1_S128x128
  have v33 : FVec F S128x128 .f32 := mulf (k0_pay4 v3) v32
  have cst_10 : F .f32 := Scalar.ofBits .f32 0xC3E00000#32
  have cst_11 : F .f32 := Scalar.ofBits .f32 0x43E00000#32
  have v34 : FVec F S128x128 .f32 := broadcast S128x128 cst_10
  have v35 : FVec F S128x128 .f32 := maximumf v34 v33
  have v36 : FVec F S128x128 .f32 := broadcast S128x128 cst_11
  have v37 : FVec F S128x128 .f32 := minimumf v36 v35
  v37

/-- A value tile's codes transposed. -/
def qcodeT (v : Vec F S1x128x128 .bf16) : FVec F S1x1x1x128x128 .fp8e4m3 :=
  shapeCast S1x1x1x128x128 (truncf .fp8e4m3 (transpose S128x128 [1, 0] (qclip v) transposes_S128x128_p1_0_S128x128) bitsLt_fp8e4m3_f32)
    shapeCasts_S128x128_S1x1x1x128x128

/-- One entry written into a table of eight rows and eight columns. -/
def put8 (t h : BitVec 32) (tab : FVec F S8x8 .f32) (s : FVec F S1x1 .f32) : FVec F S8x8 .f32 :=
  select (andi (cmpi .eq (iota .tc S8x8 32 [0] iota_S8x8_d0_w32) (broadcast S8x8 t))
      (cmpi .eq (iota .tc S8x8 32 [1] iota_S8x8_d1_w32) (broadcast S8x8 h)))
    (broadcastTo S8x8 (shapeCast S1x1 s shapeCasts_S1x1_S1x1) broadcasts_S1x1_S8x8) tab

/-- One entry written into a table of eight rows and two columns. -/
def put2 (t h : BitVec 32) (tab : FVec F S8x2 .f32) (s : FVec F S1x1 .f32) : FVec F S8x2 .f32 :=
  select (andi (cmpi .eq (iota .tc S8x2 32 [0] iota_S8x2_d0_w32) (broadcast S8x2 t))
      (cmpi .eq (iota .tc S8x2 32 [1] iota_S8x2_d1_w32) (broadcast S8x2 h)))
    (broadcastTo S8x2 (shapeCast S1x1 s shapeCasts_S1x1_S1x1) broadcasts_S1x1_S8x2) tab

/-- The first `n` entries of a table written in turn, row by row. -/
def chain8 (s : ℕ → FVec F S1x1 .f32) : ℕ → FVec F S8x8 .f32
  | 0 => k0_pay1
  | n + 1 => put8 (BitVec.ofNat 32 (n / 8)) (BitVec.ofNat 32 (n % 8)) (chain8 s n) (s n)
def chain2 (s : ℕ → FVec F S1x1 .f32) : ℕ → FVec F S8x2 .f32
  | 0 => k0_pay2
  | n + 1 => put2 (BitVec.ofNat 32 (n / 2)) (BitVec.ofNat 32 (n % 2)) (chain2 s n) (s n)

/-! Tile `n` of the query block is row `n / 8`, column `n % 8`; of the key or value block row `n / 2`, column `n % 2`. -/

abbrev rq (n : ℕ) : Rect S1x1024x1024 :=
  Rect.unit (s := S1x1024x1024) ![0, 128 * (n / 8 % 8), 128 * (n % 8)] S1x128x128.size
    (by intro a; fin_cases a <;> simp [Shape.size] <;> omega)
abbrev rl (n : ℕ) : Rect S1x8x1024 :=
  Rect.unit (s := S1x8x1024) ![0, n / 8 % 8, 128 * (n % 8)] S1x1x128.size
    (by intro a; fin_cases a <;> simp [Shape.size] <;> omega)
abbrev rk (n : ℕ) : Rect S1x1024x256 :=
  Rect.unit (s := S1x1024x256) ![0, 128 * (n / 2 % 8), 128 * (n % 2)] S1x128x128.size
    (by intro a; fin_cases a <;> simp [Shape.size] <;> omega)
abbrev rt (n : ℕ) : Rect S1x2x8x128x128 :=
  Rect.unit (s := S1x2x8x128x128) ![0, n % 2, n / 2 % 8, 0, 0] S1x1x1x128x128.size
    (by intro a; fin_cases a <;> simp [Shape.size] <;> omega)

def pq (x : Vec F S1x1024x1024 .bf16) (n : ℕ) : View.Piece (Elt F) S1x1024x1024 .fp8e4m3 := ⟨rq n, qcode (View.ld x (rq n))⟩
def pl (x : Vec F S1x1024x1024 .bf16) (n : ℕ) : View.Piece (Elt F) S1x8x1024 .f32 := ⟨rl n, k0_pay9 (qscale (View.ld x (rq n)))⟩
def pk (x : Vec F S1x1024x256 .bf16) (n : ℕ) : View.Piece (Elt F) S1x1024x256 .fp8e4m3 := ⟨rk n, qcode (View.ld x (rk n))⟩
def pt (x : Vec F S1x1024x256 .bf16) (n : ℕ) : View.Piece (Elt F) S1x2x8x128x128 .fp8e4m3 := ⟨rt n, qcodeT (View.ld x (rk n))⟩

def tabq (x : Vec F S1x1024x1024 .bf16) : FVec F S1x8x8 .f32 :=
  shapeCast S1x8x8 (chain8 (fun n => qscale (View.ld x (rq n))) 64) shapeCasts_S8x8_S1x8x8
def tabk (x : Vec F S1x1024x256 .bf16) : FVec F S1x8x2 .f32 :=
  shapeCast S1x8x2 (chain2 (fun n => qscale (View.ld x (rk n))) 16) shapeCasts_S8x2_S1x8x2

def codesq (x : Vec F S1x1024x1024 .bf16) : Vec F S1x1024x1024 .fp8e4m3 := View.canon (tiles (pq x) 64)
def lanesq (x : Vec F S1x1024x1024 .bf16) : Vec F S1x8x1024 .f32 := View.canon (tiles (pl x) 64)
def codesk (x : Vec F S1x1024x256 .bf16) : Vec F S1x1024x256 .fp8e4m3 := View.canon (tiles (pk x) 16)
def codest (x : Vec F S1x1024x256 .bf16) : Vec F S1x2x8x128x128 .fp8e4m3 := View.canon (tiles (pt x) 16)

theorem cover_q (x : Vec F S1x1024x1024 .bf16) (y : S1x1024x1024.Idx) : ∃ p ∈ tiles (pq x) 64, y ∈ p.1.set := by
  have h1 : (y 1).val < 1024 := (y 1).isLt
  have h2 : (y 2).val < 1024 := (y 2).isLt
  refine ⟨_, mem_tiles (pq x) (n := 8 * ((y 1).val / 128) + (y 2).val / 128) (by omega), ?_⟩
  show y ∈ (rq (8 * ((y 1).val / 128) + (y 2).val / 128)).set
  rw [Rect.mem_set_unit]
  intro a
  have h0 : (y 0).val < 1 := (y 0).isLt
  fin_cases a <;> simp [Shape.size] <;> omega
theorem cover_l (x : Vec F S1x1024x1024 .bf16) (y : S1x8x1024.Idx) : ∃ p ∈ tiles (pl x) 64, y ∈ p.1.set := by
  have h1 : (y 1).val < 8 := (y 1).isLt
  have h2 : (y 2).val < 1024 := (y 2).isLt
  refine ⟨_, mem_tiles (pl x) (n := 8 * (y 1).val + (y 2).val / 128) (by omega), ?_⟩
  show y ∈ (rl (8 * (y 1).val + (y 2).val / 128)).set
  rw [Rect.mem_set_unit]
  intro a
  have h0 : (y 0).val < 1 := (y 0).isLt
  fin_cases a <;> simp [Shape.size] <;> omega
theorem cover_k (x : Vec F S1x1024x256 .bf16) (y : S1x1024x256.Idx) : ∃ p ∈ tiles (pk x) 16, y ∈ p.1.set := by
  have h1 : (y 1).val < 1024 := (y 1).isLt
  have h2 : (y 2).val < 256 := (y 2).isLt
  refine ⟨_, mem_tiles (pk x) (n := 2 * ((y 1).val / 128) + (y 2).val / 128) (by omega), ?_⟩
  show y ∈ (rk (2 * ((y 1).val / 128) + (y 2).val / 128)).set
  rw [Rect.mem_set_unit]
  intro a
  have h0 : (y 0).val < 1 := (y 0).isLt
  fin_cases a <;> simp [Shape.size] <;> omega
theorem cover_t (x : Vec F S1x1024x256 .bf16) (y : S1x2x8x128x128.Idx) : ∃ p ∈ tiles (pt x) 16, y ∈ p.1.set := by
  have h1 : (y 1).val < 2 := (y 1).isLt
  have h2 : (y 2).val < 8 := (y 2).isLt
  have h3 : (y 3).val < 128 := (y 3).isLt
  have h4 : (y 4).val < 128 := (y 4).isLt
  refine ⟨_, mem_tiles (pt x) (n := 2 * (y 2).val + (y 1).val) (by omega), ?_⟩
  show y ∈ (rt (2 * (y 2).val + (y 1).val)).set
  rw [Rect.mem_set_unit]
  intro a
  have h0 : (y 0).val < 1 := (y 0).isLt
  fin_cases a <;> simp [Shape.size] <;> omega

/-- A table stored whole is read back whole. -/
theorem read_tab8 {κ : Kind} {sp : Space} (v : View sig κ sp S1x8x8 .f32) (f : v.ty.Contents (Elt F)) (w : FVec F S1x8x8 .f32) :
    v.read (Elt F) (v.writes (Elt F) f [⟨Rect.unit (s := S1x8x8) ![0, 0, 0] S1x8x8.size inb_S1x8x8_S1x8x8_0_0_0, w⟩]) = w := by
  rw [View.read_writes_eq_canon v f _ (View.cover_of_tiledL _ S1x8x8.size (by sl_kernel_rfl)), View.canon_unit_zero]
  funext a; fin_cases a <;> rfl
theorem read_tab2 {κ : Kind} {sp : Space} (v : View sig κ sp S1x8x2 .f32) (f : v.ty.Contents (Elt F)) (w : FVec F S1x8x2 .f32) :
    v.read (Elt F) (v.writes (Elt F) f [⟨Rect.unit (s := S1x8x2) ![0, 0, 0] S1x8x2.size inb_S1x8x2_S1x8x2_0_0_0, w⟩]) = w := by
  rw [View.read_writes_eq_canon v f _ (View.cover_of_tiledL _ S1x8x2.size (by sl_kernel_rfl)), View.canon_unit_zero]
  funext a; fin_cases a <;> rfl

end Cert.Kernel.Gen
-- ==== Proof.Kernel.Quant.lean ====
module

public import proofs.«01_k».proof.Proof.Gen.Kernel.Launch
public import proofs.«01_k».proof.Proof.Gen.Kernel.Skeleton
public import proofs.«01_k».proof.Proof.Gen.Kernel.Points
public import proofs.«01_k».proof.Proof.Kernel.QuantDefs
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quantise_qkv` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 4044000 in
/-- The kernel body on whole staging memrefs, the inputs' at read contents and the outputs' at anything, runs to the
    continuation holding the inputs' as they were and each output's at its value of the inputs'. -/
theorem sound_kernel0 (c : Dev nD) (E : Set ℕ) (i : grid0.Coords) (arg2 : Memref sig .tc .vmem S1x1024x1024 .bf16) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x1024 .fp8e4m3) (harg5 : arg5.IsWhole) (arg6 : Memref sig .tc .vmem S1x8x8 .f32) (harg6 : arg6.IsWhole) (arg7 : Memref sig .tc .vmem S1x8x1024 .f32) (harg7 : arg7.IsWhole) (arg8 : Memref sig .tc .vmem S1x1024x256 .fp8e4m3) (harg8 : arg8.IsWhole) (arg9 : Memref sig .tc .vmem S1x8x2 .f32) (harg9 : arg9.IsWhole) (arg10 : Memref sig .tc .vmem S1x1024x256 .fp8e4m3) (harg10 : arg10.IsWhole) (arg11 : Memref sig .tc .vmem S1x8x2 .f32) (harg11 : arg11.IsWhole) (arg12 : Memref sig .tc .vmem S1x2x8x128x128 .fp8e4m3) (harg12 : arg12.IsWhole)
    (x0 : Vec F S1x1024x1024 .bf16) (x1 : Vec F S1x1024x256 .bf16) (x2 : Vec F S1x1024x256 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare (codesq x0) ∗ owns (c : Thread nD τ) arg6 fullShare (tabq x0) ∗ owns (c : Thread nD τ) arg7 fullShare (lanesq x0) ∗ owns (c : Thread nD τ) arg8 fullShare (codesk x1) ∗ owns (c : Thread nD τ) arg9 fullShare (tabk x1) ∗ owns (c : Thread nD τ) arg10 fullShare (codesk x2) ∗ owns (c : Thread nD τ) arg11 fullShare (tabk x2) ∗ owns (c : Thread nD τ) arg12 fullShare (codest x2)) -∗ K ⟨⟩))
      ⊢ wp frame (wpE (defs₀ (F := F)) Variants.none c none) E (cc0_quantise_qkv i arg2 harg2 arg3 harg3 arg4 harg4 arg5 harg5 arg6 harg6 arg7 harg7 arg8 harg8 arg9 harg9 arg10 harg10 arg11 harg11 arg12 harg12) K := by
  simp only [cc0_quantise_qkv_eq_skeleton]; unfold cc0_quantise_qkv_skel
  simp only [k0_part126_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part127_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon arg5.view f3 (tiles (pq (arg2.view.read (Elt F) f0)) 64) (cover_q (arg2.view.read (Elt F) f0))
  isplitl [H4]
  · iexists _; isplitr
    swap; · iexact H4
    ipureintro
    exact read_tab8 arg6.view f4 (tabq (arg2.view.read (Elt F) f0))
  isplitl [H5]
  · iexists _; isplitr
    swap; · iexact H5
    ipureintro
    exact View.read_writes_eq_canon arg7.view f5 (tiles (pl (arg2.view.read (Elt F) f0)) 64) (cover_l (arg2.view.read (Elt F) f0))
  isplitl [H6]
  · iexists _; isplitr
    swap; · iexact H6
    ipureintro
    exact View.read_writes_eq_canon arg8.view f6 (tiles (pk (arg3.view.read (Elt F) f1)) 16) (cover_k (arg3.view.read (Elt F) f1))
  isplitl [H7]
  · iexists _; isplitr
    swap; · iexact H7
    ipureintro
    exact read_tab2 arg9.view f7 (tabk (arg3.view.read (Elt F) f1))
  isplitl [H8]
  · iexists _; isplitr
    swap; · iexact H8
    ipureintro
    exact View.read_writes_eq_canon arg10.view f8 (tiles (pk (arg4.view.read (Elt F) f2)) 16) (cover_k (arg4.view.read (Elt F) f2))
  isplitl [H9]
  · iexists _; isplitr
    swap; · iexact H9
    ipureintro
    exact read_tab2 arg11.view f9 (tabk (arg4.view.read (Elt F) f2))
  iexists _; isplitr
  swap; · iexact H10
  ipureintro
  exact View.read_writes_eq_canon arg12.view f10 (tiles (pt (arg4.view.read (Elt F) f2)) 16) (cover_t (arg4.view.read (Elt F) f2))
/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => codesq (iblk0 V c 0 t)
    | ⟨4, _⟩ => tabq (iblk0 V c 0 t)
    | ⟨5, _⟩ => lanesq (iblk0 V c 0 t)
    | ⟨6, _⟩ => codesk (iblk0 V c 1 t)
    | ⟨7, _⟩ => tabk (iblk0 V c 1 t)
    | ⟨8, _⟩ => codesk (iblk0 V c 2 t)
    | ⟨9, _⟩ => tabk (iblk0 V c 2 t)
    | ⟨10, _⟩ => codest (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = codesq (iblk0 V c 0 t) := by dsimp only [dat0]
theorem after0_4 (c : Dev nD) (t : Fin cfg0.N) : (dat0 V c).after 4 t = tabq (iblk0 V c 0 t) := by dsimp only [dat0]
theorem after0_5 (c : Dev nD) (t : Fin cfg0.N) : (dat0 V c).after 5 t = lanesq (iblk0 V c 0 t) := by dsimp only [dat0]
theorem after0_6 (c : Dev nD) (t : Fin cfg0.N) : (dat0 V c).after 6 t = codesk (iblk0 V c 1 t) := by dsimp only [dat0]
theorem after0_7 (c : Dev nD) (t : Fin cfg0.N) : (dat0 V c).after 7 t = tabk (iblk0 V c 1 t) := by dsimp only [dat0]
theorem after0_8 (c : Dev nD) (t : Fin cfg0.N) : (dat0 V c).after 8 t = codesk (iblk0 V c 2 t) := by dsimp only [dat0]
theorem after0_9 (c : Dev nD) (t : Fin cfg0.N) : (dat0 V c).after 9 t = tabk (iblk0 V c 2 t) := by dsimp only [dat0]
theorem after0_10 (c : Dev nD) (t : Fin cfg0.N) : (dat0 V c).after 10 t = codest (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen
-- ==== Proof.Kernel.AttnDefs.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import Idealize.ShloMosaic.Lib.WritesUnit
public import Idealize.ShloMosaic.Lib.Pointwise

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The window of a query block -/

/-- The first key block in the window of query block `i 2`. -/
def jlo (i : grid1.Coords) : ℕ := (i 2).val - 32

theorem qb_lt (i : grid1.Coords) : (i 2).val < 64 := (i 2).isLt

theorem lo_eq (i : grid1.Coords) :
    Scalar.maxsi (Scalar.subi (BitVec.ofNat 32 (i 2).val) 32#32) 0#32 = BitVec.ofNat 32 (jlo i) := by
  have h : ∀ n : Fin 64, Scalar.maxsi (Scalar.subi (BitVec.ofNat 32 n.val) 32#32) 0#32 = BitVec.ofNat 32 (n.val - 32) := by decide
  exact h (i 2)

theorem trips1_eq (i : grid1.Coords) : (k1_t1_loop i).trips = (i 2).val + 1 - jlo i := by
  have h : ∀ n : Fin 64, Scf.Loop.trips (w := 32) ⟨Scalar.maxsi (Scalar.subi (BitVec.ofNat 32 n.val) 32#32) 0#32,
      Scalar.addi (Scalar.maxsi (Scalar.subi (BitVec.ofNat 32 n.val) 32#32) 0#32) (Scalar.muli (Scalar.divsi (Scalar.subi (Scalar.addi (BitVec.ofNat 32 n.val) 1#32) (Scalar.maxsi (Scalar.subi (BitVec.ofNat 32 n.val) 32#32) 0#32)) 1#32) 1#32), 1#32⟩
      = n.val + 1 - (n.val - 32) := by decide
  exact h (i 2)

theorem trips3_eq (i : grid1.Coords) : (k1_t3_loop i).trips = (i 2).val + 1 - jlo i := trips1_eq i

theorem trips2_eq (i : grid1.Coords) : (k1_t2_loop i).trips = 0 := by
  have h : ∀ n : Fin 64, Scf.Loop.trips (w := 32) ⟨Scalar.addi (Scalar.maxsi (Scalar.subi (BitVec.ofNat 32 n.val) 32#32) 0#32) (Scalar.muli (Scalar.divsi (Scalar.subi (Scalar.addi (BitVec.ofNat 32 n.val) 1#32) (Scalar.maxsi (Scalar.subi (BitVec.ofNat 32 n.val) 32#32) 0#32)) 1#32) 1#32),
      Scalar.addi (Scalar.maxsi (Scalar.subi (BitVec.ofNat 32 n.val) 32#32) 0#32) (Scalar.subi (Scalar.addi (BitVec.ofNat 32 n.val) 1#32) (Scalar.maxsi (Scalar.subi (BitVec.ofNat 32 n.val) 32#32) 0#32)), 1#32⟩
      = 0 := by decide
  exact h (i 2)

theorem trips4_eq (i : grid1.Coords) : (k1_t4_loop i).trips = 0 := trips2_eq i

theorem jlo_lt (i : grid1.Coords) : jlo i < 64 := by have := qb_lt i; unfold jlo; omega

theorem trip_le (i : grid1.Coords) (t : ℕ) (h : t < (k1_t1_loop i).trips) : jlo i + t ≤ (i 2).val ∧ t < 33 := by
  rw [trips1_eq] at h; have := qb_lt i; unfold jlo at *; omega

theorem iv_eq (i : grid1.Coords) (t : ℕ) :
    Scf.iv (Scalar.maxsi (Scalar.subi (BitVec.ofNat 32 (i 2).val) 32#32) 0#32) 1#32 t = BitVec.ofNat 32 (jlo i + t) := by
  rw [lo_eq]; apply BitVec.eq_of_toNat_eq; simp [Scf.iv]

theorem off1_eq (i : grid1.Coords) (t : Fin (k1_t1_loop i).trips) : k1_off1 i t = ![0, 128 * (jlo i + t.val), 0] := by
  have := trip_le i t.val t.isLt; have := qb_lt i
  unfold k1_off1; dsimp only; rw [iv_eq]
  simp [Scalar.indexCast, Scalar.muli, IntOp.muli]
  omega
theorem off2_eq (i : grid1.Coords) (t : Fin (k1_t1_loop i).trips) : k1_off2 i t = ![128 * t.val, 0] := by
  have := trip_le i t.val t.isLt; have := qb_lt i
  unfold k1_off2; dsimp only; rw [iv_eq, lo_eq]
  simp [Scalar.indexCast, Scalar.muli, Scalar.subi, IntOp.muli, IntOp.subi, BitVec.toNat_sub]
  omega
theorem off3_eq (i : grid1.Coords) (t : Fin (k1_t1_loop i).trips) : k1_off3 i t = ![jlo i + t.val, 0] := by
  have := trip_le i t.val t.isLt; have := qb_lt i
  unfold k1_off3; dsimp only; rw [iv_eq]
  simp [Scalar.indexCast]
  omega
theorem off7_eq (i : grid1.Coords) (t : Fin (k1_t3_loop i).trips) : k1_off7 i t = ![128 * t.val, 0] := off2_eq i t
theorem off8_eq (i : grid1.Coords) (t : Fin (k1_t3_loop i).trips) : k1_off8 i t = ![jlo i + t.val, 0] := off3_eq i t
theorem off9_eq (i : grid1.Coords) (t : Fin (k1_t3_loop i).trips) : k1_off9 i t = ![0, 0, jlo i + t.val, 0, 0] := by
  have := trip_le i t.val t.isLt; have := qb_lt i
  unfold k1_off9; dsimp only; rw [iv_eq]
  simp [Scalar.indexCast]
  omega

/-! ## The scores and the block maxima the first loop leaves -/

/-- Key block `jlo + t` of the window. -/
def kt (i : grid1.Coords) (x2 : Vec F S1x8192x128 .fp8e4m3) (t : Fin (k1_t1_loop i).trips) : Vec F S1x128x128 .fp8e4m3 :=
  View.ld (Val := Elt F) x2 (Rect.unit (s := S1x8192x128) (k1_off1 i t) S1x128x128.size (k1_off1_inb i t))

/-- The masked scores: rows `128*t …` hold the scores of the window's block `t`. -/
def sG (i : grid1.Coords) (x0 : Vec F S1x128x512 .fp8e4m3) (x2 : Vec F S1x8192x128 .fp8e4m3) : Vec F S4224x512 .f32 := fun y =>
  if h : (y 0).val / 128 < (k1_t1_loop i).trips then
    k1_pay11 i x0 ⟨_, h⟩ (kt i x2 ⟨_, h⟩) (ix2 (n0 := 128) (n1 := 512) ⟨(y 0).val % 128, Nat.mod_lt _ (by norm_num)⟩ ⟨(y 1).val, (y 1).isLt⟩)
  else Scalar.ofBits .f32 0#32

/-- The maxima: row `jlo + t` holds the greatest score of the window's block `t`. -/
def bG (i : grid1.Coords) (x0 : Vec F S1x128x512 .fp8e4m3) (x2 : Vec F S1x8192x128 .fp8e4m3) : Vec F S64x512 .f32 := fun y =>
  if h : jlo i ≤ (y 0).val ∧ (y 0).val - jlo i < (k1_t1_loop i).trips then
    k1_pay12 i x0 ⟨_, h.2⟩ (kt i x2 ⟨_, h.2⟩) (ix2 (n0 := 1) (n1 := 512) 0 ⟨(y 1).val, (y 1).isLt⟩)
  else Scalar.ofBits .f32 0#32

section Args
variable (c : Dev nD) (i : grid1.Coords) (arg3 : Memref sig .tc .vmem S1x128x512 .fp8e4m3) (harg3 : arg3.IsWhole) (arg4 : Memref sig .tc .vmem S1x1x1x512 .f32) (harg4 : arg4.IsWhole) (arg5 : Memref sig .tc .vmem S1x8192x128 .fp8e4m3) (harg5 : arg5.IsWhole) (arg6 : Memref sig .tc .vmem S1x1x64x128x128 .fp8e4m3) (harg6 : arg6.IsWhole) (arg7 : Memref sig .tc .vmem S1x1x64x1 .f32) (harg7 : arg7.IsWhole) (arg8 : Memref sig .tc .vmem S1x1x64x1 .f32) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S64x512 .f32) (harg16 : arg16.IsWhole) (arg17 : Memref sig .tc .vmem S64x512 .f32) (harg17 : arg17.IsWhole)
variable (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32)

theorem trip1_eq (X : BufTy.Contents (Elt F) arg5.view.ty) (k : Fin (k1_t1_loop i).trips) :
    tripL_k1_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X k
      = ([⟨Rect.unit (s := S4224x512) (k1_off2 i k) S128x512.size (k1_off2_inb i k), k1_pay11 i x0 k (kt i (arg5.view.read (Elt F) X) k)⟩],
         [⟨Rect.unit (s := S64x512) (k1_off3 i k) S1x512.size (k1_off3_inb i k), k1_pay12 i x0 k (kt i (arg5.view.read (Elt F) X) k)⟩]) := by
  unfold tripL_k1_t1 trip_k1_t1 kt; dsimp only; rfl

theorem read_s (X : BufTy.Contents (Elt F) arg5.view.ty) (f : BufTy.Contents (Elt F) arg10.view.ty) (n : ℕ) (hn : n ≤ (k1_t1_loop i).trips) (y : S4224x512.Idx) :
    arg10.view.read (Elt F) (arg10.view.writes (Elt F) f (pb_k1_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X n).1) y
      = if (y 0).val / 128 < n then sG i x0 (arg5.view.read (Elt F) X) y else arg10.view.read (Elt F) f y := by
  induction n with
  | zero => simp [pb_k1_t1]
  | succ n ih =>
    have e := pb_k1_t1_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X ⟨n, hn⟩
    dsimp only at e
    rw [e]
    have e2 := trip1_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X ⟨n, hn⟩
    have e3 := congrArg Prod.fst e2; have e4 := congrArg Prod.snd e2
    dsimp only at e3 e4 ⊢
    rw [e3]
    rw [List.singleton_append]
    by_cases h : (y 0).val / 128 = n
    · rw [if_pos (by omega)]
      refine (View.read_writes_cons_rows_of_mem arg10.view f _ _ _ y (ix2 (n0 := 128) (n1 := 512) ⟨(y 0).val % 128, Nat.mod_lt _ (by norm_num)⟩ ⟨(y 1).val, (y 1).isLt⟩) (off2_eq i ⟨n, hn⟩) ?_ ?_).trans ?_
      · show (y 0).val = 128 * n + (y 0).val % 128
        omega
      · rfl
      · subst h
        unfold sG
        rw [dif_pos (by omega)]
    · refine (View.read_writes_cons_rows_of_not_mem arg10.view f _ _ _ y (off2_eq i ⟨n, hn⟩) (W := 128) rfl ?_).trans ?_
      · show (y 0).val < 128 * n ∨ 128 * n + 128 ≤ (y 0).val
        omega
      · rw [ih (by omega)]
        by_cases h2 : (y 0).val / 128 < n
        · rw [if_pos h2, if_pos (by omega)]
        · rw [if_neg h2, if_neg (by omega)]

theorem read_b (X : BufTy.Contents (Elt F) arg5.view.ty) (f : BufTy.Contents (Elt F) arg13.view.ty) (n : ℕ) (hn : n ≤ (k1_t1_loop i).trips) (y : S64x512.Idx) :
    arg13.view.read (Elt F) (arg13.view.writes (Elt F) f (pb_k1_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X n).2) y
      = if jlo i ≤ (y 0).val ∧ (y 0).val < jlo i + n then bG i x0 (arg5.view.read (Elt F) X) y else arg13.view.read (Elt F) f y := by
  induction n with
  | zero => rw [if_neg (by omega)]; rfl
  | succ n ih =>
    have e := pb_k1_t1_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X ⟨n, hn⟩
    dsimp only at e
    rw [e]
    have e2 := trip1_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X ⟨n, hn⟩
    have e3 := congrArg Prod.fst e2; have e4 := congrArg Prod.snd e2
    dsimp only at e3 e4 ⊢
    rw [e4]
    rw [List.singleton_append]
    by_cases h : (y 0).val = jlo i + n
    · rw [if_pos (by omega)]
      refine (View.read_writes_cons_rows_of_mem arg13.view f _ _ _ y (ix2 (n0 := 1) (n1 := 512) 0 ⟨(y 1).val, (y 1).isLt⟩) (off3_eq i ⟨n, hn⟩) ?_ ?_).trans ?_
      · exact h
      · rfl
      · have h3 : (y 0).val - jlo i = n := by omega
        subst h3
        unfold bG
        rw [dif_pos ⟨by omega, by omega⟩]
    · refine (View.read_writes_cons_rows_of_not_mem arg13.view f _ _ _ y (off3_eq i ⟨n, hn⟩) (W := 1) rfl ?_).trans ?_
      · show (y 0).val < jlo i + n ∨ jlo i + n + 1 ≤ (y 0).val
        omega
      · rw [ih (by omega)]
        by_cases h2 : jlo i ≤ (y 0).val ∧ (y 0).val < jlo i + n
        · rw [if_pos h2, if_pos (by omega)]
        · rw [if_neg h2, if_neg (by omega)]

end Args

/-! ## The tables of the window -/

theorem inwin_bit : ∀ (n r : Fin 64), (n.val - 32 ≤ r.val ∧ r.val ≤ n.val) ∨
    IntOp.andi (IntOp.cmpi .sge (BitVec.ofNat 32 r.val) (BitVec.ofNat 32 (n.val - 32))) (IntOp.cmpi .sle (BitVec.ofNat 32 r.val) (BitVec.ofNat 32 n.val)) = 0#1 := by
  decide +kernel

/-- The scaled maxima outside the window are discarded, so only the window's rows matter. -/
theorem pay19_congr (i : grid1.Coords) (x1 : Vec F S1x1x1x512 .f32) (x4 : Vec F S1x1x64x1 .f32) (b b' : Vec F S64x512 .f32)
    (h : ∀ y : S64x512.Idx, jlo i ≤ (y 0).val → (y 0).val ≤ (i 2).val → b y = b' y) :
    k1_pay19 (k1_pay16 i) (k1_pay17 i) x1 x4 b = k1_pay19 (k1_pay16 i) (k1_pay17 i) x1 x4 b' := by
  funext y
  rcases inwin_bit (i 2) (y 0) with hy | hy
  · have := h y hy.1 hy.2
    simp only [k1_pay19, select, mulf, this]
  · have h2 := lo_eq i
    idx_vars y
    pointwise [k1_pay19, k1_pay16, k1_pay17]
    rw [h2]
    have hy' : IntOp.andi (IntOp.cmpi .sge (BitVec.ofNat 32 y0.val) (BitVec.ofNat 32 (jlo i))) (IntOp.cmpi .sle (BitVec.ofNat 32 y0.val) (BitVec.ofNat 32 (i 2).val)) = 0#1 := hy
    rw [hy']; rfl

/-- The four column groups of a `64 × 512` table, the last written first. -/
def four64 (p0 p1 p2 p3 : Vec F S64x128 .f32) : List (View.Piece (Elt F) S64x512 .f32) :=
  [⟨Rect.unit (s := S64x512) ![0, 384] S64x128.size inb_S64x512_S64x128_0_384, p3⟩, ⟨Rect.unit (s := S64x512) ![0, 256] S64x128.size inb_S64x512_S64x128_0_256, p2⟩,
   ⟨Rect.unit (s := S64x512) ![0, 128] S64x128.size inb_S64x512_S64x128_0_128, p1⟩, ⟨Rect.unit (s := S64x512) ![0, 0] S64x128.size inb_S64x512_S64x128_0_0, p0⟩]

/-- The maxima over all blocks. -/
def mG (i : grid1.Coords) (x1 : Vec F S1x1x1x512 .f32) (x4 : Vec F S1x1x64x1 .f32) (b : Vec F S64x512 .f32) : Vec F S1x512 .f32 :=
  k1_pay20 (k1_pay16 i) (k1_pay17 i) x1 x4 b
/-- The scaled maxima less the maxima over all blocks. -/
def dG (i : grid1.Coords) (x1 : Vec F S1x1x1x512 .f32) (x4 : Vec F S1x1x64x1 .f32) (b : Vec F S64x512 .f32) : Vec F S64x512 .f32 :=
  k1_pay21 (k1_pay16 i) (k1_pay17 i) x1 x4 b
def zF : F .f32 := FloatOps.ofBits .f32 0#32

/-- The offsets subtracted in the exponent, per group. -/
def offL (i : grid1.Coords) (x1 : Vec F S1x1x1x512 .f32) (x4 : Vec F S1x1x64x1 .f32) (b : Vec F S64x512 .f32) : List (View.Piece (Elt F) S64x512 .f32) :=
  four64 (k1_pay29 (mG i x1 x4 b) (k1_pay24 (k1_pay16 i) (k1_pay17 i) x1 x4 b) (k1_pay25 (k1_pay16 i) (k1_pay17 i) x1 x4 b) (k1_pay26 (k1_pay16 i) (k1_pay17 i) x1 x4 b) zF)
    (k1_pay37 (mG i x1 x4 b) (k1_pay32 (dG i x1 x4 b)) (k1_pay33 (dG i x1 x4 b)) (k1_pay34 (dG i x1 x4 b)) zF)
    (k1_pay45 (mG i x1 x4 b) (k1_pay40 (dG i x1 x4 b)) (k1_pay41 (dG i x1 x4 b)) (k1_pay42 (dG i x1 x4 b)) 1#32)
    (k1_pay53 (mG i x1 x4 b) (k1_pay48 (dG i x1 x4 b)) (k1_pay49 (dG i x1 x4 b)) (k1_pay50 (dG i x1 x4 b)))
/-- The scales times the value scales, per group. -/
def pvL (i : grid1.Coords) (x1 : Vec F S1x1x1x512 .f32) (x4 x5 : Vec F S1x1x64x1 .f32) (b : Vec F S64x512 .f32) : List (View.Piece (Elt F) S64x512 .f32) :=
  four64 (k1_pay31 (k1_pay24 (k1_pay16 i) (k1_pay17 i) x1 x4 b) (k1_pay25 (k1_pay16 i) (k1_pay17 i) x1 x4 b) (k1_pay26 (k1_pay16 i) (k1_pay17 i) x1 x4 b) zF x5)
    (k1_pay39 (k1_pay32 (dG i x1 x4 b)) (k1_pay33 (dG i x1 x4 b)) (k1_pay34 (dG i x1 x4 b)) zF x5)
    (k1_pay47 (k1_pay40 (dG i x1 x4 b)) (k1_pay41 (dG i x1 x4 b)) (k1_pay42 (dG i x1 x4 b)) 1#32 x5)
    (k1_pay55 (k1_pay48 (dG i x1 x4 b)) (k1_pay49 (dG i x1 x4 b)) (k1_pay50 (dG i x1 x4 b)) x5)
/-- The scales of the weights, per group. -/
def lsL (i : grid1.Coords) (x1 : Vec F S1x1x1x512 .f32) (x4 : Vec F S1x1x64x1 .f32) (b : Vec F S64x512 .f32) : List (View.Piece (Elt F) S64x512 .f32) :=
  four64 (k1_pay30 (k1_pay24 (k1_pay16 i) (k1_pay17 i) x1 x4 b) (k1_pay25 (k1_pay16 i) (k1_pay17 i) x1 x4 b) (k1_pay26 (k1_pay16 i) (k1_pay17 i) x1 x4 b) zF)
    (k1_pay38 (k1_pay32 (dG i x1 x4 b)) (k1_pay33 (dG i x1 x4 b)) (k1_pay34 (dG i x1 x4 b)) zF)
    (k1_pay46 (k1_pay40 (dG i x1 x4 b)) (k1_pay41 (dG i x1 x4 b)) (k1_pay42 (dG i x1 x4 b)) 1#32)
    (k1_pay54 (k1_pay48 (dG i x1 x4 b)) (k1_pay49 (dG i x1 x4 b)) (k1_pay50 (dG i x1 x4 b)))

section Congr
variable (i : grid1.Coords) (x1 : Vec F S1x1x1x512 .f32) (x4 x5 : Vec F S1x1x64x1 .f32) (b b' : Vec F S64x512 .f32)
    (h : ∀ y : S64x512.Idx, jlo i ≤ (y 0).val → (y 0).val ≤ (i 2).val → b y = b' y)
include h
theorem mG_congr : mG i x1 x4 b = mG i x1 x4 b' := by unfold mG k1_pay20; rw [pay19_congr i x1 x4 b b' h]
theorem dG_congr : dG i x1 x4 b = dG i x1 x4 b' := by
  unfold dG k1_pay21; rw [pay19_congr i x1 x4 b b' h, show k1_pay20 (k1_pay16 i) (k1_pay17 i) x1 x4 b = _ from mG_congr i x1 x4 b b' h]; rfl
theorem p23_congr : k1_pay23 (k1_pay16 i) (k1_pay17 i) x1 x4 b = k1_pay23 (k1_pay16 i) (k1_pay17 i) x1 x4 b' := by
  unfold k1_pay23; rw [show k1_pay21 (k1_pay16 i) (k1_pay17 i) x1 x4 b = _ from dG_congr i x1 x4 b b' h]; rfl
theorem p24_congr : k1_pay24 (k1_pay16 i) (k1_pay17 i) x1 x4 b = k1_pay24 (k1_pay16 i) (k1_pay17 i) x1 x4 b' := by
  unfold k1_pay24; rw [p23_congr i x1 x4 b b' h]
theorem p25_congr : k1_pay25 (k1_pay16 i) (k1_pay17 i) x1 x4 b = k1_pay25 (k1_pay16 i) (k1_pay17 i) x1 x4 b' := by
  unfold k1_pay25; rw [p24_congr i x1 x4 b b' h]
theorem p26_congr : k1_pay26 (k1_pay16 i) (k1_pay17 i) x1 x4 b = k1_pay26 (k1_pay16 i) (k1_pay17 i) x1 x4 b' := by
  unfold k1_pay26; rw [p23_congr i x1 x4 b b' h]
theorem offL_congr : offL i x1 x4 b = offL i x1 x4 b' := by
  unfold offL; rw [mG_congr i x1 x4 b b' h, dG_congr i x1 x4 b b' h, p24_congr i x1 x4 b b' h, p25_congr i x1 x4 b b' h, p26_congr i x1 x4 b b' h]
theorem pvL_congr : pvL i x1 x4 x5 b = pvL i x1 x4 x5 b' := by
  unfold pvL; rw [dG_congr i x1 x4 b b' h, p24_congr i x1 x4 b b' h, p25_congr i x1 x4 b b' h, p26_congr i x1 x4 b b' h]
theorem lsL_congr : lsL i x1 x4 b = lsL i x1 x4 b' := by
  unfold lsL; rw [dG_congr i x1 x4 b b' h, p24_congr i x1 x4 b b' h, p25_congr i x1 x4 b b' h, p26_congr i x1 x4 b b' h]
end Congr

/-! ## The accumulation over the window -/

/-- Row `jlo + t` of a table. -/
def rowT (i : grid1.Coords) (T : Vec F S64x512 .f32) (t : Fin (k1_t3_loop i).trips) : Vec F S1x512 .f32 :=
  View.ld (Val := Elt F) T (Rect.unit (s := S64x512) (k1_off8 i t) S1x512.size (k1_off8_inb i t))
/-- The scores of the window's block `t`. -/
def tileS (i : grid1.Coords) (S : Vec F S4224x512 .f32) (t : Fin (k1_t3_loop i).trips) : Vec F S128x512 .f32 :=
  View.ld (Val := Elt F) S (Rect.unit (s := S4224x512) (k1_off7 i t) S128x512.size (k1_off7_inb i t))
/-- The values of the window's block `t`. -/
def tileV (i : grid1.Coords) (x3 : Vec F S1x1x64x128x128 .fp8e4m3) (t : Fin (k1_t3_loop i).trips) : Vec F S1x1x1x128x128 .fp8e4m3 :=
  View.ld (Val := Elt F) x3 (Rect.unit (s := S1x1x64x128x128) (k1_off9 i t) S1x1x1x128x128.size (k1_off9_inb i t))

/-- One trip: the accumulator and the denominator after block `t`. -/
def stp (i : grid1.Coords) (x3 : Vec F S1x1x64x128x128 .fp8e4m3) (S : Vec F S4224x512 .f32) (sc off pv ls : Vec F S64x512 .f32)
    (t : Fin (k1_t3_loop i).trips) (s : Vec F S128x512 .f32 × Vec F S1x512 .f32) : Vec F S128x512 .f32 × Vec F S1x512 .f32 :=
  (k1_pay58 (k1_pay4 (tileS i S t) (rowT i sc t) (rowT i off t) (tileV i x3 t) s.1 (rowT i pv t)),
   k1_pay3 (tileS i S t) (rowT i sc t) (rowT i off t) s.2 (rowT i ls t))

/-- The accumulator and the denominator after `n` blocks. -/
def fold (i : grid1.Coords) (x3 : Vec F S1x1x64x128x128 .fp8e4m3) (S : Vec F S4224x512 .f32) (sc off pv ls : Vec F S64x512 .f32) :
    ℕ → Vec F S128x512 .f32 × Vec F S1x512 .f32
  | 0 => (k1_pay56, k1_pay57 zF)
  | n + 1 => if h : n < (k1_t3_loop i).trips then stp i x3 S sc off pv ls ⟨n, h⟩ (fold i x3 S sc off pv ls n) else fold i x3 S sc off pv ls n

/-- The four heads' results, the last written first. -/
def outL (A : Vec F S128x512 .f32) (L : Vec F S1x512 .f32) : List (View.Piece (Elt F) S1x128x512 .bf16) :=
  [⟨Rect.unit (s := S1x128x512) ![0, 0, 384] S1x128x128.size inb_S1x128x512_S1x128x128_0_0_384, k1_pay1 (k1_pay64 A L)⟩,
   ⟨Rect.unit (s := S1x128x512) ![0, 0, 256] S1x128x128.size inb_S1x128x512_S1x128x128_0_0_256, k1_pay63 A L⟩,
   ⟨Rect.unit (s := S1x128x512) ![0, 0, 128] S1x128x128.size inb_S1x128x512_S1x128x128_0_0_128, k1_pay62 A L⟩,
   ⟨Rect.unit (s := S1x128x512) ![0, 0, 0] S1x128x128.size inb_S1x128x512_S1x128x128_0_0_0, k1_pay61 A L⟩]

/-- The accumulator and the denominator after the window. -/
def foldG (i : grid1.Coords) (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32) : Vec F S128x512 .f32 × Vec F S1x512 .f32 :=
  fold i x3 (sG i x0 x2) (k1_pay22 x1 x4) (View.canon (offL i x1 x4 (bG i x0 x2))) (View.canon (pvL i x1 x4 x5 (bG i x0 x2)))
    (View.canon (lsL i x1 x4 (bG i x0 x2))) (k1_t3_loop i).trips

/-- What one grid point writes: one query block, four heads. -/
def attnOut (i : grid1.Coords) (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32) : Vec F S1x128x512 .bf16 :=
  View.canon (outL (foldG i x0 x1 x2 x3 x4 x5).1 (foldG i x0 x1 x2 x3 x4 x5).2)

section Args
variable (c : Dev nD) (i : grid1.Coords) (arg3 : Memref sig .tc .vmem S1x128x512 .fp8e4m3) (harg3 : arg3.IsWhole) (arg4 : Memref sig .tc .vmem S1x1x1x512 .f32) (harg4 : arg4.IsWhole) (arg5 : Memref sig .tc .vmem S1x8192x128 .fp8e4m3) (harg5 : arg5.IsWhole) (arg6 : Memref sig .tc .vmem S1x1x64x128x128 .fp8e4m3) (harg6 : arg6.IsWhole) (arg7 : Memref sig .tc .vmem S1x1x64x1 .f32) (harg7 : arg7.IsWhole) (arg8 : Memref sig .tc .vmem S1x1x64x1 .f32) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S64x512 .f32) (harg16 : arg16.IsWhole) (arg17 : Memref sig .tc .vmem S64x512 .f32) (harg17 : arg17.IsWhole)
variable (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32)

theorem trip3_eq (a2 v1 : BitVec 32) (z : F .f32) (X6 : BufTy.Contents (Elt F) arg6.view.ty) (X10 : BufTy.Contents (Elt F) arg10.view.ty)
    (X14 : BufTy.Contents (Elt F) arg14.view.ty) (X15 : BufTy.Contents (Elt F) arg15.view.ty) (X16 : BufTy.Contents (Elt F) arg16.view.ty) (X17 : BufTy.Contents (Elt F) arg17.view.ty)
    (k : Fin (k1_t3_loop i).trips) (f11 : BufTy.Contents (Elt F) arg11.view.ty) (f12 : BufTy.Contents (Elt F) arg12.view.ty) :
    tripL_k1_t3 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 k f11 f12
      = ([⟨Rect.unit (s := S128x512) ![0, 0] S128x512.size inb_S128x512_S128x512_0_0,
            k1_pay58 (k1_pay4 (tileS i (arg10.view.read (Elt F) X10) k) (rowT i (arg14.view.read (Elt F) X14) k) (rowT i (arg15.view.read (Elt F) X15) k)
              (tileV i (arg6.view.read (Elt F) X6) k) (View.ld (arg11.view.read (Elt F) f11) (Rect.unit (s := S128x512) ![0, 0] S128x512.size inb_S128x512_S128x512_0_0)) (rowT i (arg16.view.read (Elt F) X16) k))⟩],
         [⟨Rect.unit (s := S1x512) ![0, 0] S1x512.size inb_S1x512_S1x512_0_0,
            k1_pay3 (tileS i (arg10.view.read (Elt F) X10) k) (rowT i (arg14.view.read (Elt F) X14) k) (rowT i (arg15.view.read (Elt F) X15) k)
              (View.ld (arg12.view.read (Elt F) f12) (Rect.unit (s := S1x512) ![0, 0] S1x512.size inb_S1x512_S1x512_0_0)) (rowT i (arg17.view.read (Elt F) X17) k)⟩]) := by
  unfold tripL_k1_t3 trip_k1_t3 tileS rowT tileV; dsimp only; rfl

end Args

theorem fst_nil_of_zero {α β : Type} (f : ℕ → List α × List β) (h0 : f 0 = ([], [])) (n : ℕ) (hn : n = 0) : (f n).1 = [] := by subst hn; rw [h0]
theorem snd_nil_of_zero {α β : Type} (f : ℕ → List α × List β) (h0 : f 0 = ([], [])) (n : ℕ) (hn : n = 0) : (f n).2 = [] := by subst hn; rw [h0]

section Fold
variable (c : Dev nD) (i : grid1.Coords) (arg3 : Memref sig .tc .vmem S1x128x512 .fp8e4m3) (harg3 : arg3.IsWhole) (arg4 : Memref sig .tc .vmem S1x1x1x512 .f32) (harg4 : arg4.IsWhole) (arg5 : Memref sig .tc .vmem S1x8192x128 .fp8e4m3) (harg5 : arg5.IsWhole) (arg6 : Memref sig .tc .vmem S1x1x64x128x128 .fp8e4m3) (harg6 : arg6.IsWhole) (arg7 : Memref sig .tc .vmem S1x1x64x1 .f32) (harg7 : arg7.IsWhole) (arg8 : Memref sig .tc .vmem S1x1x64x1 .f32) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S64x512 .f32) (harg16 : arg16.IsWhole) (arg17 : Memref sig .tc .vmem S64x512 .f32) (harg17 : arg17.IsWhole)
variable (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32)

theorem read_whole11 (G : BufTy.Contents (Elt F) arg11.view.ty) (w : Vec F S128x512 .f32) (L : List (View.Piece (Elt F) S128x512 .f32)) :
    arg11.view.read (Elt F) (arg11.view.writes (Elt F) G (⟨Rect.unit (s := S128x512) ![0, 0] S128x512.size inb_S128x512_S128x512_0_0, w⟩ :: L)) = w := by
  funext y
  exact View.read_writes_cons_rows_of_mem arg11.view G _ _ _ y y rfl (by simp) rfl
theorem read_whole12 (G : BufTy.Contents (Elt F) arg12.view.ty) (w : Vec F S1x512 .f32) (L : List (View.Piece (Elt F) S1x512 .f32)) :
    arg12.view.read (Elt F) (arg12.view.writes (Elt F) G (⟨Rect.unit (s := S1x512) ![0, 0] S1x512.size inb_S1x512_S1x512_0_0, w⟩ :: L)) = w := by
  funext y
  exact View.read_writes_cons_rows_of_mem arg12.view G _ _ _ y y rfl (by simp) rfl
theorem read_whole14 (G : BufTy.Contents (Elt F) arg14.view.ty) (w : Vec F S64x512 .f32) (L : List (View.Piece (Elt F) S64x512 .f32)) :
    arg14.view.read (Elt F) (arg14.view.writes (Elt F) G (⟨Rect.unit (s := S64x512) ![0, 0] S64x512.size inb_S64x512_S64x512_0_0, w⟩ :: L)) = w := by
  funext y
  exact View.read_writes_cons_rows_of_mem arg14.view G _ _ _ y y rfl (by simp) rfl

theorem cover_four (p0 p1 p2 p3 : Vec F S64x128 .f32) (y : S64x512.Idx) : ∃ p ∈ four64 p0 p1 p2 p3, y ∈ p.1.set := by
  exact View.cover_of_tiledL (four64 p0 p1 p2 p3) S64x128.size (by sl_kernel_rfl) y

theorem cover_out (A : Vec F S128x512 .f32) (L : Vec F S1x512 .f32) (y : S1x128x512.Idx) : ∃ p ∈ outL A L, y ∈ p.1.set := by
  exact View.cover_of_tiledL (outL A L) S1x128x128.size (by sl_kernel_rfl) y

theorem attn_close (f : BufTy.Contents (Elt F) arg9.view.ty) (A : Vec F S128x512 .f32) (L : Vec F S1x512 .f32)
    (hA : A = (foldG i x0 x1 x2 x3 x4 x5).1) (hL : L = (foldG i x0 x1 x2 x3 x4 x5).2) :
    arg9.view.read (Elt F) (arg9.view.writes (Elt F) f (outL A L)) = attnOut i x0 x1 x2 x3 x4 x5 := by
  rw [View.read_writes_eq_canon arg9.view f _ (cover_out A L), hA, hL]; rfl

theorem acc_val (a2 v1 : BitVec 32) (z : F .f32) (X6 : BufTy.Contents (Elt F) arg6.view.ty) (X10 : BufTy.Contents (Elt F) arg10.view.ty)
    (X14 : BufTy.Contents (Elt F) arg14.view.ty) (X15 : BufTy.Contents (Elt F) arg15.view.ty) (X16 : BufTy.Contents (Elt F) arg16.view.ty) (X17 : BufTy.Contents (Elt F) arg17.view.ty)
    (h6 : arg6.view.read (Elt F) X6 = x3)
    (h10 : ∀ t, tileS i (arg10.view.read (Elt F) X10) t = tileS i (sG i x0 x2) t)
    (h14 : arg14.view.read (Elt F) X14 = k1_pay22 x1 x4)
    (h15 : arg15.view.read (Elt F) X15 = View.canon (offL i x1 x4 (bG i x0 x2)))
    (h16 : arg16.view.read (Elt F) X16 = View.canon (pvL i x1 x4 x5 (bG i x0 x2)))
    (h17 : arg17.view.read (Elt F) X17 = View.canon (lsL i x1 x4 (bG i x0 x2)))
    (G11 : BufTy.Contents (Elt F) arg11.view.ty) (G12 : BufTy.Contents (Elt F) arg12.view.ty)
    (h11 : arg11.view.read (Elt F) G11 = k1_pay56) (h12 : arg12.view.read (Elt F) G12 = k1_pay57 zF) (n : ℕ) (hn : n ≤ (k1_t3_loop i).trips) :
    arg11.view.read (Elt F) (arg11.view.writes (Elt F) G11 (pb_k1_t3 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 G11 G12 n).1)
        = (fold i x3 (sG i x0 x2) (k1_pay22 x1 x4) (View.canon (offL i x1 x4 (bG i x0 x2))) (View.canon (pvL i x1 x4 x5 (bG i x0 x2))) (View.canon (lsL i x1 x4 (bG i x0 x2))) n).1
    ∧ arg12.view.read (Elt F) (arg12.view.writes (Elt F) G12 (pb_k1_t3 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 G11 G12 n).2)
        = (fold i x3 (sG i x0 x2) (k1_pay22 x1 x4) (View.canon (offL i x1 x4 (bG i x0 x2))) (View.canon (pvL i x1 x4 x5 (bG i x0 x2))) (View.canon (lsL i x1 x4 (bG i x0 x2))) n).2 := by
  induction n with
  | zero => exact ⟨h11, h12⟩
  | succ n ih =>
    obtain ⟨i1, i2⟩ := ih (by omega)
    have e := pb_k1_t3_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 G11 G12 ⟨n, hn⟩
    have e2 := trip3_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 ⟨n, hn⟩ (arg11.view.writes (Elt F) G11 (pb_k1_t3 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 G11 G12 n).1)
      (arg12.view.writes (Elt F) G12 (pb_k1_t3 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 G11 G12 n).2)
    have e3 := congrArg Prod.fst e2; have e4 := congrArg Prod.snd e2
    have e5 := congrArg Prod.fst e; have e6 := congrArg Prod.snd e
    dsimp only at e3 e4 e5 e6
    rw [e5, e6, e3, e4, List.singleton_append, List.singleton_append, read_whole11, read_whole12, fold, dif_pos (show n < _ from hn), i1, i2, h6, h10, h14, h15, h16, h17,
      View.ld_unit_zero (by funext a; fin_cases a <;> rfl), View.ld_unit_zero (by funext a; fin_cases a <;> rfl)]
    exact ⟨rfl, rfl⟩

theorem cov11 (H : List (View.Piece (Elt F) S128x512 .f32)) (L3 L4 : List (View.Piece (Elt F) S128x512 .f32)) (h : L4 = []) :
    arg11.view.readCov (L4 ++ (L3 ++ H)) (Rect.unit (s := S128x512) ![0, 0] S128x512.size inb_S128x512_S128x512_0_0).toLoadRect
      = arg11.view.read (Elt F) (arg11.view.writes (Elt F) (arg11.view.writes (Elt F) arg11.view.junk H) L3) := by
  subst h
  rw [List.nil_append, ← View.writes_append]
  exact View.ld_unit_zero (by funext a; fin_cases a <;> rfl) _ _
theorem cov12 (H : List (View.Piece (Elt F) S1x512 .f32)) (L3 L4 : List (View.Piece (Elt F) S1x512 .f32)) (h : L4 = []) :
    arg12.view.readCov (L4 ++ (L3 ++ H)) (Rect.unit (s := S1x512) ![0, 0] S1x512.size inb_S1x512_S1x512_0_0).toLoadRect
      = arg12.view.read (Elt F) (arg12.view.writes (Elt F) (arg12.view.writes (Elt F) arg12.view.junk H) L3) := by
  subst h
  rw [List.nil_append, ← View.writes_append]
  exact View.ld_unit_zero (by funext a; fin_cases a <;> rfl) _ _

theorem tileS_read (f : BufTy.Contents (Elt F) arg10.view.ty) (q : Vec F S1x128x512 .fp8e4m3) (hq : q = x0) (X : BufTy.Contents (Elt F) arg5.view.ty)
    (hX : arg5.view.read (Elt F) X = x2) (L2 : List (View.Piece (Elt F) S4224x512 .f32)) (h2 : L2 = []) (t : Fin (k1_t3_loop i).trips) :
    tileS i (arg10.view.read (Elt F) (arg10.view.writes (Elt F) f (L2 ++ (pb_k1_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 q X (k1_t1_loop i).trips).1))) t
      = tileS i (sG i x0 x2) t := by
  subst h2 hq hX
  rw [List.nil_append]
  funext x
  have h := read_s c i arg3 harg3 arg4 harg4 arg5 harg5 arg6 harg6 arg7 harg7 arg8 harg8 arg9 harg9 arg10 harg10 arg11 harg11 arg12 harg12 arg13 harg13 arg14 harg14 arg15 harg15 arg16 harg16 arg17 harg17 q X f _ (le_refl _) ((Rect.unit (s := S4224x512) (k1_off7 i t) S128x512.size (k1_off7_inb i t)).idx x)
  refine h.trans (if_pos ?_)
  have h3 : (((Rect.unit (s := S4224x512) (k1_off7 i t) S128x512.size (k1_off7_inb i t)).idx x) 0).val = k1_off7 i t 0 + 1 * (x 0).val := rfl
  rw [h3, off7_eq]
  have h4 : (x 0).val < 128 := (x 0).isLt
  have h5 : t.val < (k1_t1_loop i).trips := t.isLt
  show (128 * t.val + 1 * (x 0).val) / 128 < _
  omega

theorem b_read (f : BufTy.Contents (Elt F) arg13.view.ty) (q : Vec F S1x128x512 .fp8e4m3) (hq : q = x0) (X : BufTy.Contents (Elt F) arg5.view.ty)
    (hX : arg5.view.read (Elt F) X = x2) (L2 : List (View.Piece (Elt F) S64x512 .f32)) (h2 : L2 = []) (y : S64x512.Idx) (hy : jlo i ≤ (y 0).val) (hy2 : (y 0).val ≤ (i 2).val) :
    View.readAt (Elt F) arg13.view (Rect.unit (s := S64x512) ![0, 0] S64x512.size inb_S64x512_S64x512_0_0).toLoadRect
      (arg13.view.writes (Elt F) f (L2 ++ (pb_k1_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 q X (k1_t1_loop i).trips).2)) y = bG i x0 x2 y := by
  subst h2 hq hX
  rw [List.nil_append, View.readAt_eq_ld, View.ld_unit_zero (by funext a; fin_cases a <;> rfl)]
  refine (read_b c i arg3 harg3 arg4 harg4 arg5 harg5 arg6 harg6 arg7 harg7 arg8 harg8 arg9 harg9 arg10 harg10 arg11 harg11 arg12 harg12 arg13 harg13 arg14 harg14 arg15 harg15 arg16 harg16 arg17 harg17 q X f _ (le_refl _) y).trans (if_pos ⟨hy, ?_⟩)
  rw [trips1_eq]
  unfold jlo at *
  omega
end Fold

section Tabs
variable (i : grid1.Coords) (arg3 : Memref sig .tc .vmem S1x128x512 .fp8e4m3) (harg3 : arg3.IsWhole) (arg4 : Memref sig .tc .vmem S1x1x1x512 .f32) (harg4 : arg4.IsWhole) (arg5 : Memref sig .tc .vmem S1x8192x128 .fp8e4m3) (harg5 : arg5.IsWhole) (arg6 : Memref sig .tc .vmem S1x1x64x128x128 .fp8e4m3) (harg6 : arg6.IsWhole) (arg7 : Memref sig .tc .vmem S1x1x64x1 .f32) (harg7 : arg7.IsWhole) (arg8 : Memref sig .tc .vmem S1x1x64x1 .f32) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S64x512 .f32) (harg16 : arg16.IsWhole) (arg17 : Memref sig .tc .vmem S64x512 .f32) (harg17 : arg17.IsWhole)
variable (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32)
variable (q1 : Vec F S1x1x1x512 .f32) (h1 : q1 = x1) (q4 : Vec F S1x1x64x1 .f32) (h4 : q4 = x4) (q5 : Vec F S1x1x64x1 .f32) (h5 : q5 = x5) (b : Vec F S64x512 .f32)
  (hb : ∀ y : S64x512.Idx, jlo i ≤ (y 0).val → (y 0).val ≤ (i 2).val → b y = bG i x0 x2 y)
include h1 h4 hb
theorem tab15 (f : BufTy.Contents (Elt F) arg15.view.ty) :
    arg15.view.read (Elt F) (arg15.view.writes (Elt F) f (offL i q1 q4 b)) = View.canon (offL i x1 x4 (bG i x0 x2)) := by
  subst h1 h4
  exact (View.read_writes_eq_canon arg15.view f _ (cover_four _ _ _ _)).trans (by rw [← offL_congr i q1 q4 b _ hb]; rfl)
theorem tab17 (f : BufTy.Contents (Elt F) arg17.view.ty) :
    arg17.view.read (Elt F) (arg17.view.writes (Elt F) f (lsL i q1 q4 b)) = View.canon (lsL i x1 x4 (bG i x0 x2)) := by
  subst h1 h4
  exact (View.read_writes_eq_canon arg17.view f _ (cover_four _ _ _ _)).trans (by rw [← lsL_congr i q1 q4 b _ hb]; rfl)
include h5
theorem tab16 (f : BufTy.Contents (Elt F) arg16.view.ty) :
    arg16.view.read (Elt F) (arg16.view.writes (Elt F) f (pvL i q1 q4 q5 b)) = View.canon (pvL i x1 x4 x5 (bG i x0 x2)) := by
  subst h1 h4 h5
  exact (View.read_writes_eq_canon arg16.view f _ (cover_four _ _ _ _)).trans (by rw [← pvL_congr i q1 q4 q5 b _ hb]; rfl)
end Tabs

end Cert.Kernel.Gen
-- ==== Proof.Kernel.Attn.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import proofs.«01_k».proof.Proof.Kernel.AttnDefs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4044000 in
/-- One grid point of the attention call: the inputs stay, the result block ends at `attnOut` of them. -/
theorem sound_kernel1 (c : Dev nD) (E : Set ℕ) (i : grid1.Coords) (arg3 : Memref sig .tc .vmem S1x128x512 .fp8e4m3) (harg3 : arg3.IsWhole) (arg4 : Memref sig .tc .vmem S1x1x1x512 .f32) (harg4 : arg4.IsWhole) (arg5 : Memref sig .tc .vmem S1x8192x128 .fp8e4m3) (harg5 : arg5.IsWhole) (arg6 : Memref sig .tc .vmem S1x1x64x128x128 .fp8e4m3) (harg6 : arg6.IsWhole) (arg7 : Memref sig .tc .vmem S1x1x64x1 .f32) (harg7 : arg7.IsWhole) (arg8 : Memref sig .tc .vmem S1x1x64x1 .f32) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S64x512 .f32) (harg16 : arg16.IsWhole) (arg17 : Memref sig .tc .vmem S64x512 .f32) (harg17 : arg17.IsWhole)
    (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (attnOut i x0 x1 x2 x3 x4 x5) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc1_swa_attention i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1_swa_attention_eq_skeleton]; unfold cc1_swa_attention_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec
  sl_step
  iapply Hk
  have e0 : View.readAt (Elt F) arg3.view (Rect.unit (s := S1x128x512) ![0, 0, 0] S1x128x512.size inb_S1x128x512_S1x128x512_0_0_0).toLoadRect (harg3.unread x0) = x0 := by
    rw [View.readAt_eq_ld, harg3.read_unread, View.ld_unit_zero (by funext a; fin_cases a <;> rfl)]
  have e1 : View.readAt (Elt F) arg4.view (Rect.unit (s := S1x1x1x512) ![0, 0, 0, 0] S1x1x1x512.size inb_S1x1x1x512_S1x1x1x512_0_0_0_0).toLoadRect (harg4.unread x1) = x1 := by
    rw [View.readAt_eq_ld, harg4.read_unread, View.ld_unit_zero (by funext a; fin_cases a <;> rfl)]
  have e4 : View.readAt (Elt F) arg7.view (Rect.unit (s := S1x1x64x1) ![0, 0, 0, 0] S1x1x64x1.size inb_S1x1x64x1_S1x1x64x1_0_0_0_0).toLoadRect (harg7.unread x4) = x4 := by
    rw [View.readAt_eq_ld, harg7.read_unread, View.ld_unit_zero (by funext a; fin_cases a <;> rfl)]
  have e5 : View.readAt (Elt F) arg8.view (Rect.unit (s := S1x1x64x1) ![0, 0, 0, 0] S1x1x64x1.size inb_S1x1x64x1_S1x1x64x1_0_0_0_0).toLoadRect (harg8.unread x5) = x5 := by
    rw [View.readAt_eq_ld, harg8.read_unread, View.ld_unit_zero (by funext a; fin_cases a <;> rfl)]
  isplitl [H0]; · iexists _; isplitr; swap; · iexact H0
                  ipureintro; exact harg3.read_unread _
  isplitl [H1]; · iexists _; isplitr; swap; · iexact H1
                  ipureintro; exact harg4.read_unread _
  isplitl [H2]; · iexists _; isplitr; swap; · iexact H2
                  ipureintro; exact harg5.read_unread _
  isplitl [H3]; · iexists _; isplitr; swap; · iexact H3
                  ipureintro; exact harg6.read_unread _
  isplitl [H4]; · iexists _; isplitr; swap; · iexact H4
                  ipureintro; exact harg7.read_unread _
  isplitl [H5]; · iexists _; isplitr; swap; · iexact H5
                  ipureintro; exact harg8.read_unread _
  isplitl [H6]
  · iexists _; isplitr
    swap; · iexact H6
    ipureintro
    apply attn_close
    · refine (cov11 (h := fst_nil_of_zero _ rfl _ (trips4_eq i)) ..).trans (acc_val (h6 := harg6.read_unread _) (h10 := fun t => tileS_read (hq := e0) (hX := harg5.read_unread _) (h2 := fst_nil_of_zero _ rfl _ (trips2_eq i)) ..)
        (h14 := (read_whole14 ..).trans (by rw [e1, e4])) (h15 := ?_) (h16 := ?_) (h17 := ?_) (h11 := read_whole11 ..) (h12 := read_whole12 ..) (n := (k1_t3_loop i).trips) (hn := le_refl _) ..).1
      · exact tab15 (h1 := e1) (h4 := e4) (hb := fun y h1 h2 => b_read (hq := e0) (hX := harg5.read_unread _) (h2 := snd_nil_of_zero _ rfl _ (trips2_eq i)) (hy := h1) (hy2 := h2) ..) ..
      · exact tab16 (h1 := e1) (h4 := e4) (h5 := e5) (hb := fun y h1 h2 => b_read (hq := e0) (hX := harg5.read_unread _) (h2 := snd_nil_of_zero _ rfl _ (trips2_eq i)) (hy := h1) (hy2 := h2) ..) ..
      · exact tab17 (h1 := e1) (h4 := e4) (hb := fun y h1 h2 => b_read (hq := e0) (hX := harg5.read_unread _) (h2 := snd_nil_of_zero _ rfl _ (trips2_eq i)) (hy := h1) (hy2 := h2) ..) ..
    · refine (cov12 (h := snd_nil_of_zero _ rfl _ (trips4_eq i)) ..).trans (acc_val (h6 := harg6.read_unread _) (h10 := fun t => tileS_read (hq := e0) (hX := harg5.read_unread _) (h2 := fst_nil_of_zero _ rfl _ (trips2_eq i)) ..)
        (h14 := (read_whole14 ..).trans (by rw [e1, e4])) (h15 := ?_) (h16 := ?_) (h17 := ?_) (h11 := read_whole11 ..) (h12 := read_whole12 ..) (n := (k1_t3_loop i).trips) (hn := le_refl _) ..).2
      · exact tab15 (h1 := e1) (h4 := e4) (hb := fun y h1 h2 => b_read (hq := e0) (hX := harg5.read_unread _) (h2 := snd_nil_of_zero _ rfl _ (trips2_eq i)) (hy := h1) (hy2 := h2) ..) ..
      · exact tab16 (h1 := e1) (h4 := e4) (h5 := e5) (hb := fun y h1 h2 => b_read (hq := e0) (hX := harg5.read_unread _) (h2 := snd_nil_of_zero _ rfl _ (trips2_eq i)) (hy := h1) (hy2 := h2) ..) ..
      · exact tab17 (h1 := e1) (h4 := e4) (hb := fun y h1 h2 => b_read (hq := e0) (hX := harg5.read_unread _) (h2 := snd_nil_of_zero _ rfl _ (trips2_eq i)) (hy := h1) (hy2 := h2) ..) ..
  isplitl [HS0]; · iexists _; iexists _; isplitr; swap; · iexact HS0
                   ipureintro; rfl
  isplitl [HS1]; · iexists _; iexists _; isplitr; swap; · iexact HS1
                   ipureintro; rfl
  isplitl [HS2]; · iexists _; iexists _; isplitr; swap; · iexact HS2
                   ipureintro; rfl
  isplitl [HS3]; · iexists _; iexists _; isplitr; swap; · iexact HS3
                   ipureintro; rfl
  isplitl [HS4]; · iexists _; iexists _; isplitr; swap; · iexact HS4
                   ipureintro; rfl
  isplitl [HS5]; · iexists _; iexists _; isplitr; swap; · iexact HS5
                   ipureintro; rfl
  isplitl [HS6]; · iexists _; iexists _; isplitr; swap; · iexact HS6
                   ipureintro; rfl
  iexists _; iexists _; isplitr; swap; · iexact HS7
  ipureintro; rfl

section Regions
variable (V : (c : Dev nD) → (b : Ref sig .tc) → Buf (Elt F) ((c : Thread nD τ).loc b))

/-! # REGION 1 of @main: custom_call 1, `cc1_swa_attention` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S1x128x512 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192x128 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64x128x128 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x64x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x64x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128x512 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S4224x512 .f32 := Memref.whole cc1_scratch0
abbrev scM1_1 : Memref sig .tc .vmem S128x512 .f32 := Memref.whole cc1_scratch1
abbrev scM1_2 : Memref sig .tc .vmem S1x512 .f32 := Memref.whole cc1_scratch2
abbrev scM1_3 : Memref sig .tc .vmem S64x512 .f32 := Memref.whole cc1_scratch3
abbrev scM1_4 : Memref sig .tc .vmem S64x512 .f32 := Memref.whole cc1_scratch4
abbrev scM1_5 : Memref sig .tc .vmem S64x512 .f32 := Memref.whole cc1_scratch5
abbrev scM1_6 : Memref sig .tc .vmem S64x512 .f32 := Memref.whole cc1_scratch6
abbrev scM1_7 : Memref sig .tc .vmem S64x512 .f32 := Memref.whole cc1_scratch7

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f) ∗ (∃ f : Buf (Elt F) ((c : Thread nD τ).loc cc1_scratch6), ((c : Thread nD τ).loc cc1_scratch6) ↦{fullShare} f) ∗ (∃ f : Buf (Elt F) ((c : Thread nD τ).loc cc1_scratch7), ((c : Thread nD τ).loc cc1_scratch7) ↦{fullShare} f) ∗ Pipeline.scopedRestBut spec1 c [cc1_scratch0, cc1_scratch1, cc1_scratch2, cc1_scratch3, cc1_scratch4, cc1_scratch5, cc1_scratch6, cc1_scratch7]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest1_split, assoc, assoc, assoc, assoc, assoc, assoc, assoc]

/-- The frame kit's invariant with the scratch operands as memrefs owned at some contents (`Gen.scopedRest1_flat`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d) ∗ (∃ d, owns (c : Thread nD τ) scM1_6 fullShare d) ∗ (∃ d, owns (c : Thread nD τ) scM1_7 fullShare d) ∗ Pipeline.scopedRestBut spec1 c [cc1_scratch0, cc1_scratch1, cc1_scratch2, cc1_scratch3, cc1_scratch4, cc1_scratch5, cc1_scratch6, cc1_scratch7]) ∗ (∃ r, prngReg c r)) := by
  unfold Pipeline.ΦA; rw [scopedRest1_flat]; simp only [scM1_0, scM1_1, scM1_2, scM1_3, scM1_4, scM1_5, scM1_6, scM1_7, owns_whole]; try rfl

/-! ## The pipeline's proof data -/

/-- The proof data of pipeline 1 on core `c`: the arrays as the region finds them (`V`); after the body at
    point `t` each input's buffer at its block and the output's at `attnOut` of the input blocks; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => attnOut (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = attnOut (grid1.coords t) (iblk1 V c 0 t) (iblk1 V c 1 t) (iblk1 V c 2 t) (iblk1 V c 3 t) (iblk1 V c 4 t) (iblk1 V c 5 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1200000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  iintro ⟨⟨⟨HS0, HS1, HS2, HS3, HS4, HS5, HS6, HS7, HR8⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, HS0, HS1, HS2, HS3, HS4, HS5, HS6, HS7⟩
  isplitl [HS0 HS1 HS2 HS3 HS4 HS5 HS6 HS7 HR8 Hg]
  · isplitl [HS0 HS1 HS2 HS3 HS4 HS5 HS6 HS7 HR8]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      iexact HR8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions
end Cert.Kernel.Gen
-- ==== Proof.Kernel.Run.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import proofs.«01_k».proof.Proof.Kernel.Quant
public import proofs.«01_k».proof.Proof.Kernel.Attn

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2, main_v3, main_v4, main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every weakly fair execution terminates with every buffer of the launch at the last boundary's
    contents and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame: every execution terminates, nothing faulting, the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c)⟩, h.2⟩) (run_all m ρ)

end Cert.Kernel.Gen
-- ==== Proof.KernelIdeal.QuantDefs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The kernel's values: tile by tile -/

/-- The pieces `P 0, …, P (n-1)`, the latest first. -/
def tiles {α : Type _} (P : ℕ → α) : ℕ → List α
  | 0 => []
  | n + 1 => P n :: tiles P n

theorem mem_tiles {α : Type _} (P : ℕ → α) : ∀ {N n : ℕ}, n < N → P n ∈ tiles P N
  | 0, _, h => absurd h (Nat.not_lt_zero _)
  | N + 1, n, h => by
    rcases Nat.lt_succ_iff_lt_or_eq.mp h with h | rfl
    · exact List.mem_cons_of_mem _ (mem_tiles P h)
    · exact List.mem_cons_self

theorem exists_of_mem_tiles {α : Type _} (P : ℕ → α) : ∀ {N : ℕ} {p : α}, p ∈ tiles P N → ∃ n, n < N ∧ P n = p
  | 0, _, h => absurd h List.not_mem_nil
  | N + 1, p, h => by
    rcases List.mem_cons.mp h with rfl | h
    · exact ⟨N, Nat.lt_succ_self N, rfl⟩
    · obtain ⟨n, hn, e⟩ := exists_of_mem_tiles P h
      exact ⟨n, Nat.lt_succ_of_lt hn, e⟩

/-- The codes of one tile, at the tile's shape, and the tile's scale. -/
abbrev qcode (v : Vec F S1x128x128 .bf16) : FVec F S1x128x128 .fp8e4m3 := k0_pay8 (k0_pay7 v)
abbrev qscale (v : Vec F S1x128x128 .bf16) : FVec F S1x1 .f32 := k0_pay6 v

/-- A tile's codes before the storage cast. -/
def qclip (v3 : Vec F S1x128x128 .bf16) : FVec F S128x128 .f32 :=
  have v28 : IVec S1x1 32 := broadcast S1x1 0#32
  have v29 : IVec S1x1 32 := subi v28 (k0_pay5 v3)
  have v30 : FVec F S1x1 .f32 := sitofp .f32 v29
  have v31 : FVec F S1x1 .f32 := exp2 v30
  have v32 : FVec F S128x128 .f32 := broadcastTo S128x128 v31 broadcasts_S1x1_S128x128
  have v33 : FVec F S128x128 .f32 := mulf (k0_pay4 v3) v32
  have cst_10 : F .f32 := Scalar.ofBits .f32 0xC3E00000#32
  have cst_11 : F .f32 := Scalar.ofBits .f32 0x43E00000#32
  have v34 : FVec F S128x128 .f32 := broadcast S128x128 cst_10
  have v35 : FVec F S128x128 .f32 := maximumf v34 v33
  have v36 : FVec F S128x128 .f32 := broadcast S128x128 cst_11
  have v37 : FVec F S128x128 .f32 := minimumf v36 v35
  v37

/-- A value tile's codes transposed. -/
def qcodeT (v : Vec F S1x128x128 .bf16) : FVec F S1x1x1x128x128 .fp8e4m3 :=
  shapeCast S1x1x1x128x128 (truncf .fp8e4m3 (transpose S128x128 [1, 0] (qclip v) transposes_S128x128_p1_0_S128x128) bitsLt_fp8e4m3_f32)
    shapeCasts_S128x128_S1x1x1x128x128

/-- One entry written into a table of eight rows and eight columns. -/
def put8 (t h : BitVec 32) (tab : FVec F S8x8 .f32) (s : FVec F S1x1 .f32) : FVec F S8x8 .f32 :=
  select (andi (cmpi .eq (iota .tc S8x8 32 [0] iota_S8x8_d0_w32) (broadcast S8x8 t))
      (cmpi .eq (iota .tc S8x8 32 [1] iota_S8x8_d1_w32) (broadcast S8x8 h)))
    (broadcastTo S8x8 (shapeCast S1x1 s shapeCasts_S1x1_S1x1) broadcasts_S1x1_S8x8) tab

/-- One entry written into a table of eight rows and two columns. -/
def put2 (t h : BitVec 32) (tab : FVec F S8x2 .f32) (s : FVec F S1x1 .f32) : FVec F S8x2 .f32 :=
  select (andi (cmpi .eq (iota .tc S8x2 32 [0] iota_S8x2_d0_w32) (broadcast S8x2 t))
      (cmpi .eq (iota .tc S8x2 32 [1] iota_S8x2_d1_w32) (broadcast S8x2 h)))
    (broadcastTo S8x2 (shapeCast S1x1 s shapeCasts_S1x1_S1x1) broadcasts_S1x1_S8x2) tab

/-- The first `n` entries of a table written in turn, row by row. -/
def chain8 (s : ℕ → FVec F S1x1 .f32) : ℕ → FVec F S8x8 .f32
  | 0 => k0_pay1
  | n + 1 => put8 (BitVec.ofNat 32 (n / 8)) (BitVec.ofNat 32 (n % 8)) (chain8 s n) (s n)
def chain2 (s : ℕ → FVec F S1x1 .f32) : ℕ → FVec F S8x2 .f32
  | 0 => k0_pay2
  | n + 1 => put2 (BitVec.ofNat 32 (n / 2)) (BitVec.ofNat 32 (n % 2)) (chain2 s n) (s n)

/-! Tile `n` of the query block is row `n / 8`, column `n % 8`; of the key or value block row `n / 2`, column `n % 2`. -/

abbrev rq (n : ℕ) : Rect S1x1024x1024 :=
  Rect.unit (s := S1x1024x1024) ![0, 128 * (n / 8 % 8), 128 * (n % 8)] S1x128x128.size
    (by intro a; fin_cases a <;> simp [Shape.size] <;> omega)
abbrev rl (n : ℕ) : Rect S1x8x1024 :=
  Rect.unit (s := S1x8x1024) ![0, n / 8 % 8, 128 * (n % 8)] S1x1x128.size
    (by intro a; fin_cases a <;> simp [Shape.size] <;> omega)
abbrev rk (n : ℕ) : Rect S1x1024x256 :=
  Rect.unit (s := S1x1024x256) ![0, 128 * (n / 2 % 8), 128 * (n % 2)] S1x128x128.size
    (by intro a; fin_cases a <;> simp [Shape.size] <;> omega)
abbrev rt (n : ℕ) : Rect S1x2x8x128x128 :=
  Rect.unit (s := S1x2x8x128x128) ![0, n % 2, n / 2 % 8, 0, 0] S1x1x1x128x128.size
    (by intro a; fin_cases a <;> simp [Shape.size] <;> omega)

def pq (x : Vec F S1x1024x1024 .bf16) (n : ℕ) : View.Piece (Elt F) S1x1024x1024 .fp8e4m3 := ⟨rq n, qcode (View.ld x (rq n))⟩
def pl (x : Vec F S1x1024x1024 .bf16) (n : ℕ) : View.Piece (Elt F) S1x8x1024 .f32 := ⟨rl n, k0_pay9 (qscale (View.ld x (rq n)))⟩
def pk (x : Vec F S1x1024x256 .bf16) (n : ℕ) : View.Piece (Elt F) S1x1024x256 .fp8e4m3 := ⟨rk n, qcode (View.ld x (rk n))⟩
def pt (x : Vec F S1x1024x256 .bf16) (n : ℕ) : View.Piece (Elt F) S1x2x8x128x128 .fp8e4m3 := ⟨rt n, qcodeT (View.ld x (rk n))⟩

def tabq (x : Vec F S1x1024x1024 .bf16) : FVec F S1x8x8 .f32 :=
  shapeCast S1x8x8 (chain8 (fun n => qscale (View.ld x (rq n))) 64) shapeCasts_S8x8_S1x8x8
def tabk (x : Vec F S1x1024x256 .bf16) : FVec F S1x8x2 .f32 :=
  shapeCast S1x8x2 (chain2 (fun n => qscale (View.ld x (rk n))) 16) shapeCasts_S8x2_S1x8x2

def codesq (x : Vec F S1x1024x1024 .bf16) : Vec F S1x1024x1024 .fp8e4m3 := View.canon (tiles (pq x) 64)
def lanesq (x : Vec F S1x1024x1024 .bf16) : Vec F S1x8x1024 .f32 := View.canon (tiles (pl x) 64)
def codesk (x : Vec F S1x1024x256 .bf16) : Vec F S1x1024x256 .fp8e4m3 := View.canon (tiles (pk x) 16)
def codest (x : Vec F S1x1024x256 .bf16) : Vec F S1x2x8x128x128 .fp8e4m3 := View.canon (tiles (pt x) 16)

theorem cover_q (x : Vec F S1x1024x1024 .bf16) (y : S1x1024x1024.Idx) : ∃ p ∈ tiles (pq x) 64, y ∈ p.1.set := by
  have h1 : (y 1).val < 1024 := (y 1).isLt
  have h2 : (y 2).val < 1024 := (y 2).isLt
  refine ⟨_, mem_tiles (pq x) (n := 8 * ((y 1).val / 128) + (y 2).val / 128) (by omega), ?_⟩
  show y ∈ (rq (8 * ((y 1).val / 128) + (y 2).val / 128)).set
  rw [Rect.mem_set_unit]
  intro a
  have h0 : (y 0).val < 1 := (y 0).isLt
  fin_cases a <;> simp [Shape.size] <;> omega
theorem cover_l (x : Vec F S1x1024x1024 .bf16) (y : S1x8x1024.Idx) : ∃ p ∈ tiles (pl x) 64, y ∈ p.1.set := by
  have h1 : (y 1).val < 8 := (y 1).isLt
  have h2 : (y 2).val < 1024 := (y 2).isLt
  refine ⟨_, mem_tiles (pl x) (n := 8 * (y 1).val + (y 2).val / 128) (by omega), ?_⟩
  show y ∈ (rl (8 * (y 1).val + (y 2).val / 128)).set
  rw [Rect.mem_set_unit]
  intro a
  have h0 : (y 0).val < 1 := (y 0).isLt
  fin_cases a <;> simp [Shape.size] <;> omega
theorem cover_k (x : Vec F S1x1024x256 .bf16) (y : S1x1024x256.Idx) : ∃ p ∈ tiles (pk x) 16, y ∈ p.1.set := by
  have h1 : (y 1).val < 1024 := (y 1).isLt
  have h2 : (y 2).val < 256 := (y 2).isLt
  refine ⟨_, mem_tiles (pk x) (n := 2 * ((y 1).val / 128) + (y 2).val / 128) (by omega), ?_⟩
  show y ∈ (rk (2 * ((y 1).val / 128) + (y 2).val / 128)).set
  rw [Rect.mem_set_unit]
  intro a
  have h0 : (y 0).val < 1 := (y 0).isLt
  fin_cases a <;> simp [Shape.size] <;> omega
theorem cover_t (x : Vec F S1x1024x256 .bf16) (y : S1x2x8x128x128.Idx) : ∃ p ∈ tiles (pt x) 16, y ∈ p.1.set := by
  have h1 : (y 1).val < 2 := (y 1).isLt
  have h2 : (y 2).val < 8 := (y 2).isLt
  have h3 : (y 3).val < 128 := (y 3).isLt
  have h4 : (y 4).val < 128 := (y 4).isLt
  refine ⟨_, mem_tiles (pt x) (n := 2 * (y 2).val + (y 1).val) (by omega), ?_⟩
  show y ∈ (rt (2 * (y 2).val + (y 1).val)).set
  rw [Rect.mem_set_unit]
  intro a
  have h0 : (y 0).val < 1 := (y 0).isLt
  fin_cases a <;> simp [Shape.size] <;> omega

/-- A table stored whole is read back whole. -/
theorem read_tab8 {κ : Kind} {sp : Space} (v : View sig κ sp S1x8x8 .f32) (f : v.ty.Contents (Elt F)) (w : FVec F S1x8x8 .f32) :
    v.read (Elt F) (v.writes (Elt F) f [⟨Rect.unit (s := S1x8x8) ![0, 0, 0] S1x8x8.size inb_S1x8x8_S1x8x8_0_0_0, w⟩]) = w := by
  rw [View.read_writes_eq_canon v f _ (View.cover_of_tiledL _ S1x8x8.size (by sl_kernel_rfl)), View.canon_unit_zero]
  funext a; fin_cases a <;> rfl
theorem read_tab2 {κ : Kind} {sp : Space} (v : View sig κ sp S1x8x2 .f32) (f : v.ty.Contents (Elt F)) (w : FVec F S1x8x2 .f32) :
    v.read (Elt F) (v.writes (Elt F) f [⟨Rect.unit (s := S1x8x2) ![0, 0, 0] S1x8x2.size inb_S1x8x2_S1x8x2_0_0_0, w⟩]) = w := by
  rw [View.read_writes_eq_canon v f _ (View.cover_of_tiledL _ S1x8x2.size (by sl_kernel_rfl)), View.canon_unit_zero]
  funext a; fin_cases a <;> rfl

end Cert.KernelIdeal.Gen
-- ==== Proof.KernelIdeal.Quant.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.QuantDefs
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quantise_qkv` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 4044000 in
/-- The kernel body on whole staging memrefs, the inputs' at read contents and the outputs' at anything, runs to the
    continuation holding the inputs' as they were and each output's at its value of the inputs'. -/
theorem sound_kernel0 (c : Dev nD) (E : Set ℕ) (i : grid0.Coords) (arg2 : Memref sig .tc .vmem S1x1024x1024 .bf16) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x1024x1024 .fp8e4m3) (harg5 : arg5.IsWhole) (arg6 : Memref sig .tc .vmem S1x8x8 .f32) (harg6 : arg6.IsWhole) (arg7 : Memref sig .tc .vmem S1x8x1024 .f32) (harg7 : arg7.IsWhole) (arg8 : Memref sig .tc .vmem S1x1024x256 .fp8e4m3) (harg8 : arg8.IsWhole) (arg9 : Memref sig .tc .vmem S1x8x2 .f32) (harg9 : arg9.IsWhole) (arg10 : Memref sig .tc .vmem S1x1024x256 .fp8e4m3) (harg10 : arg10.IsWhole) (arg11 : Memref sig .tc .vmem S1x8x2 .f32) (harg11 : arg11.IsWhole) (arg12 : Memref sig .tc .vmem S1x2x8x128x128 .fp8e4m3) (harg12 : arg12.IsWhole)
    (x0 : Vec F S1x1024x1024 .bf16) (x1 : Vec F S1x1024x256 .bf16) (x2 : Vec F S1x1024x256 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare (codesq x0) ∗ owns (c : Thread nD τ) arg6 fullShare (tabq x0) ∗ owns (c : Thread nD τ) arg7 fullShare (lanesq x0) ∗ owns (c : Thread nD τ) arg8 fullShare (codesk x1) ∗ owns (c : Thread nD τ) arg9 fullShare (tabk x1) ∗ owns (c : Thread nD τ) arg10 fullShare (codesk x2) ∗ owns (c : Thread nD τ) arg11 fullShare (tabk x2) ∗ owns (c : Thread nD τ) arg12 fullShare (codest x2)) -∗ K ⟨⟩))
      ⊢ wp frame (wpE (defs₀ (F := F)) Variants.none c none) E (cc0_quantise_qkv i arg2 harg2 arg3 harg3 arg4 harg4 arg5 harg5 arg6 harg6 arg7 harg7 arg8 harg8 arg9 harg9 arg10 harg10 arg11 harg11 arg12 harg12) K := by
  simp only [cc0_quantise_qkv_eq_skeleton]; unfold cc0_quantise_qkv_skel
  simp only [k0_part126_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part127_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon arg5.view f3 (tiles (pq (arg2.view.read (Elt F) f0)) 64) (cover_q (arg2.view.read (Elt F) f0))
  isplitl [H4]
  · iexists _; isplitr
    swap; · iexact H4
    ipureintro
    exact read_tab8 arg6.view f4 (tabq (arg2.view.read (Elt F) f0))
  isplitl [H5]
  · iexists _; isplitr
    swap; · iexact H5
    ipureintro
    exact View.read_writes_eq_canon arg7.view f5 (tiles (pl (arg2.view.read (Elt F) f0)) 64) (cover_l (arg2.view.read (Elt F) f0))
  isplitl [H6]
  · iexists _; isplitr
    swap; · iexact H6
    ipureintro
    exact View.read_writes_eq_canon arg8.view f6 (tiles (pk (arg3.view.read (Elt F) f1)) 16) (cover_k (arg3.view.read (Elt F) f1))
  isplitl [H7]
  · iexists _; isplitr
    swap; · iexact H7
    ipureintro
    exact read_tab2 arg9.view f7 (tabk (arg3.view.read (Elt F) f1))
  isplitl [H8]
  · iexists _; isplitr
    swap; · iexact H8
    ipureintro
    exact View.read_writes_eq_canon arg10.view f8 (tiles (pk (arg4.view.read (Elt F) f2)) 16) (cover_k (arg4.view.read (Elt F) f2))
  isplitl [H9]
  · iexists _; isplitr
    swap; · iexact H9
    ipureintro
    exact read_tab2 arg11.view f9 (tabk (arg4.view.read (Elt F) f2))
  iexists _; isplitr
  swap; · iexact H10
  ipureintro
  exact View.read_writes_eq_canon arg12.view f10 (tiles (pt (arg4.view.read (Elt F) f2)) 16) (cover_t (arg4.view.read (Elt F) f2))
/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => codesq (iblk0 V c 0 t)
    | ⟨4, _⟩ => tabq (iblk0 V c 0 t)
    | ⟨5, _⟩ => lanesq (iblk0 V c 0 t)
    | ⟨6, _⟩ => codesk (iblk0 V c 1 t)
    | ⟨7, _⟩ => tabk (iblk0 V c 1 t)
    | ⟨8, _⟩ => codesk (iblk0 V c 2 t)
    | ⟨9, _⟩ => tabk (iblk0 V c 2 t)
    | ⟨10, _⟩ => codest (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = codesq (iblk0 V c 0 t) := by dsimp only [dat0]
theorem after0_4 (c : Dev nD) (t : Fin cfg0.N) : (dat0 V c).after 4 t = tabq (iblk0 V c 0 t) := by dsimp only [dat0]
theorem after0_5 (c : Dev nD) (t : Fin cfg0.N) : (dat0 V c).after 5 t = lanesq (iblk0 V c 0 t) := by dsimp only [dat0]
theorem after0_6 (c : Dev nD) (t : Fin cfg0.N) : (dat0 V c).after 6 t = codesk (iblk0 V c 1 t) := by dsimp only [dat0]
theorem after0_7 (c : Dev nD) (t : Fin cfg0.N) : (dat0 V c).after 7 t = tabk (iblk0 V c 1 t) := by dsimp only [dat0]
theorem after0_8 (c : Dev nD) (t : Fin cfg0.N) : (dat0 V c).after 8 t = codesk (iblk0 V c 2 t) := by dsimp only [dat0]
theorem after0_9 (c : Dev nD) (t : Fin cfg0.N) : (dat0 V c).after 9 t = tabk (iblk0 V c 2 t) := by dsimp only [dat0]
theorem after0_10 (c : Dev nD) (t : Fin cfg0.N) : (dat0 V c).after 10 t = codest (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen
-- ==== Proof.KernelIdeal.AttnDefs.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import Idealize.ShloMosaic.Lib.WritesUnit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The window of a query block -/

/-- The first key block in the window of query block `i 2`. -/
def jlo (i : grid1.Coords) : ℕ := (i 2).val - 32

theorem qb_lt (i : grid1.Coords) : (i 2).val < 64 := (i 2).isLt

theorem lo_eq (i : grid1.Coords) :
    Scalar.maxsi (Scalar.subi (BitVec.ofNat 32 (i 2).val) 32#32) 0#32 = BitVec.ofNat 32 (jlo i) := by
  have h : ∀ n : Fin 64, Scalar.maxsi (Scalar.subi (BitVec.ofNat 32 n.val) 32#32) 0#32 = BitVec.ofNat 32 (n.val - 32) := by decide
  exact h (i 2)

theorem trips1_eq (i : grid1.Coords) : (k1_t1_loop i).trips = (i 2).val + 1 - jlo i := by
  have h : ∀ n : Fin 64, Scf.Loop.trips (w := 32) ⟨Scalar.maxsi (Scalar.subi (BitVec.ofNat 32 n.val) 32#32) 0#32,
      Scalar.addi (Scalar.maxsi (Scalar.subi (BitVec.ofNat 32 n.val) 32#32) 0#32) (Scalar.muli (Scalar.divsi (Scalar.subi (Scalar.addi (BitVec.ofNat 32 n.val) 1#32) (Scalar.maxsi (Scalar.subi (BitVec.ofNat 32 n.val) 32#32) 0#32)) 1#32) 1#32), 1#32⟩
      = n.val + 1 - (n.val - 32) := by decide
  exact h (i 2)

theorem trips3_eq (i : grid1.Coords) : (k1_t3_loop i).trips = (i 2).val + 1 - jlo i := trips1_eq i

theorem trips2_eq (i : grid1.Coords) : (k1_t2_loop i).trips = 0 := by
  have h : ∀ n : Fin 64, Scf.Loop.trips (w := 32) ⟨Scalar.addi (Scalar.maxsi (Scalar.subi (BitVec.ofNat 32 n.val) 32#32) 0#32) (Scalar.muli (Scalar.divsi (Scalar.subi (Scalar.addi (BitVec.ofNat 32 n.val) 1#32) (Scalar.maxsi (Scalar.subi (BitVec.ofNat 32 n.val) 32#32) 0#32)) 1#32) 1#32),
      Scalar.addi (Scalar.maxsi (Scalar.subi (BitVec.ofNat 32 n.val) 32#32) 0#32) (Scalar.subi (Scalar.addi (BitVec.ofNat 32 n.val) 1#32) (Scalar.maxsi (Scalar.subi (BitVec.ofNat 32 n.val) 32#32) 0#32)), 1#32⟩
      = 0 := by decide
  exact h (i 2)

theorem trips4_eq (i : grid1.Coords) : (k1_t4_loop i).trips = 0 := trips2_eq i

theorem jlo_lt (i : grid1.Coords) : jlo i < 64 := by have := qb_lt i; unfold jlo; omega

theorem trip_le (i : grid1.Coords) (t : ℕ) (h : t < (k1_t1_loop i).trips) : jlo i + t ≤ (i 2).val ∧ t < 33 := by
  rw [trips1_eq] at h; have := qb_lt i; unfold jlo at *; omega

theorem iv_eq (i : grid1.Coords) (t : ℕ) :
    Scf.iv (Scalar.maxsi (Scalar.subi (BitVec.ofNat 32 (i 2).val) 32#32) 0#32) 1#32 t = BitVec.ofNat 32 (jlo i + t) := by
  rw [lo_eq]; apply BitVec.eq_of_toNat_eq; simp [Scf.iv]

theorem off1_eq (i : grid1.Coords) (t : Fin (k1_t1_loop i).trips) : k1_off1 i t = ![0, 128 * (jlo i + t.val), 0] := by
  have := trip_le i t.val t.isLt; have := qb_lt i
  unfold k1_off1; dsimp only; rw [iv_eq]
  simp [Scalar.indexCast, Scalar.muli, IntOp.muli]
  omega
theorem off2_eq (i : grid1.Coords) (t : Fin (k1_t1_loop i).trips) : k1_off2 i t = ![128 * t.val, 0] := by
  have := trip_le i t.val t.isLt; have := qb_lt i
  unfold k1_off2; dsimp only; rw [iv_eq, lo_eq]
  simp [Scalar.indexCast, Scalar.muli, Scalar.subi, IntOp.muli, IntOp.subi, BitVec.toNat_sub]
  omega
theorem off3_eq (i : grid1.Coords) (t : Fin (k1_t1_loop i).trips) : k1_off3 i t = ![jlo i + t.val, 0] := by
  have := trip_le i t.val t.isLt; have := qb_lt i
  unfold k1_off3; dsimp only; rw [iv_eq]
  simp [Scalar.indexCast]
  omega
theorem off7_eq (i : grid1.Coords) (t : Fin (k1_t3_loop i).trips) : k1_off7 i t = ![128 * t.val, 0] := off2_eq i t
theorem off8_eq (i : grid1.Coords) (t : Fin (k1_t3_loop i).trips) : k1_off8 i t = ![jlo i + t.val, 0] := off3_eq i t
theorem off9_eq (i : grid1.Coords) (t : Fin (k1_t3_loop i).trips) : k1_off9 i t = ![0, 0, jlo i + t.val, 0, 0] := by
  have := trip_le i t.val t.isLt; have := qb_lt i
  unfold k1_off9; dsimp only; rw [iv_eq]
  simp [Scalar.indexCast]
  omega

/-! ## The scores and the block maxima the first loop leaves -/

/-- Key block `jlo + t` of the window. -/
def kt (i : grid1.Coords) (x2 : Vec F S1x8192x128 .fp8e4m3) (t : Fin (k1_t1_loop i).trips) : Vec F S1x128x128 .fp8e4m3 :=
  View.ld (Val := Elt F) x2 (Rect.unit (s := S1x8192x128) (k1_off1 i t) S1x128x128.size (k1_off1_inb i t))

/-- The masked scores: rows `128*t …` hold the scores of the window's block `t`. -/
def sG (i : grid1.Coords) (x0 : Vec F S1x128x512 .fp8e4m3) (x2 : Vec F S1x8192x128 .fp8e4m3) : Vec F S4224x512 .f32 := fun y =>
  if h : (y 0).val / 128 < (k1_t1_loop i).trips then
    k1_pay11 i x0 ⟨_, h⟩ (kt i x2 ⟨_, h⟩) (ix2 (n0 := 128) (n1 := 512) ⟨(y 0).val % 128, Nat.mod_lt _ (by norm_num)⟩ ⟨(y 1).val, (y 1).isLt⟩)
  else Scalar.ofBits .f32 0#32

/-- The maxima: row `jlo + t` holds the greatest score of the window's block `t`. -/
def bG (i : grid1.Coords) (x0 : Vec F S1x128x512 .fp8e4m3) (x2 : Vec F S1x8192x128 .fp8e4m3) : Vec F S64x512 .f32 := fun y =>
  if h : jlo i ≤ (y 0).val ∧ (y 0).val - jlo i < (k1_t1_loop i).trips then
    k1_pay12 i x0 ⟨_, h.2⟩ (kt i x2 ⟨_, h.2⟩) (ix2 (n0 := 1) (n1 := 512) 0 ⟨(y 1).val, (y 1).isLt⟩)
  else Scalar.ofBits .f32 0#32

section Args
variable (c : Dev nD) (i : grid1.Coords) (arg3 : Memref sig .tc .vmem S1x128x512 .fp8e4m3) (harg3 : arg3.IsWhole) (arg4 : Memref sig .tc .vmem S1x1x1x512 .f32) (harg4 : arg4.IsWhole) (arg5 : Memref sig .tc .vmem S1x8192x128 .fp8e4m3) (harg5 : arg5.IsWhole) (arg6 : Memref sig .tc .vmem S1x1x64x128x128 .fp8e4m3) (harg6 : arg6.IsWhole) (arg7 : Memref sig .tc .vmem S1x1x64x1 .f32) (harg7 : arg7.IsWhole) (arg8 : Memref sig .tc .vmem S1x1x64x1 .f32) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S64x512 .f32) (harg16 : arg16.IsWhole) (arg17 : Memref sig .tc .vmem S64x512 .f32) (harg17 : arg17.IsWhole)
variable (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32)

theorem trip1_eq (X : BufTy.Contents (Elt F) arg5.view.ty) (k : Fin (k1_t1_loop i).trips) :
    tripL_k1_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X k
      = ([⟨Rect.unit (s := S4224x512) (k1_off2 i k) S128x512.size (k1_off2_inb i k), k1_pay11 i x0 k (kt i (arg5.view.read (Elt F) X) k)⟩],
         [⟨Rect.unit (s := S64x512) (k1_off3 i k) S1x512.size (k1_off3_inb i k), k1_pay12 i x0 k (kt i (arg5.view.read (Elt F) X) k)⟩]) := by
  unfold tripL_k1_t1 trip_k1_t1 kt; dsimp only; rfl

theorem read_s (X : BufTy.Contents (Elt F) arg5.view.ty) (f : BufTy.Contents (Elt F) arg10.view.ty) (n : ℕ) (hn : n ≤ (k1_t1_loop i).trips) (y : S4224x512.Idx) :
    arg10.view.read (Elt F) (arg10.view.writes (Elt F) f (pb_k1_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X n).1) y
      = if (y 0).val / 128 < n then sG i x0 (arg5.view.read (Elt F) X) y else arg10.view.read (Elt F) f y := by
  induction n with
  | zero => simp [pb_k1_t1]
  | succ n ih =>
    have e := pb_k1_t1_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X ⟨n, hn⟩
    dsimp only at e
    rw [e]
    have e2 := trip1_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X ⟨n, hn⟩
    have e3 := congrArg Prod.fst e2; have e4 := congrArg Prod.snd e2
    dsimp only at e3 e4 ⊢
    rw [e3]
    rw [List.singleton_append]
    by_cases h : (y 0).val / 128 = n
    · rw [if_pos (by omega)]
      refine (View.read_writes_cons_rows_of_mem arg10.view f _ _ _ y (ix2 (n0 := 128) (n1 := 512) ⟨(y 0).val % 128, Nat.mod_lt _ (by norm_num)⟩ ⟨(y 1).val, (y 1).isLt⟩) (off2_eq i ⟨n, hn⟩) ?_ ?_).trans ?_
      · show (y 0).val = 128 * n + (y 0).val % 128
        omega
      · rfl
      · subst h
        unfold sG
        rw [dif_pos (by omega)]
    · refine (View.read_writes_cons_rows_of_not_mem arg10.view f _ _ _ y (off2_eq i ⟨n, hn⟩) (W := 128) rfl ?_).trans ?_
      · show (y 0).val < 128 * n ∨ 128 * n + 128 ≤ (y 0).val
        omega
      · rw [ih (by omega)]
        by_cases h2 : (y 0).val / 128 < n
        · rw [if_pos h2, if_pos (by omega)]
        · rw [if_neg h2, if_neg (by omega)]

theorem read_b (X : BufTy.Contents (Elt F) arg5.view.ty) (f : BufTy.Contents (Elt F) arg13.view.ty) (n : ℕ) (hn : n ≤ (k1_t1_loop i).trips) (y : S64x512.Idx) :
    arg13.view.read (Elt F) (arg13.view.writes (Elt F) f (pb_k1_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X n).2) y
      = if jlo i ≤ (y 0).val ∧ (y 0).val < jlo i + n then bG i x0 (arg5.view.read (Elt F) X) y else arg13.view.read (Elt F) f y := by
  induction n with
  | zero => rw [if_neg (by omega)]; rfl
  | succ n ih =>
    have e := pb_k1_t1_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X ⟨n, hn⟩
    dsimp only at e
    rw [e]
    have e2 := trip1_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 X ⟨n, hn⟩
    have e3 := congrArg Prod.fst e2; have e4 := congrArg Prod.snd e2
    dsimp only at e3 e4 ⊢
    rw [e4]
    rw [List.singleton_append]
    by_cases h : (y 0).val = jlo i + n
    · rw [if_pos (by omega)]
      refine (View.read_writes_cons_rows_of_mem arg13.view f _ _ _ y (ix2 (n0 := 1) (n1 := 512) 0 ⟨(y 1).val, (y 1).isLt⟩) (off3_eq i ⟨n, hn⟩) ?_ ?_).trans ?_
      · exact h
      · rfl
      · have h3 : (y 0).val - jlo i = n := by omega
        subst h3
        unfold bG
        rw [dif_pos ⟨by omega, by omega⟩]
    · refine (View.read_writes_cons_rows_of_not_mem arg13.view f _ _ _ y (off3_eq i ⟨n, hn⟩) (W := 1) rfl ?_).trans ?_
      · show (y 0).val < jlo i + n ∨ jlo i + n + 1 ≤ (y 0).val
        omega
      · rw [ih (by omega)]
        by_cases h2 : jlo i ≤ (y 0).val ∧ (y 0).val < jlo i + n
        · rw [if_pos h2, if_pos (by omega)]
        · rw [if_neg h2, if_neg (by omega)]

end Args

/-! ## The tables of the window -/

theorem inwin_bit : ∀ (n r : Fin 64), (n.val - 32 ≤ r.val ∧ r.val ≤ n.val) ∨
    IntOp.andi (IntOp.cmpi .sge (BitVec.ofNat 32 r.val) (BitVec.ofNat 32 (n.val - 32))) (IntOp.cmpi .sle (BitVec.ofNat 32 r.val) (BitVec.ofNat 32 n.val)) = 0#1 := by
  decide +kernel

/-- The scaled maxima outside the window are discarded, so only the window's rows matter. -/
theorem pay19_congr (i : grid1.Coords) (x1 : Vec F S1x1x1x512 .f32) (x4 : Vec F S1x1x64x1 .f32) (b b' : Vec F S64x512 .f32)
    (h : ∀ y : S64x512.Idx, jlo i ≤ (y 0).val → (y 0).val ≤ (i 2).val → b y = b' y) :
    k1_pay19 (k1_pay16 i) (k1_pay17 i) x1 x4 b = k1_pay19 (k1_pay16 i) (k1_pay17 i) x1 x4 b' := by
  funext y
  rcases inwin_bit (i 2) (y 0) with hy | hy
  · have := h y hy.1 hy.2
    simp only [k1_pay19, select, mulf, this]
  · have h2 := lo_eq i
    idx_vars y
    pointwise [k1_pay19, k1_pay16, k1_pay17]
    rw [h2]
    have hy' : IntOp.andi (IntOp.cmpi .sge (BitVec.ofNat 32 y0.val) (BitVec.ofNat 32 (jlo i))) (IntOp.cmpi .sle (BitVec.ofNat 32 y0.val) (BitVec.ofNat 32 (i 2).val)) = 0#1 := hy
    rw [hy']; rfl

/-- The four column groups of a `64 × 512` table, the last written first. -/
def four64 (p0 p1 p2 p3 : Vec F S64x128 .f32) : List (View.Piece (Elt F) S64x512 .f32) :=
  [⟨Rect.unit (s := S64x512) ![0, 384] S64x128.size inb_S64x512_S64x128_0_384, p3⟩, ⟨Rect.unit (s := S64x512) ![0, 256] S64x128.size inb_S64x512_S64x128_0_256, p2⟩,
   ⟨Rect.unit (s := S64x512) ![0, 128] S64x128.size inb_S64x512_S64x128_0_128, p1⟩, ⟨Rect.unit (s := S64x512) ![0, 0] S64x128.size inb_S64x512_S64x128_0_0, p0⟩]

/-- The maxima over all blocks. -/
def mG (i : grid1.Coords) (x1 : Vec F S1x1x1x512 .f32) (x4 : Vec F S1x1x64x1 .f32) (b : Vec F S64x512 .f32) : Vec F S1x512 .f32 :=
  k1_pay20 (k1_pay16 i) (k1_pay17 i) x1 x4 b
/-- The scaled maxima less the maxima over all blocks. -/
def dG (i : grid1.Coords) (x1 : Vec F S1x1x1x512 .f32) (x4 : Vec F S1x1x64x1 .f32) (b : Vec F S64x512 .f32) : Vec F S64x512 .f32 :=
  k1_pay21 (k1_pay16 i) (k1_pay17 i) x1 x4 b
def zF : F .f32 := FloatOps.ofBits .f32 0#32

/-- The offsets subtracted in the exponent, per group. -/
def offL (i : grid1.Coords) (x1 : Vec F S1x1x1x512 .f32) (x4 : Vec F S1x1x64x1 .f32) (b : Vec F S64x512 .f32) : List (View.Piece (Elt F) S64x512 .f32) :=
  four64 (k1_pay29 (mG i x1 x4 b) (k1_pay24 (k1_pay16 i) (k1_pay17 i) x1 x4 b) (k1_pay25 (k1_pay16 i) (k1_pay17 i) x1 x4 b) (k1_pay26 (k1_pay16 i) (k1_pay17 i) x1 x4 b) zF)
    (k1_pay37 (mG i x1 x4 b) (k1_pay32 (dG i x1 x4 b)) (k1_pay33 (dG i x1 x4 b)) (k1_pay34 (dG i x1 x4 b)) zF)
    (k1_pay45 (mG i x1 x4 b) (k1_pay40 (dG i x1 x4 b)) (k1_pay41 (dG i x1 x4 b)) (k1_pay42 (dG i x1 x4 b)) 1#32)
    (k1_pay53 (mG i x1 x4 b) (k1_pay48 (dG i x1 x4 b)) (k1_pay49 (dG i x1 x4 b)) (k1_pay50 (dG i x1 x4 b)))
/-- The scales times the value scales, per group. -/
def pvL (i : grid1.Coords) (x1 : Vec F S1x1x1x512 .f32) (x4 x5 : Vec F S1x1x64x1 .f32) (b : Vec F S64x512 .f32) : List (View.Piece (Elt F) S64x512 .f32) :=
  four64 (k1_pay31 (k1_pay24 (k1_pay16 i) (k1_pay17 i) x1 x4 b) (k1_pay25 (k1_pay16 i) (k1_pay17 i) x1 x4 b) (k1_pay26 (k1_pay16 i) (k1_pay17 i) x1 x4 b) zF x5)
    (k1_pay39 (k1_pay32 (dG i x1 x4 b)) (k1_pay33 (dG i x1 x4 b)) (k1_pay34 (dG i x1 x4 b)) zF x5)
    (k1_pay47 (k1_pay40 (dG i x1 x4 b)) (k1_pay41 (dG i x1 x4 b)) (k1_pay42 (dG i x1 x4 b)) 1#32 x5)
    (k1_pay55 (k1_pay48 (dG i x1 x4 b)) (k1_pay49 (dG i x1 x4 b)) (k1_pay50 (dG i x1 x4 b)) x5)
/-- The scales of the weights, per group. -/
def lsL (i : grid1.Coords) (x1 : Vec F S1x1x1x512 .f32) (x4 : Vec F S1x1x64x1 .f32) (b : Vec F S64x512 .f32) : List (View.Piece (Elt F) S64x512 .f32) :=
  four64 (k1_pay30 (k1_pay24 (k1_pay16 i) (k1_pay17 i) x1 x4 b) (k1_pay25 (k1_pay16 i) (k1_pay17 i) x1 x4 b) (k1_pay26 (k1_pay16 i) (k1_pay17 i) x1 x4 b) zF)
    (k1_pay38 (k1_pay32 (dG i x1 x4 b)) (k1_pay33 (dG i x1 x4 b)) (k1_pay34 (dG i x1 x4 b)) zF)
    (k1_pay46 (k1_pay40 (dG i x1 x4 b)) (k1_pay41 (dG i x1 x4 b)) (k1_pay42 (dG i x1 x4 b)) 1#32)
    (k1_pay54 (k1_pay48 (dG i x1 x4 b)) (k1_pay49 (dG i x1 x4 b)) (k1_pay50 (dG i x1 x4 b)))

section Congr
variable (i : grid1.Coords) (x1 : Vec F S1x1x1x512 .f32) (x4 x5 : Vec F S1x1x64x1 .f32) (b b' : Vec F S64x512 .f32)
    (h : ∀ y : S64x512.Idx, jlo i ≤ (y 0).val → (y 0).val ≤ (i 2).val → b y = b' y)
include h
theorem mG_congr : mG i x1 x4 b = mG i x1 x4 b' := by unfold mG k1_pay20; rw [pay19_congr i x1 x4 b b' h]
theorem dG_congr : dG i x1 x4 b = dG i x1 x4 b' := by
  unfold dG k1_pay21; rw [pay19_congr i x1 x4 b b' h, show k1_pay20 (k1_pay16 i) (k1_pay17 i) x1 x4 b = _ from mG_congr i x1 x4 b b' h]; rfl
theorem p23_congr : k1_pay23 (k1_pay16 i) (k1_pay17 i) x1 x4 b = k1_pay23 (k1_pay16 i) (k1_pay17 i) x1 x4 b' := by
  unfold k1_pay23; rw [show k1_pay21 (k1_pay16 i) (k1_pay17 i) x1 x4 b = _ from dG_congr i x1 x4 b b' h]; rfl
theorem p24_congr : k1_pay24 (k1_pay16 i) (k1_pay17 i) x1 x4 b = k1_pay24 (k1_pay16 i) (k1_pay17 i) x1 x4 b' := by
  unfold k1_pay24; rw [p23_congr i x1 x4 b b' h]
theorem p25_congr : k1_pay25 (k1_pay16 i) (k1_pay17 i) x1 x4 b = k1_pay25 (k1_pay16 i) (k1_pay17 i) x1 x4 b' := by
  unfold k1_pay25; rw [p24_congr i x1 x4 b b' h]
theorem p26_congr : k1_pay26 (k1_pay16 i) (k1_pay17 i) x1 x4 b = k1_pay26 (k1_pay16 i) (k1_pay17 i) x1 x4 b' := by
  unfold k1_pay26; rw [p23_congr i x1 x4 b b' h]
theorem offL_congr : offL i x1 x4 b = offL i x1 x4 b' := by
  unfold offL; rw [mG_congr i x1 x4 b b' h, dG_congr i x1 x4 b b' h, p24_congr i x1 x4 b b' h, p25_congr i x1 x4 b b' h, p26_congr i x1 x4 b b' h]
theorem pvL_congr : pvL i x1 x4 x5 b = pvL i x1 x4 x5 b' := by
  unfold pvL; rw [dG_congr i x1 x4 b b' h, p24_congr i x1 x4 b b' h, p25_congr i x1 x4 b b' h, p26_congr i x1 x4 b b' h]
theorem lsL_congr : lsL i x1 x4 b = lsL i x1 x4 b' := by
  unfold lsL; rw [dG_congr i x1 x4 b b' h, p24_congr i x1 x4 b b' h, p25_congr i x1 x4 b b' h, p26_congr i x1 x4 b b' h]
end Congr

/-! ## The accumulation over the window -/

/-- Row `jlo + t` of a table. -/
def rowT (i : grid1.Coords) (T : Vec F S64x512 .f32) (t : Fin (k1_t3_loop i).trips) : Vec F S1x512 .f32 :=
  View.ld (Val := Elt F) T (Rect.unit (s := S64x512) (k1_off8 i t) S1x512.size (k1_off8_inb i t))
/-- The scores of the window's block `t`. -/
def tileS (i : grid1.Coords) (S : Vec F S4224x512 .f32) (t : Fin (k1_t3_loop i).trips) : Vec F S128x512 .f32 :=
  View.ld (Val := Elt F) S (Rect.unit (s := S4224x512) (k1_off7 i t) S128x512.size (k1_off7_inb i t))
/-- The values of the window's block `t`. -/
def tileV (i : grid1.Coords) (x3 : Vec F S1x1x64x128x128 .fp8e4m3) (t : Fin (k1_t3_loop i).trips) : Vec F S1x1x1x128x128 .fp8e4m3 :=
  View.ld (Val := Elt F) x3 (Rect.unit (s := S1x1x64x128x128) (k1_off9 i t) S1x1x1x128x128.size (k1_off9_inb i t))

/-- One trip: the accumulator and the denominator after block `t`. -/
def stp (i : grid1.Coords) (x3 : Vec F S1x1x64x128x128 .fp8e4m3) (S : Vec F S4224x512 .f32) (sc off pv ls : Vec F S64x512 .f32)
    (t : Fin (k1_t3_loop i).trips) (s : Vec F S128x512 .f32 × Vec F S1x512 .f32) : Vec F S128x512 .f32 × Vec F S1x512 .f32 :=
  (k1_pay58 (k1_pay4 (tileS i S t) (rowT i sc t) (rowT i off t) (tileV i x3 t) s.1 (rowT i pv t)),
   k1_pay3 (tileS i S t) (rowT i sc t) (rowT i off t) s.2 (rowT i ls t))

/-- The accumulator and the denominator after `n` blocks. -/
def fold (i : grid1.Coords) (x3 : Vec F S1x1x64x128x128 .fp8e4m3) (S : Vec F S4224x512 .f32) (sc off pv ls : Vec F S64x512 .f32) :
    ℕ → Vec F S128x512 .f32 × Vec F S1x512 .f32
  | 0 => (k1_pay56, k1_pay57 zF)
  | n + 1 => if h : n < (k1_t3_loop i).trips then stp i x3 S sc off pv ls ⟨n, h⟩ (fold i x3 S sc off pv ls n) else fold i x3 S sc off pv ls n

/-- The four heads' results, the last written first. -/
def outL (A : Vec F S128x512 .f32) (L : Vec F S1x512 .f32) : List (View.Piece (Elt F) S1x128x512 .bf16) :=
  [⟨Rect.unit (s := S1x128x512) ![0, 0, 384] S1x128x128.size inb_S1x128x512_S1x128x128_0_0_384, k1_pay1 (k1_pay64 A L)⟩,
   ⟨Rect.unit (s := S1x128x512) ![0, 0, 256] S1x128x128.size inb_S1x128x512_S1x128x128_0_0_256, k1_pay63 A L⟩,
   ⟨Rect.unit (s := S1x128x512) ![0, 0, 128] S1x128x128.size inb_S1x128x512_S1x128x128_0_0_128, k1_pay62 A L⟩,
   ⟨Rect.unit (s := S1x128x512) ![0, 0, 0] S1x128x128.size inb_S1x128x512_S1x128x128_0_0_0, k1_pay61 A L⟩]

/-- The accumulator and the denominator after the window. -/
def foldG (i : grid1.Coords) (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32) : Vec F S128x512 .f32 × Vec F S1x512 .f32 :=
  fold i x3 (sG i x0 x2) (k1_pay22 x1 x4) (View.canon (offL i x1 x4 (bG i x0 x2))) (View.canon (pvL i x1 x4 x5 (bG i x0 x2)))
    (View.canon (lsL i x1 x4 (bG i x0 x2))) (k1_t3_loop i).trips

/-- What one grid point writes: one query block, four heads. -/
def attnOut (i : grid1.Coords) (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32) : Vec F S1x128x512 .bf16 :=
  View.canon (outL (foldG i x0 x1 x2 x3 x4 x5).1 (foldG i x0 x1 x2 x3 x4 x5).2)

section Args
variable (c : Dev nD) (i : grid1.Coords) (arg3 : Memref sig .tc .vmem S1x128x512 .fp8e4m3) (harg3 : arg3.IsWhole) (arg4 : Memref sig .tc .vmem S1x1x1x512 .f32) (harg4 : arg4.IsWhole) (arg5 : Memref sig .tc .vmem S1x8192x128 .fp8e4m3) (harg5 : arg5.IsWhole) (arg6 : Memref sig .tc .vmem S1x1x64x128x128 .fp8e4m3) (harg6 : arg6.IsWhole) (arg7 : Memref sig .tc .vmem S1x1x64x1 .f32) (harg7 : arg7.IsWhole) (arg8 : Memref sig .tc .vmem S1x1x64x1 .f32) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S64x512 .f32) (harg16 : arg16.IsWhole) (arg17 : Memref sig .tc .vmem S64x512 .f32) (harg17 : arg17.IsWhole)
variable (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32)

theorem trip3_eq (a2 v1 : BitVec 32) (z : F .f32) (X6 : BufTy.Contents (Elt F) arg6.view.ty) (X10 : BufTy.Contents (Elt F) arg10.view.ty)
    (X14 : BufTy.Contents (Elt F) arg14.view.ty) (X15 : BufTy.Contents (Elt F) arg15.view.ty) (X16 : BufTy.Contents (Elt F) arg16.view.ty) (X17 : BufTy.Contents (Elt F) arg17.view.ty)
    (k : Fin (k1_t3_loop i).trips) (f11 : BufTy.Contents (Elt F) arg11.view.ty) (f12 : BufTy.Contents (Elt F) arg12.view.ty) :
    tripL_k1_t3 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 k f11 f12
      = ([⟨Rect.unit (s := S128x512) ![0, 0] S128x512.size inb_S128x512_S128x512_0_0,
            k1_pay58 (k1_pay4 (tileS i (arg10.view.read (Elt F) X10) k) (rowT i (arg14.view.read (Elt F) X14) k) (rowT i (arg15.view.read (Elt F) X15) k)
              (tileV i (arg6.view.read (Elt F) X6) k) (View.ld (arg11.view.read (Elt F) f11) (Rect.unit (s := S128x512) ![0, 0] S128x512.size inb_S128x512_S128x512_0_0)) (rowT i (arg16.view.read (Elt F) X16) k))⟩],
         [⟨Rect.unit (s := S1x512) ![0, 0] S1x512.size inb_S1x512_S1x512_0_0,
            k1_pay3 (tileS i (arg10.view.read (Elt F) X10) k) (rowT i (arg14.view.read (Elt F) X14) k) (rowT i (arg15.view.read (Elt F) X15) k)
              (View.ld (arg12.view.read (Elt F) f12) (Rect.unit (s := S1x512) ![0, 0] S1x512.size inb_S1x512_S1x512_0_0)) (rowT i (arg17.view.read (Elt F) X17) k)⟩]) := by
  unfold tripL_k1_t3 trip_k1_t3 tileS rowT tileV; dsimp only; rfl

end Args

theorem fst_nil_of_zero {α β : Type} (f : ℕ → List α × List β) (h0 : f 0 = ([], [])) (n : ℕ) (hn : n = 0) : (f n).1 = [] := by subst hn; rw [h0]
theorem snd_nil_of_zero {α β : Type} (f : ℕ → List α × List β) (h0 : f 0 = ([], [])) (n : ℕ) (hn : n = 0) : (f n).2 = [] := by subst hn; rw [h0]

section Fold
variable (c : Dev nD) (i : grid1.Coords) (arg3 : Memref sig .tc .vmem S1x128x512 .fp8e4m3) (harg3 : arg3.IsWhole) (arg4 : Memref sig .tc .vmem S1x1x1x512 .f32) (harg4 : arg4.IsWhole) (arg5 : Memref sig .tc .vmem S1x8192x128 .fp8e4m3) (harg5 : arg5.IsWhole) (arg6 : Memref sig .tc .vmem S1x1x64x128x128 .fp8e4m3) (harg6 : arg6.IsWhole) (arg7 : Memref sig .tc .vmem S1x1x64x1 .f32) (harg7 : arg7.IsWhole) (arg8 : Memref sig .tc .vmem S1x1x64x1 .f32) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S64x512 .f32) (harg16 : arg16.IsWhole) (arg17 : Memref sig .tc .vmem S64x512 .f32) (harg17 : arg17.IsWhole)
variable (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32)

theorem read_whole11 (G : BufTy.Contents (Elt F) arg11.view.ty) (w : Vec F S128x512 .f32) (L : List (View.Piece (Elt F) S128x512 .f32)) :
    arg11.view.read (Elt F) (arg11.view.writes (Elt F) G (⟨Rect.unit (s := S128x512) ![0, 0] S128x512.size inb_S128x512_S128x512_0_0, w⟩ :: L)) = w := by
  funext y
  exact View.read_writes_cons_rows_of_mem arg11.view G _ _ _ y y rfl (by simp) rfl
theorem read_whole12 (G : BufTy.Contents (Elt F) arg12.view.ty) (w : Vec F S1x512 .f32) (L : List (View.Piece (Elt F) S1x512 .f32)) :
    arg12.view.read (Elt F) (arg12.view.writes (Elt F) G (⟨Rect.unit (s := S1x512) ![0, 0] S1x512.size inb_S1x512_S1x512_0_0, w⟩ :: L)) = w := by
  funext y
  exact View.read_writes_cons_rows_of_mem arg12.view G _ _ _ y y rfl (by simp) rfl
theorem read_whole14 (G : BufTy.Contents (Elt F) arg14.view.ty) (w : Vec F S64x512 .f32) (L : List (View.Piece (Elt F) S64x512 .f32)) :
    arg14.view.read (Elt F) (arg14.view.writes (Elt F) G (⟨Rect.unit (s := S64x512) ![0, 0] S64x512.size inb_S64x512_S64x512_0_0, w⟩ :: L)) = w := by
  funext y
  exact View.read_writes_cons_rows_of_mem arg14.view G _ _ _ y y rfl (by simp) rfl

theorem cover_four (p0 p1 p2 p3 : Vec F S64x128 .f32) (y : S64x512.Idx) : ∃ p ∈ four64 p0 p1 p2 p3, y ∈ p.1.set := by
  exact View.cover_of_tiledL (four64 p0 p1 p2 p3) S64x128.size (by sl_kernel_rfl) y

theorem cover_out (A : Vec F S128x512 .f32) (L : Vec F S1x512 .f32) (y : S1x128x512.Idx) : ∃ p ∈ outL A L, y ∈ p.1.set := by
  exact View.cover_of_tiledL (outL A L) S1x128x128.size (by sl_kernel_rfl) y

theorem attn_close (f : BufTy.Contents (Elt F) arg9.view.ty) (A : Vec F S128x512 .f32) (L : Vec F S1x512 .f32)
    (hA : A = (foldG i x0 x1 x2 x3 x4 x5).1) (hL : L = (foldG i x0 x1 x2 x3 x4 x5).2) :
    arg9.view.read (Elt F) (arg9.view.writes (Elt F) f (outL A L)) = attnOut i x0 x1 x2 x3 x4 x5 := by
  rw [View.read_writes_eq_canon arg9.view f _ (cover_out A L), hA, hL]; rfl

theorem acc_val (a2 v1 : BitVec 32) (z : F .f32) (X6 : BufTy.Contents (Elt F) arg6.view.ty) (X10 : BufTy.Contents (Elt F) arg10.view.ty)
    (X14 : BufTy.Contents (Elt F) arg14.view.ty) (X15 : BufTy.Contents (Elt F) arg15.view.ty) (X16 : BufTy.Contents (Elt F) arg16.view.ty) (X17 : BufTy.Contents (Elt F) arg17.view.ty)
    (h6 : arg6.view.read (Elt F) X6 = x3)
    (h10 : ∀ t, tileS i (arg10.view.read (Elt F) X10) t = tileS i (sG i x0 x2) t)
    (h14 : arg14.view.read (Elt F) X14 = k1_pay22 x1 x4)
    (h15 : arg15.view.read (Elt F) X15 = View.canon (offL i x1 x4 (bG i x0 x2)))
    (h16 : arg16.view.read (Elt F) X16 = View.canon (pvL i x1 x4 x5 (bG i x0 x2)))
    (h17 : arg17.view.read (Elt F) X17 = View.canon (lsL i x1 x4 (bG i x0 x2)))
    (G11 : BufTy.Contents (Elt F) arg11.view.ty) (G12 : BufTy.Contents (Elt F) arg12.view.ty)
    (h11 : arg11.view.read (Elt F) G11 = k1_pay56) (h12 : arg12.view.read (Elt F) G12 = k1_pay57 zF) (n : ℕ) (hn : n ≤ (k1_t3_loop i).trips) :
    arg11.view.read (Elt F) (arg11.view.writes (Elt F) G11 (pb_k1_t3 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 G11 G12 n).1)
        = (fold i x3 (sG i x0 x2) (k1_pay22 x1 x4) (View.canon (offL i x1 x4 (bG i x0 x2))) (View.canon (pvL i x1 x4 x5 (bG i x0 x2))) (View.canon (lsL i x1 x4 (bG i x0 x2))) n).1
    ∧ arg12.view.read (Elt F) (arg12.view.writes (Elt F) G12 (pb_k1_t3 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 G11 G12 n).2)
        = (fold i x3 (sG i x0 x2) (k1_pay22 x1 x4) (View.canon (offL i x1 x4 (bG i x0 x2))) (View.canon (pvL i x1 x4 x5 (bG i x0 x2))) (View.canon (lsL i x1 x4 (bG i x0 x2))) n).2 := by
  induction n with
  | zero => exact ⟨h11, h12⟩
  | succ n ih =>
    obtain ⟨i1, i2⟩ := ih (by omega)
    have e := pb_k1_t3_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 G11 G12 ⟨n, hn⟩
    have e2 := trip3_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 ⟨n, hn⟩ (arg11.view.writes (Elt F) G11 (pb_k1_t3 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 G11 G12 n).1)
      (arg12.view.writes (Elt F) G12 (pb_k1_t3 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 a2 v1 z X6 X10 X14 X15 X16 X17 G11 G12 n).2)
    have e3 := congrArg Prod.fst e2; have e4 := congrArg Prod.snd e2
    have e5 := congrArg Prod.fst e; have e6 := congrArg Prod.snd e
    dsimp only at e3 e4 e5 e6
    rw [e5, e6, e3, e4, List.singleton_append, List.singleton_append, read_whole11, read_whole12, fold, dif_pos (show n < _ from hn), i1, i2, h6, h10, h14, h15, h16, h17,
      View.ld_unit_zero (by funext a; fin_cases a <;> rfl), View.ld_unit_zero (by funext a; fin_cases a <;> rfl)]
    exact ⟨rfl, rfl⟩

theorem cov11 (H : List (View.Piece (Elt F) S128x512 .f32)) (L3 L4 : List (View.Piece (Elt F) S128x512 .f32)) (h : L4 = []) :
    arg11.view.readCov (L4 ++ (L3 ++ H)) (Rect.unit (s := S128x512) ![0, 0] S128x512.size inb_S128x512_S128x512_0_0).toLoadRect
      = arg11.view.read (Elt F) (arg11.view.writes (Elt F) (arg11.view.writes (Elt F) arg11.view.junk H) L3) := by
  subst h
  rw [List.nil_append, ← View.writes_append]
  exact View.ld_unit_zero (by funext a; fin_cases a <;> rfl) _ _
theorem cov12 (H : List (View.Piece (Elt F) S1x512 .f32)) (L3 L4 : List (View.Piece (Elt F) S1x512 .f32)) (h : L4 = []) :
    arg12.view.readCov (L4 ++ (L3 ++ H)) (Rect.unit (s := S1x512) ![0, 0] S1x512.size inb_S1x512_S1x512_0_0).toLoadRect
      = arg12.view.read (Elt F) (arg12.view.writes (Elt F) (arg12.view.writes (Elt F) arg12.view.junk H) L3) := by
  subst h
  rw [List.nil_append, ← View.writes_append]
  exact View.ld_unit_zero (by funext a; fin_cases a <;> rfl) _ _

theorem tileS_read (f : BufTy.Contents (Elt F) arg10.view.ty) (q : Vec F S1x128x512 .fp8e4m3) (hq : q = x0) (X : BufTy.Contents (Elt F) arg5.view.ty)
    (hX : arg5.view.read (Elt F) X = x2) (L2 : List (View.Piece (Elt F) S4224x512 .f32)) (h2 : L2 = []) (t : Fin (k1_t3_loop i).trips) :
    tileS i (arg10.view.read (Elt F) (arg10.view.writes (Elt F) f (L2 ++ (pb_k1_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 q X (k1_t1_loop i).trips).1))) t
      = tileS i (sG i x0 x2) t := by
  subst h2 hq hX
  rw [List.nil_append]
  funext x
  have h := read_s c i arg3 harg3 arg4 harg4 arg5 harg5 arg6 harg6 arg7 harg7 arg8 harg8 arg9 harg9 arg10 harg10 arg11 harg11 arg12 harg12 arg13 harg13 arg14 harg14 arg15 harg15 arg16 harg16 arg17 harg17 q X f _ (le_refl _) ((Rect.unit (s := S4224x512) (k1_off7 i t) S128x512.size (k1_off7_inb i t)).idx x)
  refine h.trans (if_pos ?_)
  have h3 : (((Rect.unit (s := S4224x512) (k1_off7 i t) S128x512.size (k1_off7_inb i t)).idx x) 0).val = k1_off7 i t 0 + 1 * (x 0).val := rfl
  rw [h3, off7_eq]
  have h4 : (x 0).val < 128 := (x 0).isLt
  have h5 : t.val < (k1_t1_loop i).trips := t.isLt
  show (128 * t.val + 1 * (x 0).val) / 128 < _
  omega

theorem b_read (f : BufTy.Contents (Elt F) arg13.view.ty) (q : Vec F S1x128x512 .fp8e4m3) (hq : q = x0) (X : BufTy.Contents (Elt F) arg5.view.ty)
    (hX : arg5.view.read (Elt F) X = x2) (L2 : List (View.Piece (Elt F) S64x512 .f32)) (h2 : L2 = []) (y : S64x512.Idx) (hy : jlo i ≤ (y 0).val) (hy2 : (y 0).val ≤ (i 2).val) :
    View.readAt (Elt F) arg13.view (Rect.unit (s := S64x512) ![0, 0] S64x512.size inb_S64x512_S64x512_0_0).toLoadRect
      (arg13.view.writes (Elt F) f (L2 ++ (pb_k1_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 q X (k1_t1_loop i).trips).2)) y = bG i x0 x2 y := by
  subst h2 hq hX
  rw [List.nil_append, View.readAt_eq_ld, View.ld_unit_zero (by funext a; fin_cases a <;> rfl)]
  refine (read_b c i arg3 harg3 arg4 harg4 arg5 harg5 arg6 harg6 arg7 harg7 arg8 harg8 arg9 harg9 arg10 harg10 arg11 harg11 arg12 harg12 arg13 harg13 arg14 harg14 arg15 harg15 arg16 harg16 arg17 harg17 q X f _ (le_refl _) y).trans (if_pos ⟨hy, ?_⟩)
  rw [trips1_eq]
  unfold jlo at *
  omega
end Fold

section Tabs
variable (i : grid1.Coords) (arg3 : Memref sig .tc .vmem S1x128x512 .fp8e4m3) (harg3 : arg3.IsWhole) (arg4 : Memref sig .tc .vmem S1x1x1x512 .f32) (harg4 : arg4.IsWhole) (arg5 : Memref sig .tc .vmem S1x8192x128 .fp8e4m3) (harg5 : arg5.IsWhole) (arg6 : Memref sig .tc .vmem S1x1x64x128x128 .fp8e4m3) (harg6 : arg6.IsWhole) (arg7 : Memref sig .tc .vmem S1x1x64x1 .f32) (harg7 : arg7.IsWhole) (arg8 : Memref sig .tc .vmem S1x1x64x1 .f32) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S64x512 .f32) (harg16 : arg16.IsWhole) (arg17 : Memref sig .tc .vmem S64x512 .f32) (harg17 : arg17.IsWhole)
variable (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32)
variable (q1 : Vec F S1x1x1x512 .f32) (h1 : q1 = x1) (q4 : Vec F S1x1x64x1 .f32) (h4 : q4 = x4) (q5 : Vec F S1x1x64x1 .f32) (h5 : q5 = x5) (b : Vec F S64x512 .f32)
  (hb : ∀ y : S64x512.Idx, jlo i ≤ (y 0).val → (y 0).val ≤ (i 2).val → b y = bG i x0 x2 y)
include h1 h4 hb
theorem tab15 (f : BufTy.Contents (Elt F) arg15.view.ty) :
    arg15.view.read (Elt F) (arg15.view.writes (Elt F) f (offL i q1 q4 b)) = View.canon (offL i x1 x4 (bG i x0 x2)) := by
  subst h1 h4
  exact (View.read_writes_eq_canon arg15.view f _ (cover_four _ _ _ _)).trans (by rw [← offL_congr i q1 q4 b _ hb]; rfl)
theorem tab17 (f : BufTy.Contents (Elt F) arg17.view.ty) :
    arg17.view.read (Elt F) (arg17.view.writes (Elt F) f (lsL i q1 q4 b)) = View.canon (lsL i x1 x4 (bG i x0 x2)) := by
  subst h1 h4
  exact (View.read_writes_eq_canon arg17.view f _ (cover_four _ _ _ _)).trans (by rw [← lsL_congr i q1 q4 b _ hb]; rfl)
include h5
theorem tab16 (f : BufTy.Contents (Elt F) arg16.view.ty) :
    arg16.view.read (Elt F) (arg16.view.writes (Elt F) f (pvL i q1 q4 q5 b)) = View.canon (pvL i x1 x4 x5 (bG i x0 x2)) := by
  subst h1 h4 h5
  exact (View.read_writes_eq_canon arg16.view f _ (cover_four _ _ _ _)).trans (by rw [← pvL_congr i q1 q4 q5 b _ hb]; rfl)
end Tabs

end Cert.KernelIdeal.Gen
-- ==== Proof.KernelIdeal.Attn.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import proofs.«01_k».proof.Proof.KernelIdeal.AttnDefs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4044000 in
/-- One grid point of the attention call: the inputs stay, the result block ends at `attnOut` of them. -/
theorem sound_kernel1 (c : Dev nD) (E : Set ℕ) (i : grid1.Coords) (arg3 : Memref sig .tc .vmem S1x128x512 .fp8e4m3) (harg3 : arg3.IsWhole) (arg4 : Memref sig .tc .vmem S1x1x1x512 .f32) (harg4 : arg4.IsWhole) (arg5 : Memref sig .tc .vmem S1x8192x128 .fp8e4m3) (harg5 : arg5.IsWhole) (arg6 : Memref sig .tc .vmem S1x1x64x128x128 .fp8e4m3) (harg6 : arg6.IsWhole) (arg7 : Memref sig .tc .vmem S1x1x64x1 .f32) (harg7 : arg7.IsWhole) (arg8 : Memref sig .tc .vmem S1x1x64x1 .f32) (harg8 : arg8.IsWhole) (arg9 : Memref sig .tc .vmem S1x128x512 .bf16) (harg9 : arg9.IsWhole) (arg10 : Memref sig .tc .vmem S4224x512 .f32) (harg10 : arg10.IsWhole) (arg11 : Memref sig .tc .vmem S128x512 .f32) (harg11 : arg11.IsWhole) (arg12 : Memref sig .tc .vmem S1x512 .f32) (harg12 : arg12.IsWhole) (arg13 : Memref sig .tc .vmem S64x512 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S64x512 .f32) (harg16 : arg16.IsWhole) (arg17 : Memref sig .tc .vmem S64x512 .f32) (harg17 : arg17.IsWhole)
    (x0 : Vec F S1x128x512 .fp8e4m3) (x1 : Vec F S1x1x1x512 .f32) (x2 : Vec F S1x8192x128 .fp8e4m3) (x3 : Vec F S1x1x64x128x128 .fp8e4m3) (x4 : Vec F S1x1x64x1 .f32) (x5 : Vec F S1x1x64x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (attnOut i x0 x1 x2 x3 x4 x5) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc1_swa_attention i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1_swa_attention_eq_skeleton]; unfold cc1_swa_attention_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec
  sl_step
  iapply Hk
  have e0 : View.readAt (Elt F) arg3.view (Rect.unit (s := S1x128x512) ![0, 0, 0] S1x128x512.size inb_S1x128x512_S1x128x512_0_0_0).toLoadRect (harg3.unread x0) = x0 := by
    rw [View.readAt_eq_ld, harg3.read_unread, View.ld_unit_zero (by funext a; fin_cases a <;> rfl)]
  have e1 : View.readAt (Elt F) arg4.view (Rect.unit (s := S1x1x1x512) ![0, 0, 0, 0] S1x1x1x512.size inb_S1x1x1x512_S1x1x1x512_0_0_0_0).toLoadRect (harg4.unread x1) = x1 := by
    rw [View.readAt_eq_ld, harg4.read_unread, View.ld_unit_zero (by funext a; fin_cases a <;> rfl)]
  have e4 : View.readAt (Elt F) arg7.view (Rect.unit (s := S1x1x64x1) ![0, 0, 0, 0] S1x1x64x1.size inb_S1x1x64x1_S1x1x64x1_0_0_0_0).toLoadRect (harg7.unread x4) = x4 := by
    rw [View.readAt_eq_ld, harg7.read_unread, View.ld_unit_zero (by funext a; fin_cases a <;> rfl)]
  have e5 : View.readAt (Elt F) arg8.view (Rect.unit (s := S1x1x64x1) ![0, 0, 0, 0] S1x1x64x1.size inb_S1x1x64x1_S1x1x64x1_0_0_0_0).toLoadRect (harg8.unread x5) = x5 := by
    rw [View.readAt_eq_ld, harg8.read_unread, View.ld_unit_zero (by funext a; fin_cases a <;> rfl)]
  isplitl [H0]; · iexists _; isplitr; swap; · iexact H0
                  ipureintro; exact harg3.read_unread _
  isplitl [H1]; · iexists _; isplitr; swap; · iexact H1
                  ipureintro; exact harg4.read_unread _
  isplitl [H2]; · iexists _; isplitr; swap; · iexact H2
                  ipureintro; exact harg5.read_unread _
  isplitl [H3]; · iexists _; isplitr; swap; · iexact H3
                  ipureintro; exact harg6.read_unread _
  isplitl [H4]; · iexists _; isplitr; swap; · iexact H4
                  ipureintro; exact harg7.read_unread _
  isplitl [H5]; · iexists _; isplitr; swap; · iexact H5
                  ipureintro; exact harg8.read_unread _
  isplitl [H6]
  · iexists _; isplitr
    swap; · iexact H6
    ipureintro
    apply attn_close
    · refine (cov11 (h := fst_nil_of_zero _ rfl _ (trips4_eq i)) ..).trans (acc_val (h6 := harg6.read_unread _) (h10 := fun t => tileS_read (hq := e0) (hX := harg5.read_unread _) (h2 := fst_nil_of_zero _ rfl _ (trips2_eq i)) ..)
        (h14 := (read_whole14 ..).trans (by rw [e1, e4])) (h15 := ?_) (h16 := ?_) (h17 := ?_) (h11 := read_whole11 ..) (h12 := read_whole12 ..) (n := (k1_t3_loop i).trips) (hn := le_refl _) ..).1
      · exact tab15 (h1 := e1) (h4 := e4) (hb := fun y h1 h2 => b_read (hq := e0) (hX := harg5.read_unread _) (h2 := snd_nil_of_zero _ rfl _ (trips2_eq i)) (hy := h1) (hy2 := h2) ..) ..
      · exact tab16 (h1 := e1) (h4 := e4) (h5 := e5) (hb := fun y h1 h2 => b_read (hq := e0) (hX := harg5.read_unread _) (h2 := snd_nil_of_zero _ rfl _ (trips2_eq i)) (hy := h1) (hy2 := h2) ..) ..
      · exact tab17 (h1 := e1) (h4 := e4) (hb := fun y h1 h2 => b_read (hq := e0) (hX := harg5.read_unread _) (h2 := snd_nil_of_zero _ rfl _ (trips2_eq i)) (hy := h1) (hy2 := h2) ..) ..
    · refine (cov12 (h := snd_nil_of_zero _ rfl _ (trips4_eq i)) ..).trans (acc_val (h6 := harg6.read_unread _) (h10 := fun t => tileS_read (hq := e0) (hX := harg5.read_unread _) (h2 := fst_nil_of_zero _ rfl _ (trips2_eq i)) ..)
        (h14 := (read_whole14 ..).trans (by rw [e1, e4])) (h15 := ?_) (h16 := ?_) (h17 := ?_) (h11 := read_whole11 ..) (h12 := read_whole12 ..) (n := (k1_t3_loop i).trips) (hn := le_refl _) ..).2
      · exact tab15 (h1 := e1) (h4 := e4) (hb := fun y h1 h2 => b_read (hq := e0) (hX := harg5.read_unread _) (h2 := snd_nil_of_zero _ rfl _ (trips2_eq i)) (hy := h1) (hy2 := h2) ..) ..
      · exact tab16 (h1 := e1) (h4 := e4) (h5 := e5) (hb := fun y h1 h2 => b_read (hq := e0) (hX := harg5.read_unread _) (h2 := snd_nil_of_zero _ rfl _ (trips2_eq i)) (hy := h1) (hy2 := h2) ..) ..
      · exact tab17 (h1 := e1) (h4 := e4) (hb := fun y h1 h2 => b_read (hq := e0) (hX := harg5.read_unread _) (h2 := snd_nil_of_zero _ rfl _ (trips2_eq i)) (hy := h1) (hy2 := h2) ..) ..
  isplitl [HS0]; · iexists _; iexists _; isplitr; swap; · iexact HS0
                   ipureintro; rfl
  isplitl [HS1]; · iexists _; iexists _; isplitr; swap; · iexact HS1
                   ipureintro; rfl
  isplitl [HS2]; · iexists _; iexists _; isplitr; swap; · iexact HS2
                   ipureintro; rfl
  isplitl [HS3]; · iexists _; iexists _; isplitr; swap; · iexact HS3
                   ipureintro; rfl
  isplitl [HS4]; · iexists _; iexists _; isplitr; swap; · iexact HS4
                   ipureintro; rfl
  isplitl [HS5]; · iexists _; iexists _; isplitr; swap; · iexact HS5
                   ipureintro; rfl
  isplitl [HS6]; · iexists _; iexists _; isplitr; swap; · iexact HS6
                   ipureintro; rfl
  iexists _; iexists _; isplitr; swap; · iexact HS7
  ipureintro; rfl

section Regions
variable (V : (c : Dev nD) → (b : Ref sig .tc) → Buf (Elt F) ((c : Thread nD τ).loc b))

/-! # REGION 1 of @main: custom_call 1, `cc1_swa_attention` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S1x128x512 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192x128 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64x128x128 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x64x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x64x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128x512 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S4224x512 .f32 := Memref.whole cc1_scratch0
abbrev scM1_1 : Memref sig .tc .vmem S128x512 .f32 := Memref.whole cc1_scratch1
abbrev scM1_2 : Memref sig .tc .vmem S1x512 .f32 := Memref.whole cc1_scratch2
abbrev scM1_3 : Memref sig .tc .vmem S64x512 .f32 := Memref.whole cc1_scratch3
abbrev scM1_4 : Memref sig .tc .vmem S64x512 .f32 := Memref.whole cc1_scratch4
abbrev scM1_5 : Memref sig .tc .vmem S64x512 .f32 := Memref.whole cc1_scratch5
abbrev scM1_6 : Memref sig .tc .vmem S64x512 .f32 := Memref.whole cc1_scratch6
abbrev scM1_7 : Memref sig .tc .vmem S64x512 .f32 := Memref.whole cc1_scratch7

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f) ∗ (∃ f : Buf (Elt F) ((c : Thread nD τ).loc cc1_scratch6), ((c : Thread nD τ).loc cc1_scratch6) ↦{fullShare} f) ∗ (∃ f : Buf (Elt F) ((c : Thread nD τ).loc cc1_scratch7), ((c : Thread nD τ).loc cc1_scratch7) ↦{fullShare} f) ∗ Pipeline.scopedRestBut spec1 c [cc1_scratch0, cc1_scratch1, cc1_scratch2, cc1_scratch3, cc1_scratch4, cc1_scratch5, cc1_scratch6, cc1_scratch7]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest1_split, assoc, assoc, assoc, assoc, assoc, assoc, assoc]

/-- The frame kit's invariant with the scratch operands as memrefs owned at some contents (`Gen.scopedRest1_flat`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d) ∗ (∃ d, owns (c : Thread nD τ) scM1_6 fullShare d) ∗ (∃ d, owns (c : Thread nD τ) scM1_7 fullShare d) ∗ Pipeline.scopedRestBut spec1 c [cc1_scratch0, cc1_scratch1, cc1_scratch2, cc1_scratch3, cc1_scratch4, cc1_scratch5, cc1_scratch6, cc1_scratch7]) ∗ (∃ r, prngReg c r)) := by
  unfold Pipeline.ΦA; rw [scopedRest1_flat]; simp only [scM1_0, scM1_1, scM1_2, scM1_3, scM1_4, scM1_5, scM1_6, scM1_7, owns_whole]; try rfl

/-! ## The pipeline's proof data -/

/-- The proof data of pipeline 1 on core `c`: the arrays as the region finds them (`V`); after the body at
    point `t` each input's buffer at its block and the output's at `attnOut` of the input blocks; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => attnOut (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = attnOut (grid1.coords t) (iblk1 V c 0 t) (iblk1 V c 1 t) (iblk1 V c 2 t) (iblk1 V c 3 t) (iblk1 V c 4 t) (iblk1 V c 5 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1200000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  iintro ⟨⟨⟨HS0, HS1, HS2, HS3, HS4, HS5, HS6, HS7, HR8⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, HS0, HS1, HS2, HS3, HS4, HS5, HS6, HS7⟩
  isplitl [HS0 HS1 HS2 HS3 HS4 HS5 HS6 HS7 HR8 Hg]
  · isplitl [HS0 HS1 HS2 HS3 HS4 HS5 HS6 HS7 HR8]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      iexact HR8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions
end Cert.KernelIdeal.Gen
-- ==== Proof.KernelIdeal.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import proofs.«01_k».proof.Proof.KernelIdeal.Quant
public import proofs.«01_k».proof.Proof.KernelIdeal.Attn

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2, main_v3, main_v4, main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every weakly fair execution terminates with every buffer of the launch at the last boundary's
    contents and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame: every execution terminates, nothing faulting, the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c)⟩, h.2⟩) (run_all m ρ)

end Cert.KernelIdeal.Gen
-- ==== Proof.Value.Spec.lean ====
module

public import Idealize.ShloMosaic.Lib.Pointwise
public import Mathlib.Analysis.SpecialFunctions.Pow.Real

@[expose] public section

noncomputable section

namespace Cert.Spec
open Idealize.ShloMosaic

/-- The exponent a tile of largest magnitude `a` gets when `a` is not zero: one more than the base-two
    logarithm of `a / 448`, rounded down. -/
def lvl (a : EReal) : BitVec 32 :=
  IntOp.addi (Ideal.fptosi 32 (Ideal.liftRound Int.floor
    (Ideal.div (Ideal.log (a * Ideal.ofBits .f32 0x3B124925#32)) ((Real.log 2 : ℝ) : EReal)))) 1#32

/-- The exponent of a tile: zero for a tile of zeros. -/
def expo (a : EReal) : BitVec 32 := if a = 0 then 0#32 else lvl a

/-- Two to the power of an exponent. -/
def pow (e : BitVec 32) : EReal := ((Real.rpow 2 (e.toInt : ℝ) : ℝ) : EReal)

/-- A value cut to the range of a code. -/
def clip (x : EReal) : EReal := min (Ideal.ofBits .f32 0x43E00000#32) (max (Ideal.ofBits .f32 0xC3E00000#32) x)

/-- The code of `t` under exponent `e`. -/
def code (t : EReal) (e : BitVec 32) : EReal := clip (t * pow (IntOp.subi 0#32 e))

theorem exp_ln2 (e : BitVec 32) :
    Ideal.exp (((e.toInt : ℝ) : EReal) * ((Real.log 2 : ℝ) : EReal)) = pow e := by
  rw [← EReal.coe_mul]
  change ((Real.exp _ : ℝ) : EReal) = ((Real.rpow 2 _ : ℝ) : EReal)
  congr 1
  change _ = (2 : ℝ) ^ (e.toInt : ℝ)
  rw [Real.rpow_def_of_pos (by norm_num), mul_comm]

theorem exp2_int (e : BitVec 32) : Ideal.exp2 ((e.toInt : ℝ) : EReal) = pow e := rfl

theorem two_eq : Ideal.ofBits .f32 0x40000000#32 = ((2 : ℝ) : EReal) := by
  simp [Ideal.ofBits, Ideal.ieee, -EReal.coe_mul]; try norm_num

theorem log_two : Ideal.log (Ideal.ofBits .f32 0x40000000#32) = ((Real.log 2 : ℝ) : EReal) := by
  rw [two_eq]
  change (if (2 : ℝ) ≤ 0 then ⊥ else ((Real.log 2 : ℝ) : EReal)) = _
  rw [if_neg (by norm_num)]

theorem c448 : Ideal.ofBits .f32 0x43E00000#32 = ((448 : ℝ) : EReal) := by
  simp [Ideal.ofBits, Ideal.ieee, -EReal.coe_mul]; try norm_num
theorem cm448 : Ideal.ofBits .f32 0xC3E00000#32 = ((-448 : ℝ) : EReal) := by
  simp [Ideal.ofBits, Ideal.ieee, -EReal.coe_mul]; try norm_num
theorem cinv : Ideal.ofBits .f32 0x3B124925#32 = (((9586981 : ℝ) / 2 ^ 32 : ℝ) : EReal) := by
  simp [Ideal.ofBits, Ideal.ieee, -EReal.coe_mul]; try norm_num
theorem cbot : Ideal.ofBits .f32 0xFF800000#32 = ⊥ := by
  simp [Ideal.ofBits, Ideal.ieee]
theorem c128 : Ideal.ofBits .f32 0x43000000#32 = ((128 : ℝ) : EReal) := by
  simp [Ideal.ofBits, Ideal.ieee, -EReal.coe_mul]; try norm_num

/-- The factor of the scores: one over the square root of the head dimension. -/
theorem rsqrt128 : Ideal.div 1 (Ideal.sqrt (Ideal.ofBits .f32 0x43000000#32)) = (((Real.sqrt 128)⁻¹ : ℝ) : EReal) := by
  have h : (0 : ℝ) < Real.sqrt 128 := Real.sqrt_pos.mpr (by norm_num)
  rw [c128]
  change Ideal.div 1 (if (128 : ℝ) < 0 then ⊥ else ((Real.sqrt 128 : ℝ) : EReal)) = _
  rw [if_neg (by norm_num), Ideal.div_coe h.ne', one_mul, one_div]

theorem clip_real (x : EReal) : ∃ r : ℝ, clip x = (r : EReal) := by
  unfold clip; rw [c448, cm448]
  induction x using EReal.rec with
  | bot => exact ⟨-448, by rw [max_eq_left bot_le, min_eq_right]; exact_mod_cast (by norm_num : (-448 : ℝ) ≤ 448)⟩
  | top => exact ⟨448, by rw [max_eq_right le_top, min_eq_left le_top]⟩
  | coe x => exact ⟨min 448 (max (-448) x), by
      rw [← EReal.coe_strictMono.monotone.map_max, ← EReal.coe_strictMono.monotone.map_min]⟩

theorem clip_zero : clip 0 = 0 := by
  unfold clip; rw [c448, cm448]
  rw [max_eq_right (by exact_mod_cast (by norm_num : (-448 : ℝ) ≤ 0)),
    min_eq_right (by exact_mod_cast (by norm_num : (0 : ℝ) ≤ 448))]

/-- The product of `a` with the reciprocal of 448 is zero only where `a` is. -/
theorem mul_cinv_eq_zero (a : EReal) : a * Ideal.ofBits .f32 0x3B124925#32 = 0 ↔ a = 0 := by
  rw [cinv, mul_eq_zero]
  refine or_iff_left ?_
  exact_mod_cast (by norm_num : ((9586981 : ℝ) / 2 ^ 32) ≠ 0)

/-- The kernel's guard also asks whether the product is zero; that changes nothing. -/
theorem expo_guard (a : EReal) :
    (if a = 0 ∨ a * Ideal.ofBits .f32 0x3B124925#32 = 0 then 0#32 else lvl a) = expo a := by
  unfold expo; simp only [mul_cinv_eq_zero, or_self]

/-- For a largest magnitude between zero and one the exponent lies strictly above the least word. -/
theorem expo_range (a : EReal) (h0 : 0 ≤ a) (h1 : a ≤ 1) : -2 ^ 31 < (expo a).toInt ∧ (expo a).toInt ≤ 0 := by
  unfold expo
  split
  · decide
  rename_i hne
  lift a to ℝ using ⟨ne_of_lt (lt_of_le_of_lt h1 (by exact EReal.coe_lt_top 1)), ne_of_gt (lt_of_lt_of_le (EReal.bot_lt_zero) h0)⟩
  have hp : 0 < a := lt_of_le_of_ne (by exact_mod_cast h0) (by rintro rfl; exact hne rfl)
  have hle : a ≤ 1 := by exact_mod_cast h1
  have hL : 0 < Real.log 2 := Real.log_pos (by norm_num)
  set x : ℝ := a * ((9586981 : ℝ) / 2 ^ 32) with hx
  have hx0 : 0 < x := by positivity
  have hx1 : x < 1 := by
    have : x ≤ 1 * ((9586981 : ℝ) / 2 ^ 32) := by rw [hx]; gcongr
    exact lt_of_le_of_lt this (by norm_num)
  have hf : ⌊Real.log x * (1 / Real.log 2)⌋ < 0 := by
    rw [Int.floor_lt]
    have := Real.log_neg hx0 hx1
    have h2 : 0 < 1 / Real.log 2 := by positivity
    push_cast
    nlinarith
  have e1 : lvl (a : EReal) = IntOp.addi (Ideal.fptosi 32 (((⌊Real.log x * (1 / Real.log 2)⌋ : ℝ)) : EReal)) 1#32 := by
    unfold lvl
    rw [cinv, ← EReal.coe_mul, ← hx]
    change IntOp.addi (Ideal.fptosi 32 (Ideal.liftRound Int.floor (Ideal.div (if x ≤ 0 then ⊥ else ((Real.log x : ℝ) : EReal)) _))) _ = _
    rw [if_neg (not_le.mpr hx0), Ideal.div_coe hL.ne', ← EReal.coe_mul]
    rfl
  rw [e1]
  set n : ℤ := ⌊Real.log x * (1 / Real.log 2)⌋ with hn
  have e2 : ∃ k : ℤ, -2 ^ 31 ≤ k ∧ k < 0 ∧ Ideal.fptosi 32 (((n : ℝ)) : EReal) = BitVec.ofInt 32 k := by
    refine ⟨max (-(2 ^ (32 - 1) : ℕ)) (min ((2 ^ (32 - 1) : ℕ) - 1) n), ?_, ?_, ?_⟩
    · norm_num
    · norm_num; omega
    · unfold Ideal.fptosi
      congr 1
      change max _ (min _ (if 0 ≤ (n : ℝ) then ⌊(n : ℝ)⌋ else ⌈(n : ℝ)⌉)) = _
      rw [Int.floor_intCast, Int.ceil_intCast, ite_self]
  obtain ⟨k, hk1, hk2, hk⟩ := e2
  rw [hk]
  have : (IntOp.addi (BitVec.ofInt 32 k) 1#32) = BitVec.ofInt 32 (k + 1) := by
    change BitVec.ofInt 32 k + 1#32 = _
    rw [BitVec.ofInt_add]; rfl
  rw [this, BitVec.toInt_ofInt]
  have : (k + 1).bmod (2 ^ 32) = k + 1 := Int.bmod_eq_of_le (by norm_num; omega) (by norm_num; omega)
  rw [this]; omega

/-- The negation of such an exponent is exact. -/
theorem pow_neg (e : BitVec 32) (h : -2 ^ 31 < e.toInt) :
    pow (IntOp.subi 0#32 e) = ((Real.rpow 2 (-(e.toInt : ℝ)) : ℝ) : EReal) := by
  unfold pow
  have : (IntOp.subi 0#32 e).toInt = - e.toInt := by
    change (0#32 - e).toInt = _
    have := BitVec.toInt_lt (x := e)
    rw [BitVec.toInt_sub]
    simp
    refine Int.bmod_eq_of_le ?_ ?_ <;> norm_num <;> norm_num at h this <;> omega
  rw [this]; push_cast; rfl

/-- The window's test on a distance held in a word. -/
theorem win_int (n : ℤ) (h0 : -2 ^ 31 ≤ n) (h1 : n < 2 ^ 31) :
    IntOp.andi (IntOp.cmpi .sge (BitVec.ofInt 32 n) 0#32) (IntOp.cmpi .slt (BitVec.ofInt 32 n) 4096#32)
      = BitVec.ofBool (decide (0 ≤ n ∧ n < 4096)) := by
  have hb : (BitVec.ofInt 32 n).toInt = n := by rw [BitVec.toInt_ofInt]; exact Int.bmod_eq_of_le (by norm_num; omega) (by norm_num; omega)
  by_cases a : 0 ≤ n <;> by_cases b : n < 4096 <;> simp [IntOp.cmpi, IntOp.andi, BitVec.slt, BitVec.sle, hb, a, b]

/-- The distance from a key to a query, in a word. -/
theorem dist_word (i r j c : ℕ) :
    IntOp.subi (IntOp.addi (IntOp.muli (BitVec.ofNat 32 i) 128#32) (BitVec.ofNat 32 r))
      (IntOp.addi (IntOp.muli (BitVec.ofNat 32 j) 128#32) (BitVec.ofNat 32 c))
      = BitVec.ofInt 32 ((128 * i + r : ℤ) - (128 * j + c)) := by
  have e : (128#32) = BitVec.ofInt 32 128 := rfl
  simp only [IntOp.subi, IntOp.addi, IntOp.muli, e, ← BitVec.ofInt_natCast]
  change _ * _ + _ - (_ * _ + _) = _
  rw [← BitVec.ofInt_mul, ← BitVec.ofInt_mul, ← BitVec.ofInt_add, ← BitVec.ofInt_add, BitVec.sub_eq_add_neg, ← BitVec.ofInt_neg, ← BitVec.ofInt_add]
  congr 1; push_cast; ring

/-- Key row `c` of block `j` lies in the causal window of query row `r` of block `i`. -/
abbrev Win (i : Fin 64) (r : Fin 128) (j : Fin 64) (c : Fin 128) : Prop :=
  128 * j.val + c.val ≤ 128 * i.val + r.val ∧ 128 * i.val + r.val < 128 * j.val + c.val + 4096

theorem win_select {α : Type} (i : Fin 64) (r : Fin 128) (j : Fin 64) (c : Fin 128) (w : BitVec 32) (x y : α)
    (hw : w = BitVec.ofInt 32 ((128 * i.val + r.val : ℤ) - (128 * j.val + c.val))) :
    Scalar.select (IntOp.andi (IntOp.cmpi .sge w 0#32) (IntOp.cmpi .slt w 4096#32)) x y = if Win i r j c then x else y := by
  subst hw
  rw [win_int _ (by omega) (by omega)]
  unfold Scalar.select Win
  by_cases h : 128 * j.val + c.val ≤ 128 * i.val + r.val ∧ 128 * i.val + r.val < 128 * j.val + c.val + 4096
  · rw [if_pos h, decide_eq_true (by omega)]; rfl
  · rw [if_neg h, decide_eq_false (by omega)]; rfl

end Cert.Spec
-- ==== Proof.Value.Math.lean ====
module

public import proofs.«01_k».proof.Proof.Value.Spec

@[expose] public section

noncomputable section

namespace Cert.Spec
open Idealize.ShloMosaic

/-! One query block of one head: `S r j c` is the raw score of query row `r` against row `c` of key block `j`,
    `W r j c` says that the pair lies in the causal window. -/

section Defs
variable (S : Fin 128 → Fin 64 → Fin 128 → EReal) (W : Fin 128 → Fin 64 → Fin 128 → Prop)
  [∀ r j c, Decidable (W r j c)] (qs : EReal) (ks vs : Fin 64 → EReal) (V : Fin 64 → Fin 128 → Fin 128 → EReal)

/-- The scaled, masked score. -/
def rs (r : Fin 128) (j : Fin 64) (c : Fin 128) : EReal :=
  if W r j c then S r j c * (qs * ks j * (((Real.sqrt 128)⁻¹ : ℝ) : EReal)) else ⊥
/-- The row's largest score. -/
def rm (r : Fin 128) : EReal := Finset.univ.sup fun j => Finset.univ.sup fun c => rs S W qs ks r j c
/-- The weight. -/
def rp (r : Fin 128) (j : Fin 64) (c : Fin 128) : EReal := Ideal.exp (rs S W qs ks r j c - rm S W qs ks r)
/-- The largest weight of a tile. -/
def ra (j : Fin 64) : EReal := Finset.univ.sup fun r => Finset.univ.sup fun c => rp S W qs ks r j c
/-- The output at row `r` and column `d`. -/
def ry (r d : Fin 128) : EReal :=
  Ideal.div (∑ j, (∑ c, code (rp S W qs ks r j c) (expo (ra S W qs ks j)) * V j c d) * (pow (expo (ra S W qs ks j)) * vs j))
    (∑ j, ∑ c, rp S W qs ks r j c)

/-- The factor from a raw score to a score in base two. -/
def kc (j : Fin 64) : EReal := qs * ks j * (((Real.sqrt 128)⁻¹ * (Real.log 2)⁻¹ : ℝ) : EReal)
/-- The masked raw score. -/
def kS (r : Fin 128) (j : Fin 64) (c : Fin 128) : EReal := if W r j c then S r j c else ⊥
variable (J : Fin 64 → Prop) [DecidablePred J]
/-- The block's largest score, minus infinity for a block out of the window. -/
def kl (r : Fin 128) (j : Fin 64) : EReal :=
  if J j then (Finset.univ.sup fun c => kS S W r j c) * kc qs ks j else ⊥
def km (r : Fin 128) : EReal := Finset.univ.sup fun j => kl S W qs ks J r j
def ka (j : Fin 64) : EReal := Ideal.exp2 (Finset.univ.sup fun r => kl S W qs ks J r j - km S W qs ks J r)
/-- The weight over the tile's scale. -/
def kp (r : Fin 128) (j : Fin 64) (c : Fin 128) : EReal :=
  Ideal.exp2 (kS S W r j c * kc qs ks j - (km S W qs ks J r + (((expo (ka S W qs ks J j)).toInt : ℝ) : EReal)))
end Defs

theorem map_sup_bot {ι : Type} (s : Finset ι) (f : EReal → EReal) (hf : Monotone f) (hb : f ⊥ = ⊥) (g : ι → EReal) :
    f (s.sup g) = s.sup fun i => f (g i) :=
  Finset.comp_sup_eq_sup_comp_of_is_total f hf hb

theorem map_sup_ne {ι : Type} (s : Finset ι) (hs : s.Nonempty) (f : EReal → EReal) (hf : Monotone f) (g : ι → EReal) :
    f (s.sup g) = s.sup fun i => f (g i) := by
  rw [← Finset.sup'_eq_sup hs, ← Finset.sup'_eq_sup hs]
  exact Finset.comp_sup'_eq_sup'_comp hs f hf.map_sup

/-- A fold over the indices a reduction of two axes drops to one index, as one over the two axes. -/
theorem fold_pairs {α : Type} {n k : ℕ} (s : Finset α) (f : α → EReal) (e : Fin n → Fin k → α)
    (h : ∀ x, x ∈ s ↔ ∃ a b, x = e a b) :
    Finset.fold max ⊥ f s = Finset.univ.sup fun a => Finset.univ.sup fun b => f (e a b) := by
  change s.sup f = _
  refine le_antisymm (Finset.sup_le fun x hx => ?_) (Finset.sup_le fun a _ => Finset.sup_le fun b _ => ?_)
  · obtain ⟨a, b, rfl⟩ := (h x).1 hx
    exact le_trans (Finset.le_sup (f := fun b => f (e a b)) (Finset.mem_univ b))
      (Finset.le_sup (f := fun a => Finset.univ.sup fun b => f (e a b)) (Finset.mem_univ a))
  · exact Finset.le_sup ((h _).2 ⟨a, b, rfl⟩)

theorem sum_pairs {α : Type} {n k : ℕ} (s : Finset α) (f : α → EReal) (e : Fin n → Fin k → α)
    (h : ∀ x, x ∈ s ↔ ∃ a b, x = e a b) (he : ∀ a b a' b', e a b = e a' b' → a = a' ∧ b = b') :
    ∑ x ∈ s, f x = ∑ a, ∑ b, f (e a b) := by
  classical
  rw [← Finset.sum_product']
  symm
  refine Finset.sum_bij (fun p _ => e p.1 p.2) (fun p _ => (h _).2 ⟨_, _, rfl⟩) (fun p _ p' _ hp => ?_) (fun x hx => ?_)
    (fun _ _ => rfl)
  · exact Prod.ext (he _ _ _ _ hp).1 (he _ _ _ _ hp).2
  · obtain ⟨a, b, rfl⟩ := (h x).1 hx
    exact ⟨(a, b), Finset.mem_product.2 ⟨Finset.mem_univ _, Finset.mem_univ _⟩, rfl⟩

theorem exp2_mono : Monotone Ideal.exp2 := by
  intro x y h
  induction x using EReal.rec with
  | bot =>
    induction y using EReal.rec with
    | bot => exact le_refl _
    | top => exact le_top
    | coe y => change (0 : EReal) ≤ ((Real.rpow 2 y : ℝ) : EReal); exact_mod_cast Real.rpow_nonneg (by norm_num) y
  | top => rw [top_le_iff.mp h]
  | coe x =>
    induction y using EReal.rec with
    | bot => exact absurd h (not_le.mpr (EReal.bot_lt_coe x))
    | top => exact le_top
    | coe y =>
      change ((Real.rpow 2 x : ℝ) : EReal) ≤ ((Real.rpow 2 y : ℝ) : EReal)
      exact_mod_cast Real.rpow_le_rpow_of_exponent_le (by norm_num) (by exact_mod_cast h)

theorem sub_mono (M : ℝ) : Monotone fun x : EReal => x - (M : EReal) := fun x y h => EReal.sub_le_sub h le_rfl

theorem mul_mono (k : ℝ) (hk : 0 < k) : Monotone fun x : EReal => x * (k : EReal) := fun x y h =>
  mul_le_mul_of_nonneg_right h (by exact_mod_cast hk.le)

theorem bot_mul (k : ℝ) (hk : 0 < k) : (⊥ : EReal) * (k : EReal) = ⊥ := EReal.bot_mul_coe_of_pos hk

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section Main
variable (S : Fin 128 → Fin 64 → Fin 128 → ℝ) (W : Fin 128 → Fin 64 → Fin 128 → Prop)
  [∀ r j c, Decidable (W r j c)] (q : ℝ) (k : Fin 64 → ℝ) (J : Fin 64 → Prop) [DecidablePred J]

/-- The score in base two. -/
def tt (r : Fin 128) (j : Fin 64) (c : Fin 128) : EReal :=
  if W r j c then ((S r j c * (q * k j * ((Real.sqrt 128)⁻¹ * (Real.log 2)⁻¹)) : ℝ) : EReal) else ⊥

local notation "eS" => fun r j c => ((S r j c : ℝ) : EReal)
local notation "ek" => fun j => ((k j : ℝ) : EReal)

variable (hq : 0 < q) (hk : ∀ j, 0 < k j) (hJ : ∀ r j c, W r j c → J j) (hne : ∀ r, ∃ j c, W r j c)

include hq hk in
theorem kc_eq (j : Fin 64) : kc (q : EReal) ek j = ((q * k j * ((Real.sqrt 128)⁻¹ * (Real.log 2)⁻¹) : ℝ) : EReal) := by
  unfold kc; push_cast; rfl

include hq hk in
theorem fac_pos (j : Fin 64) : 0 < q * k j * ((Real.sqrt 128)⁻¹ * (Real.log 2)⁻¹) := by
  have := hk j; have h1 : 0 < Real.log 2 := Real.log_pos (by norm_num)
  have h2 : 0 < Real.sqrt 128 := Real.sqrt_pos.mpr (by norm_num)
  positivity

include hq hk in
theorem kS_mul (r : Fin 128) (j : Fin 64) (c : Fin 128) : kS eS W r j c * kc (q : EReal) ek j = tt S W q k r j c := by
  rw [kc_eq q k hq hk]; unfold kS tt
  split
  · rw [← EReal.coe_mul]
  · exact bot_mul _ (fac_pos q k hq hk j)

include hq hk hJ in
theorem kl_eq (r : Fin 128) (j : Fin 64) :
    kl eS W (q : EReal) ek J r j = Finset.univ.sup fun c => tt S W q k r j c := by
  unfold kl
  split
  · rw [kc_eq q k hq hk, map_sup_bot _ _ (mul_mono _ (fac_pos q k hq hk j)) (bot_mul _ (fac_pos q k hq hk j))]
    refine Finset.sup_congr rfl fun c _ => ?_
    rw [← kS_mul S W q k hq hk, kc_eq q k hq hk]
  · rename_i h
    symm; rw [Finset.sup_eq_bot_iff]
    intro c _; unfold tt; rw [if_neg fun hw => h (hJ r j c hw)]

include hq hk in
theorem rs_eq (r : Fin 128) (j : Fin 64) (c : Fin 128) :
    rs eS W (q : EReal) ek r j c = tt S W q k r j c * ((Real.log 2 : ℝ) : EReal) := by
  have h1 : 0 < Real.log 2 := Real.log_pos (by norm_num)
  unfold rs tt
  split
  · rw [← EReal.coe_mul, ← EReal.coe_mul, ← EReal.coe_mul, ← EReal.coe_mul]; congr 1; field_simp
  · exact (bot_mul _ h1).symm

include hq hk hJ in
theorem km_eq (r : Fin 128) :
    km eS W (q : EReal) ek J r = Finset.univ.sup fun j => Finset.univ.sup fun c => tt S W q k r j c := by
  unfold km; exact Finset.sup_congr rfl fun j _ => kl_eq S W q k J hq hk hJ r j

include hq hk hJ in
theorem rm_eq (r : Fin 128) : rm eS W (q : EReal) ek r = km eS W (q : EReal) ek J r * ((Real.log 2 : ℝ) : EReal) := by
  have h1 : 0 < Real.log 2 := Real.log_pos (by norm_num)
  rw [km_eq S W q k J hq hk hJ, map_sup_bot _ _ (mul_mono _ h1) (bot_mul _ h1)]
  unfold rm
  refine Finset.sup_congr rfl fun j _ => ?_
  rw [map_sup_bot _ _ (mul_mono _ h1) (bot_mul _ h1)]
  exact Finset.sup_congr rfl fun c _ => rs_eq S W q k hq hk r j c

include hq hk hJ hne in
theorem km_real (r : Fin 128) : ∃ M : ℝ, km eS W (q : EReal) ek J r = (M : EReal) := by
  rw [km_eq S W q k J hq hk hJ]
  obtain ⟨j, c, hw⟩ := hne r
  refine ⟨_, (EReal.coe_toReal (ne_of_lt ?_) (ne_of_gt ?_)).symm⟩
  · rw [Finset.sup_lt_iff bot_lt_top]
    intro j _; rw [Finset.sup_lt_iff bot_lt_top]
    intro c _; unfold tt; split
    · exact EReal.coe_lt_top _
    · exact bot_lt_top
  · refine lt_of_lt_of_le ?_ (Finset.le_sup (f := fun j => Finset.univ.sup fun c => tt S W q k r j c) (Finset.mem_univ j))
    refine lt_of_lt_of_le ?_ (Finset.le_sup (f := fun c => tt S W q k r j c) (Finset.mem_univ c))
    unfold tt; rw [if_pos hw]; exact EReal.bot_lt_coe _

/-- The weight as a real number. -/
def pr (M : Fin 128 → ℝ) (r : Fin 128) (j : Fin 64) (c : Fin 128) : ℝ :=
  if W r j c then (2 : ℝ) ^ (S r j c * (q * k j * ((Real.sqrt 128)⁻¹ * (Real.log 2)⁻¹)) - M r) else 0

theorem exp2_tt (M : Fin 128 → ℝ) (r : Fin 128) (j : Fin 64) (c : Fin 128) (e : ℝ) :
    Ideal.exp2 (tt S W q k r j c - ((M r : EReal) + (e : EReal))) = ((pr S W q k M r j c * (2 : ℝ) ^ (-e) : ℝ) : EReal) := by
  unfold tt pr
  split
  · rw [← EReal.coe_add, ← EReal.coe_sub]
    change (((2 : ℝ) ^ (_ : ℝ) : ℝ) : EReal) = _
    rw [← Real.rpow_add (by norm_num)]
    congr 2; ring
  · rw [← EReal.coe_add, EReal.bot_sub]; rw [zero_mul]; rfl

theorem exp2_tt0 (M : Fin 128 → ℝ) (r : Fin 128) (j : Fin 64) (c : Fin 128) :
    Ideal.exp2 (tt S W q k r j c - (M r : EReal)) = ((pr S W q k M r j c : ℝ) : EReal) := by
  have := exp2_tt S W q k M r j c 0
  simpa using this

theorem exp_scale (x : EReal) (M : ℝ) (h : x ≠ ⊤) :
    Ideal.exp (x * ((Real.log 2 : ℝ) : EReal) - (M : EReal) * ((Real.log 2 : ℝ) : EReal)) = Ideal.exp2 (x - (M : EReal)) := by
  have h1 : 0 < Real.log 2 := Real.log_pos (by norm_num)
  induction x using EReal.rec with
  | bot => rw [bot_mul _ h1, ← EReal.coe_mul, EReal.bot_sub, EReal.bot_sub]; rfl
  | top => exact absurd rfl h
  | coe x =>
    rw [← EReal.coe_mul, ← EReal.coe_mul, ← EReal.coe_sub, ← EReal.coe_sub]
    change ((Real.exp _ : ℝ) : EReal) = (((2 : ℝ) ^ (_ : ℝ) : ℝ) : EReal)
    rw [Real.rpow_def_of_pos (by norm_num)]; congr 2; ring

theorem tt_ne_top (r : Fin 128) (j : Fin 64) (c : Fin 128) : tt S W q k r j c ≠ ⊤ := by
  unfold tt; split
  · exact EReal.coe_ne_top _
  · exact bot_ne_top

include hq hk hJ in
theorem rp_eq (M : Fin 128 → ℝ) (hM : ∀ r, km eS W (q : EReal) ek J r = (M r : EReal)) (r : Fin 128) (j : Fin 64) (c : Fin 128) :
    rp eS W (q : EReal) ek r j c = ((pr S W q k M r j c : ℝ) : EReal) := by
  unfold rp
  rw [rs_eq S W q k hq hk, rm_eq S W q k J hq hk hJ, hM, exp_scale _ _ (tt_ne_top S W q k r j c), exp2_tt0]

include hq hk hJ in
theorem ka_eq (M : Fin 128 → ℝ) (hM : ∀ r, km eS W (q : EReal) ek J r = (M r : EReal)) (j : Fin 64) :
    ka eS W (q : EReal) ek J j = ra eS W (q : EReal) ek j := by
  unfold ka ra
  rw [map_sup_ne _ Finset.univ_nonempty _ exp2_mono]
  refine Finset.sup_congr rfl fun r _ => ?_
  rw [hM, kl_eq S W q k J hq hk hJ, map_sup_bot _ _ (sub_mono (M r)) (by exact EReal.bot_sub _),
    map_sup_ne _ Finset.univ_nonempty _ exp2_mono]
  refine Finset.sup_congr rfl fun c _ => ?_
  rw [rp_eq S W q k J hq hk hJ M hM, exp2_tt0]

theorem pr_nonneg (M : Fin 128 → ℝ) (r : Fin 128) (j : Fin 64) (c : Fin 128) : 0 ≤ pr S W q k M r j c := by
  unfold pr; split
  · positivity
  · exact le_rfl

include hq hk hJ in
theorem pr_le_one (M : Fin 128 → ℝ) (hM : ∀ r, km eS W (q : EReal) ek J r = (M r : EReal)) (r : Fin 128) (j : Fin 64) (c : Fin 128) :
    pr S W q k M r j c ≤ 1 := by
  unfold pr; split
  · rename_i hw
    refine Real.rpow_le_one_of_one_le_of_nonpos (by norm_num) ?_
    have h := hM r
    rw [km_eq S W q k J hq hk hJ] at h
    have h1 := Finset.le_sup (f := fun j => Finset.univ.sup fun c => tt S W q k r j c) (Finset.mem_univ j)
    have h2 := Finset.le_sup (f := fun c => tt S W q k r j c) (Finset.mem_univ c)
    have h3 := le_trans h2 h1
    rw [h] at h3
    unfold tt at h3; rw [if_pos hw] at h3
    have := EReal.coe_le_coe_iff.mp h3
    linarith
  · norm_num

include hq hk hJ in
theorem ra_range (M : Fin 128 → ℝ) (hM : ∀ r, km eS W (q : EReal) ek J r = (M r : EReal)) (j : Fin 64) :
    0 ≤ ra eS W (q : EReal) ek j ∧ ra eS W (q : EReal) ek j ≤ 1 := by
  unfold ra
  constructor
  · refine le_trans ?_ (Finset.le_sup (f := fun r => Finset.univ.sup fun c => rp eS W (q : EReal) ek r j c) (Finset.mem_univ 0))
    refine le_trans ?_ (Finset.le_sup (f := fun c => rp eS W (q : EReal) ek 0 j c) (Finset.mem_univ 0))
    rw [rp_eq S W q k J hq hk hJ M hM]
    exact_mod_cast pr_nonneg S W q k M 0 j 0
  · refine Finset.sup_le fun r _ => Finset.sup_le fun c _ => ?_
    rw [rp_eq S W q k J hq hk hJ M hM]
    exact_mod_cast pr_le_one S W q k J hq hk hJ M hM r j c

include hq hk hJ in
/-- The kernel's weight is the reference's times the reciprocal of the tile's scale. -/
theorem kp_eq (M : Fin 128 → ℝ) (hM : ∀ r, km eS W (q : EReal) ek J r = (M r : EReal)) (r : Fin 128) (j : Fin 64) (c : Fin 128) :
    kp eS W (q : EReal) ek J r j c
      = ((pr S W q k M r j c * (2 : ℝ) ^ (-((expo (ra eS W (q : EReal) ek j)).toInt : ℝ)) : ℝ) : EReal) := by
  unfold kp
  rw [kS_mul S W q k hq hk, hM, ka_eq S W q k J hq hk hJ M hM]
  exact exp2_tt S W q k M r j c _

include hq hk hJ in
theorem clip_kp (M : Fin 128 → ℝ) (hM : ∀ r, km eS W (q : EReal) ek J r = (M r : EReal)) (r : Fin 128) (j : Fin 64) (c : Fin 128) :
    clip (kp eS W (q : EReal) ek J r j c) = code (rp eS W (q : EReal) ek r j c) (expo (ra eS W (q : EReal) ek j)) := by
  have hr := ra_range S W q k J hq hk hJ M hM j
  unfold code
  rw [kp_eq S W q k J hq hk hJ M hM, pow_neg _ (expo_range _ hr.1 hr.2).1, rp_eq S W q k J hq hk hJ M hM, ← EReal.coe_mul]
  rfl

include hq hk hJ in
theorem sum_kp (M : Fin 128 → ℝ) (hM : ∀ r, km eS W (q : EReal) ek J r = (M r : EReal)) (r : Fin 128) (j : Fin 64) :
    (∑ c, kp eS W (q : EReal) ek J r j c) * pow (expo (ra eS W (q : EReal) ek j)) = ∑ c, rp eS W (q : EReal) ek r j c := by
  simp only [kp_eq S W q k J hq hk hJ M hM, rp_eq S W q k J hq hk hJ M hM]
  rw [← coe_sum, ← coe_sum]
  unfold pow
  rw [← EReal.coe_mul]
  congr 1
  rw [← Finset.sum_mul, mul_assoc]
  change _ * ((2 : ℝ) ^ (_ : ℝ) * (2 : ℝ) ^ (_ : ℝ)) = _
  rw [← Real.rpow_add (by norm_num)]
  simp

include hq hk hJ in
theorem rp_out (M : Fin 128 → ℝ) (hM : ∀ r, km eS W (q : EReal) ek J r = (M r : EReal)) (r : Fin 128) (j : Fin 64) (c : Fin 128)
    (h : ¬ J j) : rp eS W (q : EReal) ek r j c = 0 := by
  rw [rp_eq S W q k J hq hk hJ M hM]; unfold pr
  rw [if_neg fun hw => h (hJ r j c hw)]; rfl

include hq hk hJ hne in
/-- The kernel's quotient of sums over the window's blocks is the reference's over all blocks. -/
theorem attn_eq (vs : Fin 64 → EReal) (V : Fin 64 → Fin 128 → Fin 128 → EReal) (r d : Fin 128) :
    Ideal.div
      (∑ j with J j, (∑ c, V j c d * clip (kp eS W (q : EReal) ek J r j c)) * (pow (expo (ka eS W (q : EReal) ek J j)) * vs j))
      (∑ j with J j, (∑ c, kp eS W (q : EReal) ek J r j c) * pow (expo (ka eS W (q : EReal) ek J j)))
    = ry eS W (q : EReal) ek vs V r d := by
  choose M hM using km_real S W q k J hq hk hJ hne
  unfold ry
  simp only [ka_eq S W q k J hq hk hJ M hM, clip_kp S W q k J hq hk hJ M hM, sum_kp S W q k J hq hk hJ M hM]
  congr 1
  · rw [Finset.sum_filter]
    refine Finset.sum_congr rfl fun j _ => ?_
    split
    · congr 1; exact Finset.sum_congr rfl fun c _ => mul_comm _ _
    · rename_i h
      symm
      rw [Finset.sum_eq_zero fun c _ => by
        rw [rp_out S W q k J hq hk hJ M hM r j c h]; unfold code; rw [zero_mul, clip_zero, zero_mul], zero_mul]
  · rw [Finset.sum_filter]
    refine Finset.sum_congr rfl fun j _ => ?_
    split
    · rfl
    · rename_i h
      exact (Finset.sum_eq_zero fun c _ => rp_out S W q k J hq hk hJ M hM r j c h).symm

end Main

end Cert.Spec
-- ==== Proof.Value.Tiles.lean ====
module

public import Idealize.ShloMosaic.Lib.Pointwise
public import proofs.«01_k».proof.Proof.Value.Math

@[expose] public section

noncomputable section

namespace Cert.Spec
open Idealize.ShloMosaic Idealize.ShloMosaic.Pointwise

/-- The magnitude of a value. -/
def mag (x : EReal) : EReal := FloatOps.absf (F := Ideal) (φ := .f32) x

/-! A tile has 128 rows and 128 columns. -/
section tile
variable (T : Fin 128 → Fin 128 → EReal)
/-- The largest magnitude of a tile. -/
def amax : EReal := Finset.univ.sup fun r => Finset.univ.sup fun c => mag (T r c)
/-- The exponent of a tile, its scale and its codes. -/
def expT : BitVec 32 := expo (amax T)
def scaleT : EReal := pow (expT T)
def codeT (r c : Fin 128) : EReal := code (T r c) (expT T)
end tile

/-- The tile of queries of batch entry `b` and block `i` for head `g` of head group `h`. -/
def tileQ (X : (⟨3, ![8, 8192, 1024]⟩ : Shape).Idx → EReal) (b : Fin 8) (i : Fin 64) (h : Fin 2) (g : Fin 4) (r d : Fin 128) : EReal :=
  X (ix3 b ⟨i.val * 128 + r.val, by omega⟩ ⟨h.val * 512 + g.val * 128 + d.val, by omega⟩)
/-- The tile of keys (or values) of batch entry `b` and block `j` for head group `h`. -/
def tileK (Y : (⟨3, ![8, 8192, 256]⟩ : Shape).Idx → EReal) (b : Fin 8) (j : Fin 64) (h : Fin 2) (c d : Fin 128) : EReal :=
  Y (ix3 b ⟨j.val * 128 + c.val, by omega⟩ ⟨h.val * 128 + d.val, by omega⟩)

theorem pow_real (e : BitVec 32) : ∃ x : ℝ, 0 < x ∧ pow e = x := ⟨_, Real.rpow_pos_of_pos (by norm_num) _, rfl⟩

/-! ## The results as arrays of the arguments -/

abbrev SQ : Shape := ⟨3, ![8, 8192, 1024]⟩
abbrev SK : Shape := ⟨3, ![8, 8192, 256]⟩
abbrev SQs : Shape := ⟨3, ![8, 64, 8]⟩
abbrev SKs : Shape := ⟨3, ![8, 64, 2]⟩

/-- The output of one query row, from the codes and scales of the tiles it meets. -/
def outTile (X : SQ.Idx → EReal) (K V : SK.Idx → EReal) (b : Fin 8) (i : Fin 64) (h : Fin 2) (g : Fin 4) (r d : Fin 128) : EReal :=
  ry (fun r j c => ∑ x : Fin 128, codeT (tileK K b j h) c x * codeT (tileQ X b i h g) r x) (Win i) (scaleT (tileQ X b i h g))
    (fun j => scaleT (tileK K b j h)) (fun j => scaleT (tileK V b j h)) (fun j c d => codeT (tileK V b j h) c d) r d

/-- The attention output. -/
def outY (X : SQ.Idx → EReal) (K V : SK.Idx → EReal) : SQ.Idx → EReal := fun y =>
  outTile X K V (y 0) ⟨(y 1).val / 128, Nat.div_lt_of_lt_mul (y 1).isLt⟩ ⟨(y 2).val / 512, Nat.div_lt_of_lt_mul (y 2).isLt⟩
    ⟨(y 2).val / 128 % 4, Nat.mod_lt _ (by decide)⟩ ⟨(y 1).val % 128, Nat.mod_lt _ (by decide)⟩ ⟨(y 2).val % 128, Nat.mod_lt _ (by decide)⟩
/-- The codes of the queries. -/
def outQ (X : SQ.Idx → EReal) : SQ.Idx → EReal := fun y =>
  codeT (tileQ X (y 0) ⟨(y 1).val / 128, Nat.div_lt_of_lt_mul (y 1).isLt⟩ ⟨(y 2).val / 512, Nat.div_lt_of_lt_mul (y 2).isLt⟩
    ⟨(y 2).val / 128 % 4, Nat.mod_lt _ (by decide)⟩) ⟨(y 1).val % 128, Nat.mod_lt _ (by decide)⟩ ⟨(y 2).val % 128, Nat.mod_lt _ (by decide)⟩
/-- The scales of the queries. -/
def outQs (X : SQ.Idx → EReal) : SQs.Idx → EReal := fun y =>
  scaleT (tileQ X (y 0) (y 1) ⟨(y 2).val / 4, Nat.div_lt_of_lt_mul (y 2).isLt⟩ ⟨(y 2).val % 4, Nat.mod_lt _ (by decide)⟩)
/-- The codes of the keys (or values). -/
def outK (K : SK.Idx → EReal) : SK.Idx → EReal := fun y =>
  codeT (tileK K (y 0) ⟨(y 1).val / 128, Nat.div_lt_of_lt_mul (y 1).isLt⟩ ⟨(y 2).val / 128, Nat.div_lt_of_lt_mul (y 2).isLt⟩)
    ⟨(y 1).val % 128, Nat.mod_lt _ (by decide)⟩ ⟨(y 2).val % 128, Nat.mod_lt _ (by decide)⟩
/-- The scales of the keys (or values). -/
def outKs (K : SK.Idx → EReal) : SKs.Idx → EReal := fun y => scaleT (tileK K (y 0) (y 1) (y 2))

theorem ext_q (f g : SQ.Idx → EReal)
    (h : ∀ (b : Fin 8) (i : Fin 64) (r : Fin 128) (h : Fin 2) (e : Fin 4) (d : Fin 128),
      f (ix3 b ⟨i.val * 128 + r.val, by omega⟩ ⟨h.val * 512 + e.val * 128 + d.val, by omega⟩)
        = g (ix3 b ⟨i.val * 128 + r.val, by omega⟩ ⟨h.val * 512 + e.val * 128 + d.val, by omega⟩)) : f = g := by
  funext y
  have h1 : (y 1).val < 8192 := (y 1).isLt
  have h2 : (y 2).val < 1024 := (y 2).isLt
  have e := h (y 0) ⟨(y 1).val / 128, by omega⟩ ⟨(y 1).val % 128, by omega⟩ ⟨(y 2).val / 512, by omega⟩ ⟨(y 2).val / 128 % 4, by omega⟩ ⟨(y 2).val % 128, by omega⟩
  have ey : ix3 (y 0) ⟨(y 1).val / 128 * 128 + (y 1).val % 128, by omega⟩ ⟨(y 2).val / 512 * 512 + (y 2).val / 128 % 4 * 128 + (y 2).val % 128, by omega⟩ = y := by
    funext a; fin_cases a
    · rfl
    · exact Fin.ext (show (y 1).val / 128 * 128 + (y 1).val % 128 = (y 1).val by omega)
    · exact Fin.ext (show (y 2).val / 512 * 512 + (y 2).val / 128 % 4 * 128 + (y 2).val % 128 = (y 2).val by omega)
  rw [← ey]; exact e

theorem ext_qs (f g : SQs.Idx → EReal)
    (h : ∀ (b : Fin 8) (i : Fin 64) (h : Fin 2) (e : Fin 4),
      f (ix3 b i ⟨h.val * 4 + e.val, by omega⟩) = g (ix3 b i ⟨h.val * 4 + e.val, by omega⟩)) : f = g := by
  funext y
  have h2 : (y 2).val < 8 := (y 2).isLt
  have e := h (y 0) (y 1) ⟨(y 2).val / 4, by omega⟩ ⟨(y 2).val % 4, by omega⟩
  have ey : ix3 (y 0) (y 1) ⟨(y 2).val / 4 * 4 + (y 2).val % 4, by omega⟩ = y := by
    funext a; fin_cases a
    · rfl
    · rfl
    · exact Fin.ext (show (y 2).val / 4 * 4 + (y 2).val % 4 = (y 2).val by omega)
  rw [← ey]; exact e

theorem ext_k (f g : SK.Idx → EReal)
    (h : ∀ (b : Fin 8) (i : Fin 64) (r : Fin 128) (h : Fin 2) (d : Fin 128),
      f (ix3 b ⟨i.val * 128 + r.val, by omega⟩ ⟨h.val * 128 + d.val, by omega⟩)
        = g (ix3 b ⟨i.val * 128 + r.val, by omega⟩ ⟨h.val * 128 + d.val, by omega⟩)) : f = g := by
  funext y
  have h1 : (y 1).val < 8192 := (y 1).isLt
  have h2 : (y 2).val < 256 := (y 2).isLt
  have e := h (y 0) ⟨(y 1).val / 128, by omega⟩ ⟨(y 1).val % 128, by omega⟩ ⟨(y 2).val / 128, by omega⟩ ⟨(y 2).val % 128, by omega⟩
  have ey : ix3 (y 0) ⟨(y 1).val / 128 * 128 + (y 1).val % 128, by omega⟩ ⟨(y 2).val / 128 * 128 + (y 2).val % 128, by omega⟩ = y := by
    funext a; fin_cases a
    · rfl
    · exact Fin.ext (show (y 1).val / 128 * 128 + (y 1).val % 128 = (y 1).val by omega)
    · exact Fin.ext (show (y 2).val / 128 * 128 + (y 2).val % 128 = (y 2).val by omega)
  rw [← ey]; exact e

theorem ext_ks (f g : SKs.Idx → EReal)
    (h : ∀ (b : Fin 8) (i : Fin 64) (h : Fin 2), f (ix3 b i h) = g (ix3 b i h)) : f = g := by
  funext y
  have ey : ix3 (y 0) (y 1) (y 2) = y := by funext a; fin_cases a <;> rfl
  rw [← ey]; exact h _ _ _

section at_
variable (X : SQ.Idx → EReal) (K V : SK.Idx → EReal) (b : Fin 8) (i : Fin 64) (r : Fin 128) (h : Fin 2) (e : Fin 4) (d : Fin 128)

theorem fin_q1 : (⟨(i.val * 128 + r.val) / 128, Nat.div_lt_of_lt_mul (by omega)⟩ : Fin 64) = i := Fin.ext (show (i.val * 128 + r.val) / 128 = i.val by omega)
theorem fin_q2 : (⟨(i.val * 128 + r.val) % 128, Nat.mod_lt _ (by decide)⟩ : Fin 128) = r := Fin.ext (show (i.val * 128 + r.val) % 128 = r.val by omega)
theorem fin_q3 : (⟨(h.val * 512 + e.val * 128 + d.val) / 512, Nat.div_lt_of_lt_mul (by omega)⟩ : Fin 2) = h := Fin.ext (show (h.val * 512 + e.val * 128 + d.val) / 512 = h.val by omega)
theorem fin_q4 : (⟨(h.val * 512 + e.val * 128 + d.val) / 128 % 4, Nat.mod_lt _ (by decide)⟩ : Fin 4) = e := Fin.ext (show (h.val * 512 + e.val * 128 + d.val) / 128 % 4 = e.val by omega)
theorem fin_q5 : (⟨(h.val * 512 + e.val * 128 + d.val) % 128, Nat.mod_lt _ (by decide)⟩ : Fin 128) = d := Fin.ext (show (h.val * 512 + e.val * 128 + d.val) % 128 = d.val by omega)
theorem fin_q6 : (⟨(h.val * 128 + d.val) / 128, Nat.div_lt_of_lt_mul (by omega)⟩ : Fin 2) = h := Fin.ext (show (h.val * 128 + d.val) / 128 = h.val by omega)
theorem fin_q7 : (⟨(h.val * 128 + d.val) % 128, Nat.mod_lt _ (by decide)⟩ : Fin 128) = d := Fin.ext (show (h.val * 128 + d.val) % 128 = d.val by omega)
theorem fin_q8 : (⟨(h.val * 4 + e.val) / 4, Nat.div_lt_of_lt_mul (by omega)⟩ : Fin 2) = h := Fin.ext (show (h.val * 4 + e.val) / 4 = h.val by omega)
theorem fin_q9 : (⟨(h.val * 4 + e.val) % 4, Nat.mod_lt _ (by decide)⟩ : Fin 4) = e := Fin.ext (show (h.val * 4 + e.val) % 4 = e.val by omega)

theorem outY_at : outY X K V (ix3 b ⟨i.val * 128 + r.val, by omega⟩ ⟨h.val * 512 + e.val * 128 + d.val, by omega⟩) = outTile X K V b i h e r d := by
  show outTile X K V b ⟨(i.val * 128 + r.val) / 128, _⟩ ⟨(h.val * 512 + e.val * 128 + d.val) / 512, _⟩ ⟨(h.val * 512 + e.val * 128 + d.val) / 128 % 4, _⟩
    ⟨(i.val * 128 + r.val) % 128, _⟩ ⟨(h.val * 512 + e.val * 128 + d.val) % 128, _⟩ = _
  rw [fin_q1, fin_q2, fin_q3, fin_q4, fin_q5]

theorem outQ_at : outQ X (ix3 b ⟨i.val * 128 + r.val, by omega⟩ ⟨h.val * 512 + e.val * 128 + d.val, by omega⟩) = codeT (tileQ X b i h e) r d := by
  show codeT (tileQ X b ⟨(i.val * 128 + r.val) / 128, _⟩ ⟨(h.val * 512 + e.val * 128 + d.val) / 512, _⟩ ⟨(h.val * 512 + e.val * 128 + d.val) / 128 % 4, _⟩)
    ⟨(i.val * 128 + r.val) % 128, _⟩ ⟨(h.val * 512 + e.val * 128 + d.val) % 128, _⟩ = _
  rw [fin_q1, fin_q2, fin_q3, fin_q4, fin_q5]

theorem outQs_at : outQs X (ix3 b i ⟨h.val * 4 + e.val, by omega⟩) = scaleT (tileQ X b i h e) := by
  show scaleT (tileQ X b i ⟨(h.val * 4 + e.val) / 4, _⟩ ⟨(h.val * 4 + e.val) % 4, _⟩) = _
  rw [fin_q8, fin_q9]

theorem outK_at : outK K (ix3 b ⟨i.val * 128 + r.val, by omega⟩ ⟨h.val * 128 + d.val, by omega⟩) = codeT (tileK K b i h) r d := by
  show codeT (tileK K b ⟨(i.val * 128 + r.val) / 128, _⟩ ⟨(h.val * 128 + d.val) / 128, _⟩)
    ⟨(i.val * 128 + r.val) % 128, _⟩ ⟨(h.val * 128 + d.val) % 128, _⟩ = _
  rw [fin_q1, fin_q2, fin_q6, fin_q7]

end at_

end Cert.Spec
-- ==== Proof.Value.KTile.lean ====
module

public import proofs.«01_k».proof.Proof.KernelIdeal.QuantDefs
public import Idealize.ShloMosaic.Lib.Pointwise
public import Idealize.ShloMosaic.Lib.Tactic.CleanTypes
public import proofs.«01_k».proof.Proof.Value.Tiles

@[expose] public section

set_option maxRecDepth 8192

noncomputable section

namespace Cert.KernelIdeal.Gen
open Idealize Idealize.ShloMosaic Idealize.ShloMosaic.Pointwise
open Cert.KernelIdeal Cert.Spec

theorem qsel_at {s : Shape} {α : Type} (c : IVec s 1) (x y : s.Idx → α) (j : s.Idx) : select c x y j = Scalar.select (c j) (x j) (y j) := rfl

theorem qsel_if2 (c : BitVec 1) (p q : Prop) [Decidable p] [Decidable q] (x y x' y' : BitVec 32)
    (hc : c = IntOp.ori (BitVec.ofBool (decide p)) (BitVec.ofBool (decide q)))
    (hx : x = x') (hy : y = y') : Scalar.select c x y = if p ∨ q then x' else y' := by
  subst hc hx hy; unfold Scalar.select; by_cases hp : p <;> by_cases hq : q <;> simp [hp, hq, IntOp.ori]

theorem named_ln2 : (Named.named κ "ln2" 0x3F317218#32 : Ideal .f32) = ((Real.log 2 : ℝ) : EReal) :=
  IdealRules.named_const.ideal_named_scalar _ _ _ _ rfl

/-! ## One tile -/

/-- A tile read from a block of rows. -/
def til (v : S1x128x128.Idx → EReal) (r d : Fin 128) : EReal := v (ix3 0 r d)

theorem qpay4_at (v : Vec Ideal S1x128x128 .bf16) (r d : Fin 128) :
    (k0_pay4 (F := Ideal) v : FVec Ideal S128x128 .f32) (ix2 r d) = til v r d := by
  unfold k0_pay4
  pointwise
  rfl

theorem qamax_at (X : FVec Ideal S128x128 .f32) (T : Fin 128 → Fin 128 → EReal) (hX : ∀ r d, X (ix2 r d) = T r d) :
    (broadcast S1x1 (extractAt ![0, 0, 0] (shapeCast S1x1x1 (multiReduction .maximumf [1, 2] S1 (shapeCast S1x128x128 (absf X) shapeCasts_S128x128_S1x128x128) 0xFF800000#32 reduces_S1x128x128_S1 (.inl rfl) rfl : FVec Ideal S1 .f32) shapeCasts_S1_S1x1x1) inpos_S1x1x1_p0_0_0) : FVec Ideal S1x1 .f32) (ix2 0 0) = amax T := by
  pointwise
  have hb : Ideal.ofBits FTy.f32 4286578688#32 = ⊥ := cbot
  rw [hb, fold_pairs _ _ (fun (r : Fin 128) (d : Fin 128) => (r, d)) (fun x => ⟨fun _ => ⟨x.1, x.2, rfl⟩, fun _ => Finset.mem_univ x⟩)]
  simp only [hX]
  rfl

theorem qlev_at (X : FVec Ideal S1x1 .f32) :
    (divf (log (mulf X (broadcast S1x1 (Scalar.ofBits .f32 0x3B124925#32)))) (broadcast S1x1 (Named.named κ "ln2" 0x3F317218#32)) : FVec Ideal S1x1 .f32) (ix2 0 0)
      = Ideal.div (Ideal.log (X (ix2 0 0) * Ideal.ofBits .f32 0x3B124925#32)) ((Real.log 2 : ℝ) : EReal) := by
  pointwise
  rw [named_ln2]

theorem qoeq_at (X : FVec Ideal S1x1 .f32) :
    (ori (cmpf .oeq X (broadcast S1x1 (Scalar.ofBits .f32 0x00000000#32))) (cmpf .oeq (mulf X (broadcast S1x1 (Scalar.ofBits .f32 0x3B124925#32))) (broadcast S1x1 (Scalar.ofBits .f32 0x00000000#32)))) (ix2 0 0)
      = IntOp.ori (BitVec.ofBool (decide (X (ix2 0 0) = 0))) (BitVec.ofBool (decide (X (ix2 0 0) * Ideal.ofBits .f32 0x3B124925#32 = 0))) := by pointwise

theorem qlev1_at (Y : FVec Ideal S1x1 .f32) :
    (addi (fptosi 32 (floor Y)) (broadcast S1x1 1#32)) (ix2 0 0)
      = IntOp.addi (Ideal.fptosi 32 (Ideal.liftRound Int.floor (Y (ix2 0 0)))) 1#32 := rfl

theorem qpay5_at (v : Vec Ideal S1x128x128 .bf16) :
    (k0_pay5 (F := Ideal) v) (ix2 0 0) = expT (til v) := by
  have hX := qamax_at (k0_pay4 (F := Ideal) v) _ (qpay4_at v)
  unfold k0_pay5
  rw [qsel_at]
  unfold expT
  rw [← expo_guard]
  unfold lvl
  rw [← hX]
  refine qsel_if2 _ _ _ _ _ _ _ ?_ ?_ ?_
  · exact qoeq_at _
  · rfl
  · refine (qlev1_at _).trans ?_
    rw [qlev_at]

theorem qscale_at (v : Vec Ideal S1x128x128 .bf16) :
    (qscale (F := Ideal) v : FVec Ideal S1x1 .f32) (ix2 0 0) = scaleT (til v) := by
  show Ideal.exp2 ((((k0_pay5 (F := Ideal) v (ix2 0 0)).toInt : ℝ)) : EReal) = _
  rw [qpay5_at, exp2_int]
  rfl

theorem qclip_at' (X : FVec Ideal S128x128 .f32) (e : IVec S1x1 32) (r d : Fin 128) :
    (minimumf (broadcast S128x128 (Scalar.ofBits .f32 0x43E00000#32)) (maximumf (broadcast S128x128 (Scalar.ofBits .f32 0xC3E00000#32)) (mulf X (broadcastTo S128x128 (exp2 (sitofp .f32 (subi (broadcast S1x1 0#32) e)) : FVec Ideal S1x1 .f32) broadcasts_S1x1_S128x128))) : FVec Ideal _ .f32) (ix2 r d)
      = code (X (ix2 r d)) (e (ix2 0 0)) := by
  pointwise
  rfl

theorem qclip_at (v : Vec Ideal S1x128x128 .bf16) (r d : Fin 128) :
    (qclip (F := Ideal) v : FVec Ideal S128x128 .f32) (ix2 r d) = codeT (til v) r d := by
  refine (qclip_at' (k0_pay4 (F := Ideal) v) (k0_pay5 (F := Ideal) v) r d).trans ?_
  rw [qpay4_at, qpay5_at]
  rfl

theorem qcode_at (v : Vec Ideal S1x128x128 .bf16) (r d : Fin 128) :
    (qcode (F := Ideal) v : S1x128x128.Idx → EReal) (ix3 0 r d) = codeT (til v) r d := by
  have e : (qcode (F := Ideal) v : S1x128x128.Idx → EReal) = shapeCast S1x128x128 (qclip (F := Ideal) v) shapeCasts_S128x128_S1x128x128 := rfl
  rw [e]
  pointwise
  exact qclip_at v r d

theorem qcodeT_at (v : Vec Ideal S1x128x128 .bf16) (r d : Fin 128) :
    (qcodeT (F := Ideal) v : S1x1x1x128x128.Idx → EReal) (ix5 0 0 0 d r) = codeT (til v) r d := by
  have e : (qcodeT (F := Ideal) v : S1x1x1x128x128.Idx → EReal) = shapeCast S1x1x1x128x128 (transpose S128x128 [1, 0] (qclip (F := Ideal) v) transposes_S128x128_p1_0_S128x128) shapeCasts_S128x128_S1x1x1x128x128 := rfl
  rw [e]
  pointwise
  exact qclip_at v r d

theorem qlane_at (v : Vec Ideal S1x128x128 .bf16) (d : Fin 128) :
    (k0_pay9 (qscale (F := Ideal) v) : FVec Ideal S1x1x128 .f32) (ix3 0 0 d) = scaleT (til v) := by
  unfold k0_pay9
  pointwise
  exact qscale_at v

end Cert.KernelIdeal.Gen
-- ==== Proof.Value.KOps.lean ====
module

public import proofs.«01_k».proof.Proof.KernelIdeal.AttnDefs
public import proofs.«01_k».proof.Proof.Value.KTile

@[expose] public section

set_option maxRecDepth 8192

noncomputable section

namespace Cert.KernelIdeal.Gen
open Idealize Idealize.ShloMosaic Idealize.ShloMosaic.Pointwise
open Cert.KernelIdeal Cert.Spec

/-! ## The operations of the attention region at one index -/

/-- Lane `r` of head `g`. -/
abbrev ln (g : Fin 4) (r : Fin 128) : Fin 512 := ⟨g.val * 128 + r.val, by omega⟩

theorem asel_at {S : Shape} (c : IVec S 1) (x y : FVec Ideal S .f32) (k : S.Idx) : select c x y k = Scalar.select (c k) (x k) (y k) := rfl

theorem matmul_qk (A : FVec Ideal S128x128 .fp8e4m3) (B : FVec Ideal S512x128 .fp8e4m3) (c : Fin 128) (l : Fin 512) :
    (matmul dot_S128x128_S512x128_S128x512_1_1_0_0_n_n none A B (constant S128x512 .f32 0x00000000#32) : FVec Ideal S128x512 .f32) (ix2 c l)
      = ∑ x : Fin 128, (A (ix2 c x) : EReal) * (B (ix2 l x) : EReal) := by
  pointwise

theorem matmul_pv (A : FVec Ideal S128x128 .fp8e4m3) (B : FVec Ideal S128x512 .fp8e4m3) (d : Fin 128) (l : Fin 512) :
    (matmul dot_S128x128_S128x512_S128x512_1_0_0_1_n_n none A B (constant S128x512 .f32 0x00000000#32) : FVec Ideal S128x512 .f32) (ix2 d l)
      = ∑ c : Fin 128, (A (ix2 d c) : EReal) * (B (ix2 c l) : EReal) := by
  pointwise

theorem red0_at (X : FVec Ideal S128x512 .f32) (l : Fin 512) :
    (shapeCast S1x512 (multiReduction .maximumf [0] S512 X 0xFF800000#32 reduces_S128x512_S512 (.inl rfl) rfl : FVec Ideal S512 .f32) shapeCasts_S512_S1x512) (ix2 0 l)
      = Finset.univ.sup fun c : Fin 128 => X (ix2 c l) := by
  pointwise
  rw [show Ideal.ofBits FTy.f32 4286578688#32 = ⊥ from cbot]
  rfl

theorem red64_at (X : FVec Ideal S64x512 .f32) (l : Fin 512) :
    (shapeCast S1x512 (multiReduction .maximumf [0] S512 X 0xFF800000#32 reduces_S64x512_S512 (.inl rfl) rfl : FVec Ideal S512 .f32) shapeCasts_S512_S1x512) (ix2 0 l)
      = Finset.univ.sup fun j : Fin 64 => X (ix2 j l) := by
  pointwise
  rw [show Ideal.ofBits FTy.f32 4286578688#32 = ⊥ from cbot]
  rfl

theorem red1_at (X : FVec Ideal S64x128 .f32) (j : Fin 64) :
    (shapeCast S64x1 (multiReduction .maximumf [1] S64 X 0xFF800000#32 reduces_S64x128_S64 (.inl rfl) rfl : FVec Ideal S64 .f32) shapeCasts_S64_S64x1) (ix2 j 0)
      = Finset.univ.sup fun r : Fin 128 => X (ix2 j r) := by
  pointwise
  rw [show Ideal.ofBits FTy.f32 4286578688#32 = ⊥ from cbot]
  rfl

theorem sum0_at (X : FVec Ideal S128x512 .f32) (l : Fin 512) :
    (shapeCast S1x512 (multiReduction .add [0] S512 X 0x00000000#32 reduces_S128x512_S512 (.inl rfl) rfl : FVec Ideal S512 .f32) shapeCasts_S512_S1x512) (ix2 0 l)
      = ∑ c : Fin 128, (X (ix2 c l) : EReal) := by
  pointwise

theorem pay8_at (x0 : Vec Ideal S1x128x512 .fp8e4m3) (g : Fin 4) (r x : Fin 128) :
    (k1_pay8 (F := Ideal) x0 : FVec Ideal S512x128 .fp8e4m3) (ix2 (ln g r) x) = x0 (ix3 0 r (ln g x)) := by
  unfold k1_pay8
  fin_cases g <;> pointwise
  all_goals
    try split_ifs
    all_goals first | omega | skip
    all_goals refine congrArg x0 (funext fun k => Fin.ext ?_)
    all_goals fin_cases k <;> simp <;> omega

theorem lane_bit : ∀ l : Fin 512, (let v13 := IntOp.remsi .vector (BitVec.ofNat 32 l.val) 128#32;
      Scalar.select (IntOp.andi (IntOp.xori (IntOp.cmpi .slt v13 0#32) 0#1) (IntOp.cmpi .ne v13 0#32)) (IntOp.addi v13 128#32) v13) = BitVec.ofNat 32 (l.val % 128) := by
  decide +kernel

theorem pay9_at (c : Fin 128) (l : Fin 512) : k1_pay9 (ix2 c l) = IntOp.subi (BitVec.ofNat 32 (l.val % 128)) (BitVec.ofNat 32 c.val) := by
  rw [← lane_bit]
  unfold k1_pay9
  pointwise
  have h : Scalar.select (Scalar.cmpi .eq 128#32 0#32) 1#32 128#32 = 128#32 := by decide
  have h' : Scalar.cmpi .slt 128#32 0#32 = 0#1 := by decide
  simp only [h, h']

theorem pay18_at (x1 : Vec Ideal S1x1x1x512 .f32) (x4 : Vec Ideal S1x1x64x1 .f32) (j : Fin 64) (l : Fin 512) :
    (k1_pay18 (F := Ideal) x1 x4 : FVec Ideal S64x512 .f32) (ix2 j l) = (x1 (ix4 0 0 0 l) : EReal) * (x4 (ix4 0 0 j 0) : EReal) * (((Real.sqrt 128)⁻¹ * (Real.log 2)⁻¹ : ℝ) : EReal) := by
  unfold k1_pay18
  pointwise
  rw [show (Named.named κ "sm_log2e" 0x3E0293EE#32 : Ideal .f32) = (((Real.sqrt 128)⁻¹ * (Real.log 2)⁻¹ : ℝ) : EReal) from IdealRules.named_const.ideal_named_scalar _ _ _ _ rfl]

theorem pay22_at (x1 : Vec Ideal S1x1x1x512 .f32) (x4 : Vec Ideal S1x1x64x1 .f32) (j : Fin 64) (l : Fin 512) :
    (k1_pay22 (F := Ideal) x1 x4 : FVec Ideal S64x512 .f32) (ix2 j l) = (k1_pay18 (F := Ideal) x1 x4 : FVec Ideal S64x512 .f32) (ix2 j l) := by
  unfold k1_pay22
  pointwise

theorem pay2_at (s : Vec Ideal S128x512 .f32) (a o : Vec Ideal S1x512 .f32) (c : Fin 128) (l : Fin 512) :
    (k1_pay2 (F := Ideal) s a o : FVec Ideal S128x512 .f32) (ix2 c l) = Ideal.exp2 ((s (ix2 c l) : EReal) * (a (ix2 0 l) : EReal) - (o (ix2 0 l) : EReal)) := by
  unfold k1_pay2
  pointwise
  rfl

theorem pay60_at (A : Vec Ideal S128x512 .f32) (L : Vec Ideal S1x512 .f32) (d : Fin 128) (l : Fin 512) :
    (k1_pay60 (F := Ideal) A L : FVec Ideal S128x512 .f32) (ix2 d l) = Ideal.div (A (ix2 d l)) (L (ix2 0 l)) := by
  unfold k1_pay60
  pointwise

theorem clip_at (X : FVec Ideal S128x512 .f32) (c : Fin 128) (l : Fin 512) :
    (truncf .fp8e4m3 (minimumf (broadcast S128x512 (Scalar.ofBits .f32 0x43E00000#32)) (maximumf (broadcast S128x512 (Scalar.ofBits .f32 0xC3E00000#32)) X)) bitsLt_fp8e4m3_f32 : FVec Ideal S128x512 .fp8e4m3) (ix2 c l)
      = clip (X (ix2 c l)) := by
  pointwise
  rfl

theorem sc_v_at (v : Vec Ideal S1x1x1x128x128 .fp8e4m3) (d c : Fin 128) :
    (shapeCast S128x128 v shapeCasts_S1x1x1x128x128_S128x128 : FVec Ideal S128x128 .fp8e4m3) (ix2 d c) = v (ix5 0 0 0 d c) := by
  pointwise

theorem acc_at (M A : FVec Ideal S128x512 .f32) (p : Vec Ideal S1x512 .f32) (d : Fin 128) (l : Fin 512) :
    (shapeCast S128x512 (addf A (mulf M (broadcastTo S128x512 p broadcasts_S1x512_S128x512))) shapeCasts_S128x512_S128x512 : FVec Ideal S128x512 .f32) (ix2 d l)
      = (A (ix2 d l) : EReal) + (M (ix2 d l) : EReal) * (p (ix2 0 l) : EReal) := by
  pointwise

theorem den_at (M A p : FVec Ideal S1x512 .f32) (l : Fin 512) :
    (shapeCast S1x512 (addf A (mulf M p)) shapeCasts_S1x512_S1x512 : FVec Ideal S1x512 .f32) (ix2 0 l)
      = (A (ix2 0 l) : EReal) + (M (ix2 0 l) : EReal) * (p (ix2 0 l) : EReal) := by
  pointwise

theorem start_acc (d : Fin 128) (l : Fin 512) : ((k1_pay56 (F := Ideal) : FVec Ideal S128x512 .f32) (ix2 d l) : EReal) = 0 := by
  unfold k1_pay56
  pointwise

theorem start_den (l : Fin 512) : ((k1_pay57 (F := Ideal) zF : FVec Ideal S1x512 .f32) (ix2 0 l) : EReal) = 0 := by
  unfold k1_pay57 zF
  pointwise

end Cert.KernelIdeal.Gen
-- ==== Proof.Value.KScore.lean ====
module

public import proofs.«01_k».proof.Proof.Value.KOps

@[expose] public section

set_option maxRecDepth 8192

noncomputable section

namespace Cert.KernelIdeal.Gen
open Idealize Idealize.ShloMosaic Idealize.ShloMosaic.Pointwise
open Cert.KernelIdeal Cert.Spec

/-! ## Scores, maxima and scales of one head at one grid point -/

/-- The query block of a grid point. -/
abbrev qi (i : grid1.Coords) : Fin 64 := ⟨(i 2).val, qb_lt i⟩
/-- Whether a key block lies in the window of the point's query block. -/
abbrev inJ (i : grid1.Coords) (j : Fin 64) : Prop := jlo i ≤ j.val ∧ j.val ≤ (i 2).val

/-- Raw scores of head `g`. -/
def Sraw (x0 : S1x128x512.Idx → EReal) (x2 : S1x8192x128.Idx → EReal) (g : Fin 4) (r : Fin 128) (j : Fin 64) (c : Fin 128) : EReal :=
  ∑ x : Fin 128, x2 (ix3 0 ⟨j.val * 128 + c.val, by omega⟩ x) * x0 (ix3 0 r (ln g x))

section Score
variable (i : grid1.Coords) (x0 : Vec Ideal S1x128x512 .fp8e4m3) (x2 : Vec Ideal S1x8192x128 .fp8e4m3) (g : Fin 4) (r c : Fin 128)

theorem kt_at (t : Fin (k1_t1_loop i).trips) (j : Fin 64) (hj : j.val = jlo i + t.val) (x : Fin 128) :
    kt (F := Ideal) i x2 t (ix3 0 c x) = x2 (ix3 0 ⟨j.val * 128 + c.val, by omega⟩ x) := by
  unfold kt
  refine congrArg x2 (funext fun k => Fin.ext ?_)
  have h := off1_eq i t
  fin_cases k
  · show k1_off1 i t 0 + 1 * 0 = 0
    rw [h]; rfl
  · show k1_off1 i t 1 + 1 * c.val = j.val * 128 + c.val
    rw [h]; show 128 * (jlo i + t.val) + 1 * c.val = _
    omega
  · show k1_off1 i t 2 + 1 * x.val = x.val
    rw [h]; show 0 + 1 * x.val = _
    omega

theorem word_at (t : Fin (k1_t1_loop i).trips) (j : Fin 64) (hj : j.val = jlo i + t.val) :
    IntOp.addi (Scalar.muli (Scalar.subi (BitVec.ofNat 32 (i 2).val) (Scf.iv (Scalar.maxsi (Scalar.subi (BitVec.ofNat 32 (i 2).val) 32#32) 0#32) 1#32 t.val)) 128#32)
      (IntOp.subi (BitVec.ofNat 32 ((ln g r).val % 128)) (BitVec.ofNat 32 c.val))
      = BitVec.ofInt 32 ((128 * (qi i).val + r.val : ℤ) - (128 * j.val + c.val)) := by
  have hr : (ln g r).val % 128 = r.val := by show (g.val * 128 + r.val) % 128 = r.val; omega
  rw [iv_eq, ← hj, hr, ← dist_word]
  show (BitVec.ofNat 32 (i 2).val - BitVec.ofNat 32 j.val) * 128#32 + (BitVec.ofNat 32 r.val - BitVec.ofNat 32 c.val)
    = (BitVec.ofNat 32 (i 2).val * 128#32 + BitVec.ofNat 32 r.val) - (BitVec.ofNat 32 j.val * 128#32 + BitVec.ofNat 32 c.val)
  generalize BitVec.ofNat 32 (i 2).val = a
  generalize BitVec.ofNat 32 j.val = b
  generalize BitVec.ofNat 32 r.val = d
  generalize BitVec.ofNat 32 c.val = e
  grind

theorem pay10_at (t : Fin (k1_t1_loop i).trips) (j : Fin 64) (hj : j.val = jlo i + t.val) :
    (k1_pay10 (F := Ideal) i x0 t (kt i x2 t) : FVec Ideal S128x512 .f32) (ix2 c (ln g r)) = kS (Sraw x0 x2 g) (Win (qi i)) r j c := by
  unfold k1_pay10
  rw [asel_at]
  have hm := matmul_qk (shapeCast S128x128 (kt (F := Ideal) i x2 t) shapeCasts_S1x128x128_S128x128) (k1_pay8 (F := Ideal) x0) c (ln g r)
  dsimp only
  rw [hm]
  have hw := word_at i g r c t j hj
  rw [← pay9_at] at hw
  refine (win_select (qi i) r j c _ _ _ hw).trans ?_
  unfold kS Sraw
  congr 1
  · refine Finset.sum_congr rfl fun x _ => congrArg₂ _ ?_ (pay8_at x0 g r x)
    refine Eq.trans ?_ (kt_at i x2 c t j hj x)
    pointwise

theorem sG_at (n : ℕ) (t : Fin (k1_t1_loop i).trips) (j : Fin 64) (hj : j.val = jlo i + t.val) (hn : 128 * t.val + c.val < 4224) :
    (sG (F := Ideal) i x0 x2 : S4224x512.Idx → EReal) (ix2 ⟨128 * t.val + c.val, hn⟩ (ln g r)) = kS (Sraw x0 x2 g) (Win (qi i)) r j c := by
  rw [← pay10_at i x0 x2 g r c t j hj]
  have hd : (128 * t.val + c.val) / 128 = t.val := by omega
  have hm : (128 * t.val + c.val) % 128 = c.val := by omega
  unfold sG
  refine (dif_pos (show (128 * t.val + c.val) / 128 < (k1_t1_loop i).trips by rw [hd]; exact t.isLt)).trans ?_
  have et : (⟨(128 * t.val + c.val) / 128, by rw [hd]; exact t.isLt⟩ : Fin (k1_t1_loop i).trips) = t := Fin.ext hd
  have ec : (⟨(128 * t.val + c.val) % 128, Nat.mod_lt _ (by norm_num)⟩ : Fin 128) = c := Fin.ext hm
  show k1_pay11 i x0 (⟨(128 * t.val + c.val) / 128, by rw [hd]; exact t.isLt⟩ : Fin (k1_t1_loop i).trips) (kt i x2 ⟨(128 * t.val + c.val) / 128, by rw [hd]; exact t.isLt⟩)
    (ix2 (⟨(128 * t.val + c.val) % 128, Nat.mod_lt _ (by norm_num)⟩ : Fin 128) (ln g r)) = _
  rw [et, ec]
  unfold k1_pay11
  pointwise

theorem bG_at (j : Fin 64) (hj : inJ i j) :
    (bG (F := Ideal) i x0 x2 : S64x512.Idx → EReal) (ix2 j (ln g r)) = Finset.univ.sup fun c => kS (Sraw x0 x2 g) (Win (qi i)) r j c := by
  have ht : j.val - jlo i < (k1_t1_loop i).trips := by rw [trips1_eq]; have := hj.1; have := hj.2; omega
  unfold bG
  refine (dif_pos (show jlo i ≤ j.val ∧ j.val - jlo i < (k1_t1_loop i).trips from ⟨hj.1, ht⟩)).trans ?_
  refine Eq.trans ?_ (Finset.sup_congr rfl fun c _ => pay10_at i x0 x2 g r c ⟨j.val - jlo i, ht⟩ j (by have := hj.1; show j.val = jlo i + (j.val - jlo i); omega))
  refine Eq.trans ?_ (red0_at (k1_pay10 (F := Ideal) i x0 ⟨j.val - jlo i, ht⟩ (kt i x2 ⟨j.val - jlo i, ht⟩)) (ln g r))
  show k1_pay12 (F := Ideal) i x0 ⟨j.val - jlo i, ht⟩ (kt i x2 ⟨j.val - jlo i, ht⟩) (ix2 0 (ln g r)) = _
  unfold k1_pay12
  pointwise

end Score

section Tables
variable (i : grid1.Coords) (x1 : Vec Ideal S1x1x1x512 .f32) (x4 x5 : Vec Ideal S1x1x64x1 .f32) (b : Vec Ideal S64x512 .f32)
variable (S : Fin 128 → Fin 64 → Fin 128 → EReal) (qs : EReal) (g : Fin 4)
variable (hq : ∀ r : Fin 128, x1 (ix4 0 0 0 (ln g r)) = qs)
variable (hb : ∀ (r : Fin 128) (j : Fin 64), inJ i j → b (ix2 j (ln g r)) = Finset.univ.sup fun c => kS S (Win (qi i)) r j c)

/-- The scales of the key blocks and of the value blocks. -/
abbrev blkS (x : S1x1x64x1.Idx → EReal) (j : Fin 64) : EReal := x (ix4 0 0 j 0)

include hq in
theorem kc_at (r : Fin 128) (j : Fin 64) : (k1_pay18 (F := Ideal) x1 x4 : FVec Ideal S64x512 .f32) (ix2 j (ln g r)) = kc qs (blkS x4) j := by
  rw [pay18_at, hq]; rfl

theorem inJ_bit : ∀ (n j : Fin 64), IntOp.andi (IntOp.cmpi .sge (BitVec.ofNat 32 j.val) (BitVec.ofNat 32 (n.val - 32))) (IntOp.cmpi .sle (BitVec.ofNat 32 j.val) (BitVec.ofNat 32 n.val))
    = BitVec.ofBool (decide (n.val - 32 ≤ j.val ∧ j.val ≤ n.val)) := by
  decide +kernel

theorem mask_at (j : Fin 64) (l : Fin 512) :
    (broadcastTo S64x512 (shapeCast S64x1 (andi (k1_pay16 i) (k1_pay17 i)) shapeCasts_S64x1_S64x1) broadcasts_S64x1_S64x512) (ix2 j l) = BitVec.ofBool (decide (inJ i j)) := by
  pointwise [k1_pay16, k1_pay17]
  rw [lo_eq i]
  exact inJ_bit (qi i) j

theorem mul19_at (X : FVec Ideal S64x512 .f32) (j : Fin 64) (l : Fin 512) : mulf b X (ix2 j l) = (b (ix2 j l) : EReal) * (X (ix2 j l) : EReal) := by
  pointwise

include hq hb in
theorem kl_at (r : Fin 128) (j : Fin 64) :
    (k1_pay19 (F := Ideal) (k1_pay16 i) (k1_pay17 i) x1 x4 b : FVec Ideal S64x512 .f32) (ix2 j (ln g r)) = kl S (Win (qi i)) qs (blkS x4) (inJ i) r j := by
  unfold k1_pay19
  rw [asel_at]
  have hm := mask_at i j (ln g r)
  rw [hm, mul19_at, kc_at x1 x4 qs g hq]
  unfold kl
  by_cases h : inJ i j
  · rw [if_pos h, decide_eq_true h, hb r j h]; rfl
  · rw [if_neg h, decide_eq_false h]; exact cbot

include hq hb in
theorem km_at (r : Fin 128) : (mG (F := Ideal) i x1 x4 b : FVec Ideal S1x512 .f32) (ix2 0 (ln g r)) = km S (Win (qi i)) qs (blkS x4) (inJ i) r := by
  unfold mG k1_pay20
  refine (red64_at _ _).trans ?_
  unfold km
  exact Finset.sup_congr rfl fun j _ => kl_at i x1 x4 b S qs g hq hb r j

theorem sub21_at (X : FVec Ideal S64x512 .f32) (M : FVec Ideal S1x512 .f32) (j : Fin 64) (l : Fin 512) :
    (subf X (broadcastTo S64x512 M broadcasts_S1x512_S64x512) : FVec Ideal S64x512 .f32) (ix2 j l) = (X (ix2 j l) : EReal) - (M (ix2 0 l) : EReal) := by
  pointwise

include hq hb in
theorem kd_at (r : Fin 128) (j : Fin 64) : (dG (F := Ideal) i x1 x4 b : FVec Ideal S64x512 .f32) (ix2 j (ln g r))
    = kl S (Win (qi i)) qs (blkS x4) (inJ i) r j - km S (Win (qi i)) qs (blkS x4) (inJ i) r := by
  rw [← km_at i x1 x4 b S qs g hq hb r, ← kl_at i x1 x4 b S qs g hq hb r j]
  unfold dG k1_pay21 mG
  exact sub21_at _ _ j (ln g r)

end Tables

end Cert.KernelIdeal.Gen
-- ==== Proof.Value.KTab.lean ====
module

public import proofs.«01_k».proof.Proof.Value.KScore

@[expose] public section

set_option maxRecDepth 8192

noncomputable section

namespace Cert.KernelIdeal.Gen
open Idealize Idealize.ShloMosaic Idealize.ShloMosaic.Pointwise
open Cert.KernelIdeal Cert.Spec

/-! ## The three tables of one grid point: offsets, value scales and weight scales -/

/-- The exponents of a column of largest weights. -/
def gE (A : FVec Ideal S64x1 .f32) : IVec S64x1 32 :=
  select (ori (cmpf .oeq A (broadcast S64x1 (Scalar.ofBits .f32 0x00000000#32))) (cmpf .oeq (mulf A (broadcast S64x1 (Scalar.ofBits .f32 0x3B124925#32))) (broadcast S64x1 (Scalar.ofBits .f32 0x00000000#32))))
    (broadcast S64x1 0#32)
    (addi (fptosi 32 (floor (divf (log (mulf A (broadcast S64x1 (Scalar.ofBits .f32 0x3B124925#32)))) (broadcast S64x1 (Named.named κ "ln2" 0x3F317218#32))))) (broadcast S64x1 1#32))

theorem gE_lev (X : FVec Ideal S64x1 .f32) (j : Fin 64) :
    (divf (log (mulf X (broadcast S64x1 (Scalar.ofBits .f32 0x3B124925#32)))) (broadcast S64x1 (Named.named κ "ln2" 0x3F317218#32)) : FVec Ideal S64x1 .f32) (ix2 j 0)
      = Ideal.div (Ideal.log (X (ix2 j 0) * Ideal.ofBits .f32 0x3B124925#32)) ((Real.log 2 : ℝ) : EReal) := by
  pointwise
  rw [named_ln2]

theorem gE_oeq (X : FVec Ideal S64x1 .f32) (j : Fin 64) :
    (ori (cmpf .oeq X (broadcast S64x1 (Scalar.ofBits .f32 0x00000000#32))) (cmpf .oeq (mulf X (broadcast S64x1 (Scalar.ofBits .f32 0x3B124925#32))) (broadcast S64x1 (Scalar.ofBits .f32 0x00000000#32)))) (ix2 j 0)
      = IntOp.ori (BitVec.ofBool (decide (X (ix2 j 0) = 0))) (BitVec.ofBool (decide (X (ix2 j 0) * Ideal.ofBits .f32 0x3B124925#32 = 0))) := by pointwise

theorem gE_lev1 (Y : FVec Ideal S64x1 .f32) (j : Fin 64) :
    (addi (fptosi 32 (floor Y)) (broadcast S64x1 1#32)) (ix2 j 0)
      = IntOp.addi (Ideal.fptosi 32 (Ideal.liftRound Int.floor (Y (ix2 j 0)))) 1#32 := rfl

theorem gE_at (A : FVec Ideal S64x1 .f32) (j : Fin 64) : gE A (ix2 j 0) = expo (A (ix2 j 0)) := by
  unfold gE
  rw [qsel_at]
  rw [← expo_guard]
  unfold lvl
  refine qsel_if2 _ _ _ _ _ _ _ ?_ ?_ ?_
  · exact gE_oeq _ j
  · rfl
  · refine (gE_lev1 _ j).trans ?_
    rw [gE_lev]

section Pieces
variable (M : FVec Ideal S1x512 .f32) (a b : FVec Ideal S64x1 .f32) (w : IVec S64x1 32) (k : IVec S64x1 1) (z : Ideal .f32) (n : BitVec 32)
  (x5 : Vec Ideal S1x1x64x1 .f32) (j : Fin 64) (r : Fin 128)

theorem off0_at : (k1_pay29 (F := Ideal) M a w k z : FVec Ideal S64x128 .f32) (ix2 j r) = (M (ix2 0 (ln 0 r)) : EReal) + (((k1_pay27 a w k z (ix2 j 0)).toInt : ℝ) : EReal) := by
  have e : ln 0 r = ⟨r.val, by omega⟩ := Fin.ext (by show 0 * 128 + r.val = r.val; omega)
  rw [e]
  unfold k1_pay29
  pointwise
  rfl

theorem off1_at : (k1_pay37 (F := Ideal) M a b w z : FVec Ideal S64x128 .f32) (ix2 j r) = (M (ix2 0 (ln 1 r)) : EReal) + (((k1_pay35 a b w z (ix2 j 0)).toInt : ℝ) : EReal) := by
  unfold k1_pay37
  pointwise
  rfl

theorem off2_at : (k1_pay45 (F := Ideal) M a b w n : FVec Ideal S64x128 .f32) (ix2 j r) = (M (ix2 0 (ln 2 r)) : EReal) + (((k1_pay43 a b w n (ix2 j 0)).toInt : ℝ) : EReal) := by
  unfold k1_pay45
  pointwise
  rfl

theorem off3_at (c : FVec Ideal S64x1 .f32) : (k1_pay53 (F := Ideal) M a b c : FVec Ideal S64x128 .f32) (ix2 j r) = (M (ix2 0 (ln 3 r)) : EReal) + (((k1_pay51 a b c (ix2 j 0)).toInt : ℝ) : EReal) := by
  unfold k1_pay53
  pointwise
  rfl

theorem ls0_at : (k1_pay30 (F := Ideal) a w k z : FVec Ideal S64x128 .f32) (ix2 j r) = pow (k1_pay27 a w k z (ix2 j 0)) := by
  unfold k1_pay30 k1_pay28
  pointwise
  rfl

theorem ls1_at : (k1_pay38 (F := Ideal) a b w z : FVec Ideal S64x128 .f32) (ix2 j r) = pow (k1_pay35 a b w z (ix2 j 0)) := by
  unfold k1_pay38 k1_pay36
  pointwise
  rfl

theorem ls2_at : (k1_pay46 (F := Ideal) a b w n : FVec Ideal S64x128 .f32) (ix2 j r) = pow (k1_pay43 a b w n (ix2 j 0)) := by
  unfold k1_pay46 k1_pay44
  pointwise
  rfl

theorem ls3_at (c : FVec Ideal S64x1 .f32) : (k1_pay54 (F := Ideal) a b c : FVec Ideal S64x128 .f32) (ix2 j r) = pow (k1_pay51 a b c (ix2 j 0)) := by
  unfold k1_pay54 k1_pay52
  pointwise
  rfl

theorem pv0_at : (k1_pay31 (F := Ideal) a w k z x5 : FVec Ideal S64x128 .f32) (ix2 j r) = pow (k1_pay27 a w k z (ix2 j 0)) * blkS x5 j := by
  unfold k1_pay31 k1_pay28
  pointwise
  rfl

theorem pv1_at : (k1_pay39 (F := Ideal) a b w z x5 : FVec Ideal S64x128 .f32) (ix2 j r) = pow (k1_pay35 a b w z (ix2 j 0)) * blkS x5 j := by
  unfold k1_pay39 k1_pay36
  pointwise
  rfl

theorem pv2_at : (k1_pay47 (F := Ideal) a b w n x5 : FVec Ideal S64x128 .f32) (ix2 j r) = pow (k1_pay43 a b w n (ix2 j 0)) * blkS x5 j := by
  unfold k1_pay47 k1_pay44
  pointwise
  rfl

theorem pv3_at (c : FVec Ideal S64x1 .f32) : (k1_pay55 (F := Ideal) a b c x5 : FVec Ideal S64x128 .f32) (ix2 j r) = pow (k1_pay51 a b c (ix2 j 0)) * blkS x5 j := by
  unfold k1_pay55 k1_pay52
  pointwise
  rfl

end Pieces

theorem expv_at (X : FVec Ideal S64x1 .f32) (k : S64x1.Idx) : (exp2 X : FVec Ideal S64x1 .f32) k = Ideal.exp2 (X k) := rfl

theorem amax_at (X : FVec Ideal S64x128 .f32) (j : Fin 64) :
    (exp2 (shapeCast S64x1 (multiReduction .maximumf [1] S64 X 0xFF800000#32 reduces_S64x128_S64 (.inl rfl) rfl : FVec Ideal S64 .f32) shapeCasts_S64_S64x1) : FVec Ideal S64x1 .f32) (ix2 j 0)
      = Ideal.exp2 (Finset.univ.sup fun r : Fin 128 => X (ix2 j r)) := by
  rw [← red1_at]
  exact expv_at _ _

theorem sl0_at (X : FVec Ideal S64x512 .f32) (j : Fin 64) (r : Fin 128) : (extractStridedSlice S64x128 ![0, 0] X slices_S64x512_o0_0_S64x128 : FVec Ideal S64x128 .f32) (ix2 j r) = X (ix2 j (ln 0 r)) := by
  pointwise
  refine congrArg X (congrArg (ix2 j) (Fin.ext ?_))
  show r.val = 0 * 128 + r.val
  omega

theorem sl1_at (X : FVec Ideal S64x512 .f32) (j : Fin 64) (r : Fin 128) : (extractStridedSlice S64x128 ![0, 128] X slices_S64x512_o0_128_S64x128 : FVec Ideal S64x128 .f32) (ix2 j r) = X (ix2 j (ln 1 r)) := by
  pointwise
  refine congrArg X (congrArg (ix2 j) (Fin.ext ?_))
  show 128 + r.val = 1 * 128 + r.val
  omega

theorem sl2_at (X : FVec Ideal S64x512 .f32) (j : Fin 64) (r : Fin 128) : (extractStridedSlice S64x128 ![0, 256] X slices_S64x512_o0_256_S64x128 : FVec Ideal S64x128 .f32) (ix2 j r) = X (ix2 j (ln 2 r)) := by
  pointwise
  refine congrArg X (congrArg (ix2 j) (Fin.ext ?_))
  show 256 + r.val = 2 * 128 + r.val
  omega

theorem sl3_at (X : FVec Ideal S64x512 .f32) (j : Fin 64) (r : Fin 128) : (extractStridedSlice S64x128 ![0, 384] X slices_S64x512_o0_384_S64x128 : FVec Ideal S64x128 .f32) (ix2 j r) = X (ix2 j (ln 3 r)) := by
  pointwise
  refine congrArg X (congrArg (ix2 j) (Fin.ext ?_))
  show 384 + r.val = 3 * 128 + r.val
  omega

theorem aV0_at (v36 v38 : IVec S64x1 1) (x1 : Vec Ideal S1x1x1x512 .f32) (x4 : Vec Ideal S1x1x64x1 .f32) (b : Vec Ideal S64x512 .f32) (j : Fin 64) :
    (k1_pay23 (F := Ideal) v36 v38 x1 x4 b : FVec Ideal S64x1 .f32) (ix2 j 0) = Ideal.exp2 (Finset.univ.sup fun r : Fin 128 => k1_pay21 (F := Ideal) v36 v38 x1 x4 b (ix2 j (ln 0 r))) := by
  unfold k1_pay23
  refine (amax_at _ j).trans ?_
  simp only [sl0_at]

theorem aV1_at (D : FVec Ideal S64x512 .f32) (j : Fin 64) : (k1_pay32 (F := Ideal) D : FVec Ideal S64x1 .f32) (ix2 j 0) = Ideal.exp2 (Finset.univ.sup fun r : Fin 128 => D (ix2 j (ln 1 r))) := by
  unfold k1_pay32
  refine (amax_at _ j).trans ?_
  simp only [sl1_at]

theorem aV2_at (D : FVec Ideal S64x512 .f32) (j : Fin 64) : (k1_pay40 (F := Ideal) D : FVec Ideal S64x1 .f32) (ix2 j 0) = Ideal.exp2 (Finset.univ.sup fun r : Fin 128 => D (ix2 j (ln 2 r))) := by
  unfold k1_pay40
  refine (amax_at _ j).trans ?_
  simp only [sl2_at]

theorem aV3_at (D : FVec Ideal S64x512 .f32) (j : Fin 64) : (k1_pay48 (F := Ideal) D : FVec Ideal S64x1 .f32) (ix2 j 0) = Ideal.exp2 (Finset.univ.sup fun r : Fin 128 => D (ix2 j (ln 3 r))) := by
  unfold k1_pay48
  refine (amax_at _ j).trans ?_
  simp only [sl3_at]

section Tab
variable (i : grid1.Coords) (x1 : Vec Ideal S1x1x1x512 .f32) (x4 x5 : Vec Ideal S1x1x64x1 .f32) (b : Vec Ideal S64x512 .f32)

/-- The largest weights of the four heads. -/
def aV : Fin 4 → FVec Ideal S64x1 .f32 :=
  ![k1_pay23 (k1_pay16 i) (k1_pay17 i) x1 x4 b, k1_pay32 (dG i x1 x4 b), k1_pay40 (dG i x1 x4 b), k1_pay48 (dG i x1 x4 b)]

/-- The exponents of the four heads. -/
def eV : Fin 4 → IVec S64x1 32 :=
  ![k1_pay27 (k1_pay24 (k1_pay16 i) (k1_pay17 i) x1 x4 b) (k1_pay25 (k1_pay16 i) (k1_pay17 i) x1 x4 b) (k1_pay26 (k1_pay16 i) (k1_pay17 i) x1 x4 b) zF,
    k1_pay35 (k1_pay32 (dG i x1 x4 b)) (k1_pay33 (dG i x1 x4 b)) (k1_pay34 (dG i x1 x4 b)) zF,
    k1_pay43 (k1_pay40 (dG i x1 x4 b)) (k1_pay41 (dG i x1 x4 b)) (k1_pay42 (dG i x1 x4 b)) 1#32,
    k1_pay51 (k1_pay48 (dG i x1 x4 b)) (k1_pay49 (dG i x1 x4 b)) (k1_pay50 (dG i x1 x4 b))]

theorem aV_at (g : Fin 4) (j : Fin 64) : aV i x1 x4 b g (ix2 j 0) = Ideal.exp2 (Finset.univ.sup fun r : Fin 128 => dG (F := Ideal) i x1 x4 b (ix2 j (ln g r))) := by
  fin_cases g
  · exact aV0_at _ _ _ _ _ j
  · exact aV1_at _ j
  · exact aV2_at _ j
  · exact aV3_at _ j

theorem eV_eq (g : Fin 4) : eV i x1 x4 b g = gE (aV i x1 x4 b g) := by
  fin_cases g <;> rfl

theorem four_at (p0 p1 p2 p3 : Vec Ideal S64x128 .f32) (T : Fin 4 → Fin 64 → Fin 128 → EReal)
    (h0 : ∀ j r, p0 (ix2 j r) = T 0 j r) (h1 : ∀ j r, p1 (ix2 j r) = T 1 j r) (h2 : ∀ j r, p2 (ix2 j r) = T 2 j r) (h3 : ∀ j r, p3 (ix2 j r) = T 3 j r)
    (g : Fin 4) (j : Fin 64) (r : Fin 128) :
    (View.canon (Val := Elt Ideal) (e := .f32) (four64 p0 p1 p2 p3) : S64x512.Idx → EReal) (ix2 j (ln g r)) = T g j r := by
  refine (View.canon_apply_of_pieces (Val := Elt Ideal) (e := .f32) (fun y : S64x512.Idx => T ⟨(y 1).val / 128, by have h : (y 1).val < 512 := (y 1).isLt; omega⟩ (y 0) ⟨(y 1).val % 128, by omega⟩) (four64 p0 p1 p2 p3) (fun p hp => ?_) (ix2 j (ln g r)) (cover_four _ _ _ _ _)).trans ?_
  · rcases List.mem_cons.1 hp with rfl | hp
    · intro z; idx_vars z; refine (h3 z0 z1).trans ?_
      have hz : z1.val < 128 := z1.isLt
      refine congr (congr (congrArg T (Fin.ext ?_)) (Fin.ext ?_)) (Fin.ext ?_)
      · show 3 = (384 + 1 * z1.val) / 128; omega
      · show z0.val = 0 + 1 * z0.val; omega
      · show z1.val = (384 + 1 * z1.val) % 128; omega
    rcases List.mem_cons.1 hp with rfl | hp
    · intro z; idx_vars z; refine (h2 z0 z1).trans ?_
      have hz : z1.val < 128 := z1.isLt
      refine congr (congr (congrArg T (Fin.ext ?_)) (Fin.ext ?_)) (Fin.ext ?_)
      · show 2 = (256 + 1 * z1.val) / 128; omega
      · show z0.val = 0 + 1 * z0.val; omega
      · show z1.val = (256 + 1 * z1.val) % 128; omega
    rcases List.mem_cons.1 hp with rfl | hp
    · intro z; idx_vars z; refine (h1 z0 z1).trans ?_
      have hz : z1.val < 128 := z1.isLt
      refine congr (congr (congrArg T (Fin.ext ?_)) (Fin.ext ?_)) (Fin.ext ?_)
      · show 1 = (128 + 1 * z1.val) / 128; omega
      · show z0.val = 0 + 1 * z0.val; omega
      · show z1.val = (128 + 1 * z1.val) % 128; omega
    rcases List.mem_cons.1 hp with rfl | hp
    · intro z; idx_vars z; refine (h0 z0 z1).trans ?_
      have hz : z1.val < 128 := z1.isLt
      refine congr (congr (congrArg T (Fin.ext ?_)) (Fin.ext ?_)) (Fin.ext ?_)
      · show 0 = (0 + 1 * z1.val) / 128; omega
      · show z0.val = 0 + 1 * z0.val; omega
      · show z1.val = (0 + 1 * z1.val) % 128; omega
    exact absurd hp (by simp)
  · refine congr (congr (congrArg T (Fin.ext ?_)) rfl) (Fin.ext ?_)
    · show (g.val * 128 + r.val) / 128 = g.val; omega
    · show (g.val * 128 + r.val) % 128 = r.val; omega

variable (S : Fin 128 → Fin 64 → Fin 128 → EReal) (qs : EReal) (g : Fin 4)
variable (hq : ∀ r : Fin 128, x1 (ix4 0 0 0 (ln g r)) = qs)
variable (hb : ∀ (r : Fin 128) (j : Fin 64), inJ i j → b (ix2 j (ln g r)) = Finset.univ.sup fun c => kS S (Win (qi i)) r j c)

include hq hb in
theorem ka_at (j : Fin 64) : aV i x1 x4 b g (ix2 j 0) = ka S (Win (qi i)) qs (blkS x4) (inJ i) j := by
  rw [aV_at]
  unfold ka
  congr 1
  exact Finset.sup_congr rfl fun r _ => kd_at i x1 x4 b S qs g hq hb r j

include hq hb in
theorem ke_at (j : Fin 64) : eV i x1 x4 b g (ix2 j 0) = expo (ka S (Win (qi i)) qs (blkS x4) (inJ i) j) := by
  rw [eV_eq, gE_at, ka_at i x1 x4 b S qs g hq hb]

include hq hb in
theorem off_tab (j : Fin 64) (r : Fin 128) : (View.canon (Val := Elt Ideal) (e := .f32) (offL i x1 x4 b) : S64x512.Idx → EReal) (ix2 j (ln g r))
    = km S (Win (qi i)) qs (blkS x4) (inJ i) r + (((expo (ka S (Win (qi i)) qs (blkS x4) (inJ i) j)).toInt : ℝ) : EReal) := by
  rw [← ke_at i x1 x4 b S qs g hq hb j, ← km_at i x1 x4 b S qs g hq hb r]
  exact four_at _ _ _ _ (fun g j r => (mG (F := Ideal) i x1 x4 b (ix2 0 (ln g r)) : EReal) + (((eV i x1 x4 b g (ix2 j 0)).toInt : ℝ) : EReal))
    (fun j r => off0_at _ _ _ _ _ j r) (fun j r => off1_at _ _ _ _ _ j r) (fun j r => off2_at _ _ _ _ _ j r) (fun j r => off3_at _ _ _ j r _) g j r

include hq hb in
theorem ls_tab (j : Fin 64) (r : Fin 128) : (View.canon (Val := Elt Ideal) (e := .f32) (lsL i x1 x4 b) : S64x512.Idx → EReal) (ix2 j (ln g r))
    = pow (expo (ka S (Win (qi i)) qs (blkS x4) (inJ i) j)) := by
  rw [← ke_at i x1 x4 b S qs g hq hb j]
  exact four_at _ _ _ _ (fun g j _ => pow (eV i x1 x4 b g (ix2 j 0)))
    (fun j r => ls0_at _ _ _ _ j r) (fun j r => ls1_at _ _ _ _ j r) (fun j r => ls2_at _ _ _ _ j r) (fun j r => ls3_at _ _ j r _) g j r

include hq hb in
theorem pv_tab (j : Fin 64) (r : Fin 128) : (View.canon (Val := Elt Ideal) (e := .f32) (pvL i x1 x4 x5 b) : S64x512.Idx → EReal) (ix2 j (ln g r))
    = pow (expo (ka S (Win (qi i)) qs (blkS x4) (inJ i) j)) * blkS x5 j := by
  rw [← ke_at i x1 x4 b S qs g hq hb j]
  exact four_at _ _ _ _ (fun g j _ => pow (eV i x1 x4 b g (ix2 j 0)) * blkS x5 j)
    (fun j r => pv0_at _ _ _ _ _ j r) (fun j r => pv1_at _ _ _ _ _ j r) (fun j r => pv2_at _ _ _ _ _ j r) (fun j r => pv3_at _ _ _ j r _) g j r

end Tab

end Cert.KernelIdeal.Gen
-- ==== Proof.Value.KFold.lean ====
module

public import proofs.«01_k».proof.Proof.Value.KTab

@[expose] public section

set_option maxRecDepth 8192

noncomputable section

namespace Cert.KernelIdeal.Gen
open Idealize Idealize.ShloMosaic Idealize.ShloMosaic.Pointwise
open Cert.KernelIdeal Cert.Spec

/-! ## The accumulation over the window, and the quotient -/

section Reads
variable (i : grid1.Coords) (t : Fin (k1_t3_loop i).trips) (j : Fin 64) (hj : j.val = jlo i + t.val)

include hj in
theorem rowT_at (T : Vec Ideal S64x512 .f32) (l : Fin 512) : (rowT (F := Ideal) i T t : S1x512.Idx → EReal) (ix2 0 l) = T (ix2 j l) := by
  unfold rowT
  refine congrArg T (funext fun k => Fin.ext ?_)
  have h := off8_eq i t
  fin_cases k
  · show k1_off8 i t 0 + 1 * 0 = j.val
    rw [h]; show jlo i + t.val + 1 * 0 = _
    omega
  · show k1_off8 i t 1 + 1 * l.val = l.val
    rw [h]; show 0 + 1 * l.val = _
    omega

theorem tileS_at (S : Vec Ideal S4224x512 .f32) (c : Fin 128) (l : Fin 512) (hn : 128 * t.val + c.val < 4224) :
    (tileS (F := Ideal) i S t : S128x512.Idx → EReal) (ix2 c l) = S (ix2 ⟨128 * t.val + c.val, hn⟩ l) := by
  unfold tileS
  refine congrArg S (funext fun k => Fin.ext ?_)
  have h := off7_eq i t
  fin_cases k
  · show k1_off7 i t 0 + 1 * c.val = 128 * t.val + c.val
    rw [h]; show 128 * t.val + 1 * c.val = _
    omega
  · show k1_off7 i t 1 + 1 * l.val = l.val
    rw [h]; show 0 + 1 * l.val = _
    omega

include hj in
theorem tileV_at (x3 : Vec Ideal S1x1x64x128x128 .fp8e4m3) (d c : Fin 128) :
    (tileV (F := Ideal) i x3 t : S1x1x1x128x128.Idx → EReal) (ix5 0 0 0 d c) = x3 (ix5 0 0 j d c) := by
  unfold tileV
  refine congrArg x3 (funext fun k => Fin.ext ?_)
  have h := off9_eq i t
  fin_cases k
  · show k1_off9 i t 0 + 1 * 0 = 0
    rw [h]; rfl
  · show k1_off9 i t 1 + 1 * 0 = 0
    rw [h]; rfl
  · show k1_off9 i t 2 + 1 * 0 = j.val
    rw [h]; show jlo i + t.val + 1 * 0 = _
    omega
  · show k1_off9 i t 3 + 1 * d.val = d.val
    rw [h]; show 0 + 1 * d.val = _
    omega
  · show k1_off9 i t 4 + 1 * c.val = c.val
    rw [h]; show 0 + 1 * c.val = _
    omega

end Reads

theorem pay4_at (s : Vec Ideal S128x512 .f32) (a o : Vec Ideal S1x512 .f32) (v : Vec Ideal S1x1x1x128x128 .fp8e4m3) (A : Vec Ideal S128x512 .f32) (p : Vec Ideal S1x512 .f32) (d : Fin 128) (l : Fin 512) :
    (k1_pay58 (F := Ideal) (k1_pay4 (F := Ideal) s a o v A p) : FVec Ideal S128x512 .f32) (ix2 d l)
      = (A (ix2 d l) : EReal) + (∑ c : Fin 128, (v (ix5 0 0 0 d c) : EReal) * clip (Ideal.exp2 ((s (ix2 c l) : EReal) * (a (ix2 0 l) : EReal) - (o (ix2 0 l) : EReal)))) * (p (ix2 0 l) : EReal) := by
  unfold k1_pay58 k1_pay4
  refine (acc_at _ A p d l).trans ?_
  rw [matmul_pv]
  congr 2
  refine Finset.sum_congr rfl fun c _ => ?_
  rw [sc_v_at, ← pay2_at, ← clip_at]

theorem pay3_at (s : Vec Ideal S128x512 .f32) (a o L p : Vec Ideal S1x512 .f32) (l : Fin 512) :
    (k1_pay3 (F := Ideal) s a o L p : FVec Ideal S1x512 .f32) (ix2 0 l)
      = (L (ix2 0 l) : EReal) + (∑ c : Fin 128, Ideal.exp2 ((s (ix2 c l) : EReal) * (a (ix2 0 l) : EReal) - (o (ix2 0 l) : EReal))) * (p (ix2 0 l) : EReal) := by
  unfold k1_pay3
  refine (den_at _ L p l).trans ?_
  rw [sum0_at]
  congr 2
  exact Finset.sum_congr rfl fun c _ => pay2_at s a o c l

/-- A sum over consecutive blocks is a sum over the blocks of an interval. -/
theorem sum_win (f : Fin 64 → EReal) (lo n : ℕ) (h : lo + n ≤ 64) :
    (∑ t ∈ Finset.range n, if ht : lo + t < 64 then f ⟨lo + t, ht⟩ else 0) = ∑ j : Fin 64 with lo ≤ j.val ∧ j.val < lo + n, f j := by
  refine Finset.sum_bij' (fun t _ => if ht : lo + t < 64 then (⟨lo + t, ht⟩ : Fin 64) else 0) (fun j _ => j.val - lo) ?_ ?_ ?_ ?_ ?_
  · intro t ht
    have := Finset.mem_range.1 ht
    rw [dif_pos (by omega)]
    exact Finset.mem_filter.2 ⟨Finset.mem_univ _, by show lo ≤ lo + t; omega, by show lo + t < lo + n; omega⟩
  · intro j hj
    have := (Finset.mem_filter.1 hj).2
    exact Finset.mem_range.2 (by omega)
  · intro t ht
    have := Finset.mem_range.1 ht
    rw [dif_pos (by omega)]
    show lo + t - lo = t
    omega
  · intro j hj
    have := (Finset.mem_filter.1 hj).2
    rw [dif_pos (by omega)]
    exact Fin.ext (by show lo + (j.val - lo) = j.val; omega)
  · intro t ht
    have := Finset.mem_range.1 ht
    rw [dif_pos (by omega), dif_pos (by omega)]

section FoldAt
variable (i : grid1.Coords) (x3 : Vec Ideal S1x1x64x128x128 .fp8e4m3) (S : Vec Ideal S4224x512 .f32) (sc off pv ls : Vec Ideal S64x512 .f32)
  (l : Fin 512) (w : Fin 64 → Fin 128 → EReal) (P Q : Fin 64 → EReal)
variable (hw : ∀ (t : Fin (k1_t3_loop i).trips) (j : Fin 64) (c : Fin 128), j.val = jlo i + t.val → ∀ hn : 128 * t.val + c.val < 4224,
    Ideal.exp2 ((S (ix2 ⟨128 * t.val + c.val, hn⟩ l) : EReal) * (sc (ix2 j l) : EReal) - (off (ix2 j l) : EReal)) = w j c)
variable (hP : ∀ j, pv (ix2 j l) = P j) (hQ : ∀ j, ls (ix2 j l) = Q j)

include hw hP hQ in
theorem fold_at (d : Fin 128) (n : ℕ) (hn : n ≤ (k1_t3_loop i).trips) :
    ((fold (F := Ideal) i x3 S sc off pv ls n).1 (ix2 d l) : EReal)
        = ∑ t ∈ Finset.range n, (if ht : jlo i + t < 64 then (∑ c : Fin 128, (x3 (ix5 0 0 ⟨jlo i + t, ht⟩ d c) : EReal) * clip (w ⟨jlo i + t, ht⟩ c)) * P ⟨jlo i + t, ht⟩ else 0)
    ∧ ((fold (F := Ideal) i x3 S sc off pv ls n).2 (ix2 0 l) : EReal)
        = ∑ t ∈ Finset.range n, (if ht : jlo i + t < 64 then (∑ c : Fin 128, w ⟨jlo i + t, ht⟩ c) * Q ⟨jlo i + t, ht⟩ else 0) := by
  induction n with
  | zero => exact ⟨start_acc d l, start_den l⟩
  | succ n ih =>
    obtain ⟨i1, i2⟩ := ih (by omega)
    have ht3 := trips3_eq i
    have hq := qb_lt i
    have hlo : jlo i = (i 2).val - 32 := rfl
    have hj : jlo i + n < 64 := by omega
    have hb : ∀ c : Fin 128, 128 * n + c.val < 4224 := fun c => by have := c.isLt; omega
    have ej : (⟨jlo i + n, hj⟩ : Fin 64).val = jlo i + (⟨n, hn⟩ : Fin (k1_t3_loop i).trips).val := rfl
    have hw' : ∀ c : Fin 128, Ideal.exp2 ((tileS (F := Ideal) i S ⟨n, hn⟩ (ix2 c l) : EReal) * (rowT (F := Ideal) i sc ⟨n, hn⟩ (ix2 0 l) : EReal) - (rowT (F := Ideal) i off ⟨n, hn⟩ (ix2 0 l) : EReal)) = w ⟨jlo i + n, hj⟩ c := by
      intro c
      rw [tileS_at i ⟨n, hn⟩ S c l (hb c), rowT_at i ⟨n, hn⟩ ⟨jlo i + n, hj⟩ ej, rowT_at i ⟨n, hn⟩ ⟨jlo i + n, hj⟩ ej]
      exact hw ⟨n, hn⟩ ⟨jlo i + n, hj⟩ c ej (hb c)
    have es : fold (F := Ideal) i x3 S sc off pv ls (n + 1) = stp i x3 S sc off pv ls ⟨n, hn⟩ (fold i x3 S sc off pv ls n) := by
      rw [fold, dif_pos (show n < _ from hn)]
    rw [es, Finset.sum_range_succ, Finset.sum_range_succ, dif_pos hj, dif_pos hj, ← i1, ← i2]
    constructor
    · refine (pay4_at _ _ _ _ _ _ d l).trans ?_
      rw [rowT_at i ⟨n, hn⟩ ⟨jlo i + n, hj⟩ ej pv, hP]
      simp only [hw', tileV_at i ⟨n, hn⟩ ⟨jlo i + n, hj⟩ ej]
    · refine (pay3_at _ _ _ _ _ l).trans ?_
      rw [rowT_at i ⟨n, hn⟩ ⟨jlo i + n, hj⟩ ej ls, hQ]
      simp only [hw']

include hw hP hQ in
theorem fold_end (d : Fin 128) :
    ((fold (F := Ideal) i x3 S sc off pv ls (k1_t3_loop i).trips).1 (ix2 d l) : EReal) = ∑ j with inJ i j, (∑ c : Fin 128, (x3 (ix5 0 0 j d c) : EReal) * clip (w j c)) * P j
    ∧ ((fold (F := Ideal) i x3 S sc off pv ls (k1_t3_loop i).trips).2 (ix2 0 l) : EReal) = ∑ j with inJ i j, (∑ c : Fin 128, w j c) * Q j := by
  obtain ⟨h1, h2⟩ := fold_at i x3 S sc off pv ls l w P Q hw hP hQ d _ (le_refl _)
  have ht3 := trips3_eq i
  have hq := qb_lt i
  have hlo : jlo i = (i 2).val - 32 := rfl
  have hf : (Finset.univ.filter fun j : Fin 64 => inJ i j) = Finset.univ.filter fun j : Fin 64 => jlo i ≤ j.val ∧ j.val < jlo i + (k1_t3_loop i).trips := by
    refine Finset.filter_congr fun j _ => ?_
    show (jlo i ≤ j.val ∧ j.val ≤ (i 2).val) ↔ _
    omega
  rw [h1, h2, hf, ← sum_win _ _ _ (by omega), ← sum_win _ _ _ (by omega)]
  exact ⟨rfl, rfl⟩

end FoldAt

section Out
variable (A : Vec Ideal S128x512 .f32) (L : Vec Ideal S1x512 .f32) (r d : Fin 128)

theorem tr_at (X : FVec Ideal S128x128 .f32) :
    (shapeCast S1x128x128 (truncf .bf16 (transpose S128x128 [1, 0] X transposes_S128x128_p1_0_S128x128) bitsLt_bf16_f32 : FVec Ideal S128x128 .bf16) shapeCasts_S128x128_S1x128x128 : FVec Ideal S1x128x128 .bf16) (ix3 0 r d)
      = X (ix2 d r) := by
  pointwise

theorem osl0_at (X : FVec Ideal S128x512 .f32) : (extractStridedSlice S128x128 ![0, 0] X slices_S128x512_o0_0_S128x128 : FVec Ideal S128x128 .f32) (ix2 d r) = X (ix2 d (ln 0 r)) := by
  pointwise
  refine congrArg X (congrArg (ix2 d) (Fin.ext ?_))
  show r.val = 0 * 128 + r.val
  omega

theorem osl1_at (X : FVec Ideal S128x512 .f32) : (extractStridedSlice S128x128 ![0, 128] X slices_S128x512_o0_128_S128x128 : FVec Ideal S128x128 .f32) (ix2 d r) = X (ix2 d (ln 1 r)) := by
  pointwise
  refine congrArg X (congrArg (ix2 d) (Fin.ext ?_))
  show 128 + r.val = 1 * 128 + r.val
  omega

theorem osl2_at (X : FVec Ideal S128x512 .f32) : (extractStridedSlice S128x128 ![0, 256] X slices_S128x512_o0_256_S128x128 : FVec Ideal S128x128 .f32) (ix2 d r) = X (ix2 d (ln 2 r)) := by
  pointwise
  refine congrArg X (congrArg (ix2 d) (Fin.ext ?_))
  show 256 + r.val = 2 * 128 + r.val
  omega

theorem osl3_at (X : FVec Ideal S128x512 .f32) : (extractStridedSlice S128x128 ![0, 384] X slices_S128x512_o0_384_S128x128 : FVec Ideal S128x128 .f32) (ix2 d r) = X (ix2 d (ln 3 r)) := by
  pointwise
  refine congrArg X (congrArg (ix2 d) (Fin.ext ?_))
  show 384 + r.val = 3 * 128 + r.val
  omega

/-- The quotient at one lane. -/
def quo (g : Fin 4) (r d : Fin 128) : EReal := Ideal.div (A (ix2 d (ln g r))) (L (ix2 0 (ln g r)))

theorem out0_at : (k1_pay61 (F := Ideal) A L : FVec Ideal S1x128x128 .bf16) (ix3 0 r d) = quo A L 0 r d := by
  unfold k1_pay61
  refine (tr_at r d _).trans ?_
  rw [osl0_at, pay60_at]; rfl

theorem out1_at : (k1_pay62 (F := Ideal) A L : FVec Ideal S1x128x128 .bf16) (ix3 0 r d) = quo A L 1 r d := by
  unfold k1_pay62
  refine (tr_at r d _).trans ?_
  rw [osl1_at, pay60_at]; rfl

theorem out2_at : (k1_pay63 (F := Ideal) A L : FVec Ideal S1x128x128 .bf16) (ix3 0 r d) = quo A L 2 r d := by
  unfold k1_pay63
  refine (tr_at r d _).trans ?_
  rw [osl2_at, pay60_at]; rfl

theorem out3_at : (k1_pay1 (F := Ideal) (k1_pay64 (F := Ideal) A L) : FVec Ideal S1x128x128 .bf16) (ix3 0 r d) = quo A L 3 r d := by
  unfold k1_pay1 k1_pay64
  refine (tr_at r d _).trans ?_
  rw [osl3_at, pay60_at]; rfl

theorem outL_at (g : Fin 4) :
    (View.canon (Val := Elt Ideal) (e := .bf16) (outL A L) : S1x128x512.Idx → EReal) (ix3 0 r (ln g d)) = quo A L g r d := by
  refine (View.canon_apply_of_pieces (Val := Elt Ideal) (e := .bf16) (fun y : S1x128x512.Idx => quo A L ⟨(y 2).val / 128, by have h : (y 2).val < 512 := (y 2).isLt; omega⟩ (y 1) ⟨(y 2).val % 128, by omega⟩) (outL A L) (fun p hp => ?_) (ix3 0 r (ln g d)) (cover_out _ _ _)).trans ?_
  · rcases List.mem_cons.1 hp with rfl | hp
    · intro z; idx_vars z
      refine Eq.trans (congrArg (fun a => k1_pay1 (F := Ideal) (k1_pay64 (F := Ideal) A L) (ix3 a z1 z2)) (Subsingleton.elim (α := Fin 1) z0 0)) ((out3_at A L z1 z2).trans ?_)
      have hz : z2.val < 128 := z2.isLt
      refine congr (congr (congrArg (quo A L) (Fin.ext ?_)) (Fin.ext ?_)) (Fin.ext ?_)
      · show 3 = (384 + 1 * z2.val) / 128; omega
      · show z1.val = 0 + 1 * z1.val; omega
      · show z2.val = (384 + 1 * z2.val) % 128; omega
    rcases List.mem_cons.1 hp with rfl | hp
    · intro z; idx_vars z
      refine Eq.trans (congrArg (fun a => k1_pay63 (F := Ideal) A L (ix3 a z1 z2)) (Subsingleton.elim (α := Fin 1) z0 0)) ((out2_at A L z1 z2).trans ?_)
      have hz : z2.val < 128 := z2.isLt
      refine congr (congr (congrArg (quo A L) (Fin.ext ?_)) (Fin.ext ?_)) (Fin.ext ?_)
      · show 2 = (256 + 1 * z2.val) / 128; omega
      · show z1.val = 0 + 1 * z1.val; omega
      · show z2.val = (256 + 1 * z2.val) % 128; omega
    rcases List.mem_cons.1 hp with rfl | hp
    · intro z; idx_vars z
      refine Eq.trans (congrArg (fun a => k1_pay62 (F := Ideal) A L (ix3 a z1 z2)) (Subsingleton.elim (α := Fin 1) z0 0)) ((out1_at A L z1 z2).trans ?_)
      have hz : z2.val < 128 := z2.isLt
      refine congr (congr (congrArg (quo A L) (Fin.ext ?_)) (Fin.ext ?_)) (Fin.ext ?_)
      · show 1 = (128 + 1 * z2.val) / 128; omega
      · show z1.val = 0 + 1 * z1.val; omega
      · show z2.val = (128 + 1 * z2.val) % 128; omega
    rcases List.mem_cons.1 hp with rfl | hp
    · intro z; idx_vars z
      refine Eq.trans (congrArg (fun a => k1_pay61 (F := Ideal) A L (ix3 a z1 z2)) (Subsingleton.elim (α := Fin 1) z0 0)) ((out0_at A L z1 z2).trans ?_)
      have hz : z2.val < 128 := z2.isLt
      refine congr (congr (congrArg (quo A L) (Fin.ext ?_)) (Fin.ext ?_)) (Fin.ext ?_)
      · show 0 = (0 + 1 * z2.val) / 128; omega
      · show z1.val = 0 + 1 * z1.val; omega
      · show z2.val = (0 + 1 * z2.val) % 128; omega
    exact absurd hp (by simp)
  · refine congr (congr (congrArg (quo A L) (Fin.ext ?_)) rfl) (Fin.ext ?_)
    · show (g.val * 128 + d.val) / 128 = g.val; omega
    · show (g.val * 128 + d.val) % 128 = d.val; omega

end Out

end Cert.KernelIdeal.Gen
-- ==== Proof.Value.KAttn.lean ====
module

public import proofs.«01_k».proof.Proof.Value.KFold
public import proofs.«01_k».proof.Proof.Value.Tiles

@[expose] public section

set_option maxRecDepth 8192

noncomputable section

namespace Cert.KernelIdeal.Gen
open Idealize Idealize.ShloMosaic Idealize.ShloMosaic.Pointwise
open Cert.KernelIdeal Cert.Spec

/-! ## One head of one grid point is one tile of the attention -/

theorem sum_real {ι : Type} (s : Finset ι) (f : ι → EReal) (h : ∀ x, ∃ r : ℝ, f x = (r : EReal)) : ∃ r : ℝ, ∑ x ∈ s, f x = (r : EReal) := by
  classical
  choose F hF using h
  refine ⟨∑ x ∈ s, F x, ?_⟩
  induction s using Finset.induction_on with
  | empty => simp
  | insert a s ha ih => rw [Finset.sum_insert ha, Finset.sum_insert ha, ih, hF, EReal.coe_add]

theorem score_real (A B : Fin 128 → EReal) (ea eb : BitVec 32) : ∃ r : ℝ, ∑ x : Fin 128, code (A x) ea * code (B x) eb = (r : EReal) := by
  refine sum_real _ _ fun x => ?_
  obtain ⟨a, ha⟩ := clip_real (A x * pow (IntOp.subi 0#32 ea))
  obtain ⟨b, hb⟩ := clip_real (B x * pow (IntOp.subi 0#32 eb))
  exact ⟨a * b, by unfold code; rw [ha, hb, EReal.coe_mul]⟩

theorem win_inJ (i : grid1.Coords) (r : Fin 128) (j : Fin 64) (c : Fin 128) (h : Win (qi i) r j c) : inJ i j := by
  unfold Win at h
  have hlo : jlo i = (i 2).val - 32 := rfl
  have e : (qi i).val = (i 2).val := rfl
  have := r.isLt; have := c.isLt
  rw [e] at h
  exact ⟨by omega, by omega⟩

theorem win_self (i : Fin 64) (r : Fin 128) : ∃ j c, Win i r j c := ⟨i, r, by unfold Win; constructor <;> omega⟩

section AttnTile
variable (i : grid1.Coords) (x0 : Vec Ideal S1x128x512 .fp8e4m3) (x1 : Vec Ideal S1x1x1x512 .f32) (x2 : Vec Ideal S1x8192x128 .fp8e4m3)
  (x3 : Vec Ideal S1x1x64x128x128 .fp8e4m3) (x4 x5 : Vec Ideal S1x1x64x1 .f32) (g : Fin 4) (qs : EReal)
variable (hq : ∀ r : Fin 128, x1 (ix4 0 0 0 (ln g r)) = qs)

include hq in
theorem foldG_at (r d : Fin 128) :
    ((foldG (F := Ideal) i x0 x1 x2 x3 x4 x5).1 (ix2 d (ln g r)) : EReal)
        = ∑ j with inJ i j, (∑ c : Fin 128, (x3 (ix5 0 0 j d c) : EReal) * clip (kp (Sraw x0 x2 g) (Win (qi i)) qs (blkS x4) (inJ i) r j c))
            * (pow (expo (ka (Sraw x0 x2 g) (Win (qi i)) qs (blkS x4) (inJ i) j)) * blkS x5 j)
    ∧ ((foldG (F := Ideal) i x0 x1 x2 x3 x4 x5).2 (ix2 0 (ln g r)) : EReal)
        = ∑ j with inJ i j, (∑ c : Fin 128, kp (Sraw x0 x2 g) (Win (qi i)) qs (blkS x4) (inJ i) r j c)
            * pow (expo (ka (Sraw x0 x2 g) (Win (qi i)) qs (blkS x4) (inJ i) j)) := by
  have hb : ∀ (r : Fin 128) (j : Fin 64), inJ i j → bG (F := Ideal) i x0 x2 (ix2 j (ln g r)) = Finset.univ.sup fun c => kS (Sraw x0 x2 g) (Win (qi i)) r j c :=
    fun r j hj => bG_at i x0 x2 g r j hj
  unfold foldG
  refine fold_end i x3 _ _ _ _ _ (ln g r) (kp (Sraw x0 x2 g) (Win (qi i)) qs (blkS x4) (inJ i) r) _ _ ?_ ?_ ?_ d
  · intro t j c hj hn
    have ht1 : t.val < (k1_t1_loop i).trips := t.isLt.trans_eq ((trips3_eq i).trans (trips1_eq i).symm)
    rw [sG_at i x0 x2 g r c 0 ⟨t.val, ht1⟩ j hj hn, pay22_at, kc_at x1 x4 qs g hq, off_tab i x1 x4 _ _ qs g hq hb]
    rfl
  · exact fun j => pv_tab i x1 x4 x5 _ _ qs g hq hb j r
  · exact fun j => ls_tab i x1 x4 _ _ qs g hq hb j r

variable (X : SQ.Idx → EReal) (K V : SK.Idx → EReal) (b : Fin 8) (h : Fin 2)
variable (h0 : ∀ r x : Fin 128, x0 (ix3 0 r (ln g x)) = codeT (tileQ X b (qi i) h g) r x)
variable (h1 : ∀ r : Fin 128, x1 (ix4 0 0 0 (ln g r)) = scaleT (tileQ X b (qi i) h g))
variable (h2 : ∀ (j : Fin 64) (c x : Fin 128) (hn : j.val * 128 + c.val < 8192), x2 (ix3 0 ⟨j.val * 128 + c.val, hn⟩ x) = codeT (tileK K b j h) c x)
variable (h3 : ∀ (j : Fin 64) (d c : Fin 128), x3 (ix5 0 0 j d c) = codeT (tileK V b j h) c d)
variable (h4 : ∀ j : Fin 64, x4 (ix4 0 0 j 0) = scaleT (tileK K b j h))
variable (h5 : ∀ j : Fin 64, x5 (ix4 0 0 j 0) = scaleT (tileK V b j h))

include h0 h1 h2 h3 h4 h5 in
theorem attn_tile (r d : Fin 128) : (attnOut (F := Ideal) i x0 x1 x2 x3 x4 x5 : S1x128x512.Idx → EReal) (ix3 0 r (ln g d)) = outTile X K V b (qi i) h g r d := by
  obtain ⟨ea, el⟩ := foldG_at i x0 x1 x2 x3 x4 x5 g _ h1 r d
  unfold attnOut
  rw [outL_at]
  unfold quo
  rw [ea, el]
  have hS : Sraw x0 x2 g = fun r j c => ∑ x : Fin 128, codeT (tileK K b j h) c x * codeT (tileQ X b (qi i) h g) r x := by
    funext r j c
    unfold Sraw
    simp only [h0, h2]
  have hk : blkS x4 = fun j => scaleT (tileK K b j h) := funext h4
  have hv : blkS x5 = fun j => scaleT (tileK V b j h) := funext h5
  unfold outTile
  rw [hS, hk, hv]
  simp only [h3]
  have hr : ∀ (r : Fin 128) (j : Fin 64) (c : Fin 128), ∃ s : ℝ, ∑ x : Fin 128, codeT (tileK K b j h) c x * codeT (tileQ X b (qi i) h g) r x = (s : EReal) :=
    fun r j c => score_real _ _ _ _
  choose S hS' using hr
  obtain ⟨q, hq0, hq'⟩ := pow_real (expT (tileQ X b (qi i) h g))
  have hkr : ∀ j : Fin 64, ∃ k : ℝ, 0 < k ∧ scaleT (tileK K b j h) = (k : EReal) := fun j => pow_real _
  choose k hk0 hk' using hkr
  have hqs : scaleT (tileQ X b (qi i) h g) = (q : EReal) := hq'
  rw [hqs, show (fun j => scaleT (tileK K b j h)) = fun j => ((k j : ℝ) : EReal) from funext hk',
    show (fun (r : Fin 128) (j : Fin 64) (c : Fin 128) => ∑ x : Fin 128, codeT (tileK K b j h) c x * codeT (tileQ X b (qi i) h g) r x) = fun r j c => ((S r j c : ℝ) : EReal) from
      funext fun r => funext fun j => funext fun c => hS' r j c]
  exact attn_eq S (Win (qi i)) q k (inJ i) hq0 hk0 (win_inJ i) (win_self (qi i)) (fun j => scaleT (tileK V b j h)) (fun j c d => codeT (tileK V b j h) c d) r d

end AttnTile

end Cert.KernelIdeal.Gen
-- ==== Proof.Value.KBlock.lean ====
module

public import proofs.«01_k».proof.Proof.KernelIdeal.Run
public import Idealize.ShloMosaic.Lib.Pipeline.ValueKit.Geometry
public import Idealize.ShloMosaic.Lib.Pipeline.ValueKit.Acc
public import proofs.«01_k».proof.Proof.Value.KTile

@[expose] public section

set_option maxRecDepth 8192

noncomputable section

namespace Cert.KernelIdeal.Gen
open Idealize Idealize.ShloMosaic Idealize.ShloMosaic.Pointwise
open Cert.KernelIdeal Cert.Spec

/-! ## A block of rows, tile by tile -/

/-- Tile `(a, e)` of a block of 1024 rows. -/
def blkT {w : ℕ} (x : (⟨3, ![1, 1024, w * 128]⟩ : Shape).Idx → EReal) (a : Fin 8) (e : Fin w) (r d : Fin 128) : EReal :=
  x (ix3 0 ⟨a.val * 128 + r.val, by omega⟩ ⟨e.val * 128 + d.val, by omega⟩)

theorem mod_lt128 (n : ℕ) : n % 128 < 128 := Nat.mod_lt _ (by decide)

theorem tile_q (x : S1x1024x1024.Idx → EReal) (n : ℕ) (a e : Fin 8) (ha : a.val = n / 8 % 8) (he : e.val = n % 8) :
    til (View.ld (Val := Elt Ideal) (e' := .bf16) x (rq n)) = blkT (w := 8) x a e := by
  funext r d
  refine congrArg x (funext fun k => Fin.ext ?_)
  fin_cases k
  · rfl
  · show 128 * (n / 8 % 8) + 1 * r.val = a.val * 128 + r.val
    omega
  · show 128 * (n % 8) + 1 * d.val = e.val * 128 + d.val
    omega

theorem tile_k (x : S1x1024x256.Idx → EReal) (n : ℕ) (a : Fin 8) (e : Fin 2) (ha : a.val = n / 2 % 8) (he : e.val = n % 2) :
    til (View.ld (Val := Elt Ideal) (e' := .bf16) x (rk n)) = blkT (w := 2) x a e := by
  funext r d
  refine congrArg x (funext fun k => Fin.ext ?_)
  fin_cases k
  · rfl
  · show 128 * (n / 2 % 8) + 1 * r.val = a.val * 128 + r.val
    omega
  · show 128 * (n % 2) + 1 * d.val = e.val * 128 + d.val
    omega

theorem ix_tile (z : S1x128x128.Idx) : ∃ (r d : Fin 128), z = (ix3 0 r d : S1x128x128.Idx) := ⟨z 1, z 2, by
    funext a; fin_cases a
    · exact Subsingleton.elim (α := Fin 1) _ _
    · rfl
    · rfl⟩

/-- The codes of a block with `w` columns of tiles. -/
def codesG {w : ℕ} (x : (⟨3, ![1, 1024, w * 128]⟩ : Shape).Idx → EReal) (y1 : Fin 1024) (y2 : Fin (w * 128)) : EReal :=
  codeT (blkT x ⟨y1.val / 128, by omega⟩ ⟨y2.val / 128, by omega⟩) ⟨y1.val % 128, mod_lt128 _⟩ ⟨y2.val % 128, mod_lt128 _⟩

theorem codesG_eq {w : ℕ} (x : (⟨3, ![1, 1024, w * 128]⟩ : Shape).Idx → EReal) (y1 : Fin 1024) (y2 : Fin (w * 128)) (a : Fin 8) (e : Fin w) (r d : Fin 128)
    (h1 : y1.val = 128 * a.val + 1 * r.val) (h2 : y2.val = 128 * e.val + 1 * d.val) : codeT (blkT x a e) r d = codesG x y1 y2 := by
  unfold codesG
  have ea : a = ⟨y1.val / 128, by omega⟩ := Fin.ext (show a.val = y1.val / 128 by omega)
  have ee : e = ⟨y2.val / 128, by omega⟩ := Fin.ext (show e.val = y2.val / 128 by omega)
  have er : r = ⟨y1.val % 128, mod_lt128 _⟩ := Fin.ext (show r.val = y1.val % 128 by omega)
  have ed : d = ⟨y2.val % 128, mod_lt128 _⟩ := Fin.ext (show d.val = y2.val % 128 by omega)
  exact congr (congr (congrArg codeT (congr (congrArg (blkT x) ea) ee)) er) ed

theorem codesq_at (x : Vec Ideal S1x1024x1024 .bf16) (y : S1x1024x1024.Idx) :
    (codesq (F := Ideal) x : S1x1024x1024.Idx → EReal) y = codesG (w := 8) x (y 1) (y 2) := by
  unfold codesq
  refine View.canon_apply_of_pieces (Val := Elt Ideal) (e := .fp8e4m3) (fun y : S1x1024x1024.Idx => codesG (w := 8) x (y 1) (y 2))
    _ (fun p hp => ?_) y (cover_q x y)
  obtain ⟨n, hn, rfl⟩ := exists_of_mem_tiles _ hp
  intro z
  obtain ⟨r, d, rfl⟩ := ix_tile z
  refine (qcode_at (View.ld x (rq n)) r d).trans ?_
  rw [tile_q x n ⟨n / 8 % 8, by omega⟩ ⟨n % 8, by omega⟩ rfl rfl]
  exact codesG_eq (w := 8) x _ _ _ _ r d rfl rfl

theorem codesk_at (x : Vec Ideal S1x1024x256 .bf16) (y : S1x1024x256.Idx) :
    (codesk (F := Ideal) x : S1x1024x256.Idx → EReal) y = codesG (w := 2) x (y 1) (y 2) := by
  unfold codesk
  refine View.canon_apply_of_pieces (Val := Elt Ideal) (e := .fp8e4m3) (fun y : S1x1024x256.Idx => codesG (w := 2) x (y 1) (y 2))
    _ (fun p hp => ?_) y (cover_k x y)
  obtain ⟨n, hn, rfl⟩ := exists_of_mem_tiles _ hp
  intro z
  obtain ⟨r, d, rfl⟩ := ix_tile z
  refine (qcode_at (View.ld x (rk n)) r d).trans ?_
  rw [tile_k x n ⟨n / 2 % 8, by omega⟩ ⟨n % 2, by omega⟩ rfl rfl]
  exact codesG_eq (w := 2) x _ _ _ _ r d rfl rfl

theorem lanesq_at (x : Vec Ideal S1x1024x1024 .bf16) (y : S1x8x1024.Idx) :
    (lanesq (F := Ideal) x : S1x8x1024.Idx → EReal) y = scaleT (blkT (w := 8) x (y 1) ⟨(y 2).val / 128, by have : (y 2).val < 1024 := (y 2).isLt; omega⟩) := by
  unfold lanesq
  refine View.canon_apply_of_pieces (Val := Elt Ideal) (e := .f32) (fun y : S1x8x1024.Idx => scaleT (blkT (w := 8) x (y 1) ⟨(y 2).val / 128, by have : (y 2).val < 1024 := (y 2).isLt; omega⟩))
    _ (fun p hp => ?_) y (cover_l x y)
  obtain ⟨n, hn, rfl⟩ := exists_of_mem_tiles _ hp
  intro z
  have hz : z = (ix3 0 0 (z 2) : S1x1x128.Idx) := by
    funext a; fin_cases a
    · exact Subsingleton.elim (α := Fin 1) _ _
    · exact Subsingleton.elim (α := Fin 1) _ _
    · rfl
  have hd : (z 2).val < 128 := (z 2).isLt
  rw [hz]
  refine (qlane_at (View.ld x (rq n)) (z 2)).trans ?_
  rw [tile_q x n ⟨n / 8 % 8, by omega⟩ ⟨n % 8, by omega⟩ rfl rfl]
  refine congrArg₂ (fun a e => scaleT (blkT (w := 8) x a e)) (Fin.ext ?_) (Fin.ext ?_)
  · show n / 8 % 8 = n / 8 % 8 + 1 * 0
    omega
  · show n % 8 = (128 * (n % 8) + 1 * (z 2).val) / 128
    omega

theorem codest_at (x : Vec Ideal S1x1024x256 .bf16) (y : S1x2x8x128x128.Idx) :
    (codest (F := Ideal) x : S1x2x8x128x128.Idx → EReal) y = codeT (blkT (w := 2) x (y 2) (y 1)) (y 4) (y 3) := by
  unfold codest
  refine View.canon_apply_of_pieces (Val := Elt Ideal) (e := .fp8e4m3) (fun y : S1x2x8x128x128.Idx => codeT (blkT (w := 2) x (y 2) (y 1)) (y 4) (y 3))
    _ (fun p hp => ?_) y (cover_t x y)
  obtain ⟨n, hn, rfl⟩ := exists_of_mem_tiles _ hp
  intro z
  have hz : z = (ix5 0 0 0 (z 3) (z 4) : S1x1x1x128x128.Idx) := by
    funext a; fin_cases a
    · exact Subsingleton.elim (α := Fin 1) _ _
    · exact Subsingleton.elim (α := Fin 1) _ _
    · exact Subsingleton.elim (α := Fin 1) _ _
    · rfl
    · rfl
  rw [hz]
  refine (qcodeT_at (View.ld x (rk n)) (z 4) (z 3)).trans ?_
  rw [tile_k x n ⟨n / 2 % 8, by omega⟩ ⟨n % 2, by omega⟩ rfl rfl]
  have e1 : ((rt n).emb (ix5 0 0 0 (z 3) (z 4) : S1x1x1x128x128.Idx)) 2 = (⟨n / 2 % 8, by omega⟩ : Fin 8) := Fin.ext (show n / 2 % 8 + 1 * 0 = n / 2 % 8 by omega)
  have e2 : ((rt n).emb (ix5 0 0 0 (z 3) (z 4) : S1x1x1x128x128.Idx)) 1 = (⟨n % 2, by omega⟩ : Fin 2) := Fin.ext (show n % 2 + 1 * 0 = n % 2 by omega)
  have e3 : ((rt n).emb (ix5 0 0 0 (z 3) (z 4) : S1x1x1x128x128.Idx)) 3 = z 3 := Fin.ext (show 0 + 1 * (z 3).val = (z 3).val by omega)
  have e4 : ((rt n).emb (ix5 0 0 0 (z 3) (z 4) : S1x1x1x128x128.Idx)) 4 = z 4 := Fin.ext (show 0 + 1 * (z 4).val = (z 4).val by omega)
  show _ = codeT (blkT (w := 2) x (((rt n).emb (ix5 0 0 0 (z 3) (z 4) : S1x1x1x128x128.Idx)) 2) (((rt n).emb (ix5 0 0 0 (z 3) (z 4) : S1x1x1x128x128.Idx)) 1)) (((rt n).emb (ix5 0 0 0 (z 3) (z 4) : S1x1x1x128x128.Idx)) 4) (((rt n).emb (ix5 0 0 0 (z 3) (z 4) : S1x1x1x128x128.Idx)) 3)
  rw [e1, e2, e3, e4]

/-! ## The tables of scales -/

theorem put8_bit : ∀ (a b : Fin 8) (n : Fin 64), IntOp.andi (IntOp.cmpi .eq (BitVec.ofNat 32 a.val) (BitVec.ofNat 32 (n.val / 8))) (IntOp.cmpi .eq (BitVec.ofNat 32 b.val) (BitVec.ofNat 32 (n.val % 8)))
    = if 8 * a.val + b.val = n.val then 1#1 else 0#1 := by
  decide +kernel

theorem put2_bit : ∀ (a : Fin 8) (b : Fin 2) (n : Fin 16), IntOp.andi (IntOp.cmpi .eq (BitVec.ofNat 32 a.val) (BitVec.ofNat 32 (n.val / 2))) (IntOp.cmpi .eq (BitVec.ofNat 32 b.val) (BitVec.ofNat 32 (n.val % 2)))
    = if 2 * a.val + b.val = n.val then 1#1 else 0#1 := by
  decide +kernel

theorem put8_at (t h : BitVec 32) (tab : FVec Ideal S8x8 .f32) (s : FVec Ideal S1x1 .f32) (a b : Fin 8) :
    put8 t h tab s (ix2 a b) = Scalar.select (IntOp.andi (IntOp.cmpi .eq (BitVec.ofNat 32 a.val) t) (IntOp.cmpi .eq (BitVec.ofNat 32 b.val) h)) (s (ix2 0 0)) (tab (ix2 a b)) := by
  unfold put8
  pointwise

theorem put2_at (t h : BitVec 32) (tab : FVec Ideal S8x2 .f32) (s : FVec Ideal S1x1 .f32) (a : Fin 8) (b : Fin 2) :
    put2 t h tab s (ix2 a b) = Scalar.select (IntOp.andi (IntOp.cmpi .eq (BitVec.ofNat 32 a.val) t) (IntOp.cmpi .eq (BitVec.ofNat 32 b.val) h)) (s (ix2 0 0)) (tab (ix2 a b)) := by
  unfold put2
  pointwise

theorem chain8_at (s : ℕ → FVec Ideal S1x1 .f32) (a b : Fin 8) : ∀ n : ℕ, n ≤ 64 → 8 * a.val + b.val < n → chain8 s n (ix2 a b) = s (8 * a.val + b.val) (ix2 0 0)
  | 0, _, h => absurd h (Nat.not_lt_zero _)
  | n + 1, hn, h => by
    have hb := put8_bit a b ⟨n, by omega⟩
    dsimp only at hb
    rw [chain8, put8_at, hb]
    by_cases e : 8 * a.val + b.val = n
    · rw [if_pos e, e]; rfl
    · rw [if_neg e]
      exact chain8_at s a b n (by omega) (by omega)

theorem chain2_at (s : ℕ → FVec Ideal S1x1 .f32) (a : Fin 8) (b : Fin 2) : ∀ n : ℕ, n ≤ 16 → 2 * a.val + b.val < n → chain2 s n (ix2 a b) = s (2 * a.val + b.val) (ix2 0 0)
  | 0, _, h => absurd h (Nat.not_lt_zero _)
  | n + 1, hn, h => by
    have hb := put2_bit a b ⟨n, by omega⟩
    dsimp only at hb
    rw [chain2, put2_at, hb]
    by_cases e : 2 * a.val + b.val = n
    · rw [if_pos e, e]; rfl
    · rw [if_neg e]
      exact chain2_at s a b n (by omega) (by omega)

theorem sc_tab8 (Z : S8x8.Idx → EReal) (a b : Fin 8) : shapeCast S1x8x8 Z shapeCasts_S8x8_S1x8x8 (ix3 0 a b) = Z (ix2 a b) := by
  pointwise

theorem sc_tab2 (Z : S8x2.Idx → EReal) (a : Fin 8) (b : Fin 2) : shapeCast S1x8x2 Z shapeCasts_S8x2_S1x8x2 (ix3 0 a b) = Z (ix2 a b) := by
  pointwise

theorem tabq_at (x : Vec Ideal S1x1024x1024 .bf16) (y : S1x8x8.Idx) :
    (tabq (F := Ideal) x : S1x8x8.Idx → EReal) y = scaleT (blkT (w := 8) x (y 1) (y 2)) := by
  have hy : y = (ix3 0 (y 1) (y 2) : S1x8x8.Idx) := by
    funext a; fin_cases a
    · exact Subsingleton.elim (α := Fin 1) _ _
    · rfl
    · rfl
  have h1 : (y 1).val < 8 := (y 1).isLt
  have h2 : (y 2).val < 8 := (y 2).isLt
  rw [hy]
  unfold tabq
  refine (sc_tab8 _ (y 1) (y 2)).trans ?_
  rw [chain8_at _ (y 1) (y 2) 64 (le_refl _) (by omega)]
  refine (qscale_at _).trans ?_
  rw [tile_q x _ (y 1) (y 2) (by omega) (by omega)]
  rfl

theorem tabk_at (x : Vec Ideal S1x1024x256 .bf16) (y : S1x8x2.Idx) :
    (tabk (F := Ideal) x : S1x8x2.Idx → EReal) y = scaleT (blkT (w := 2) x (y 1) (y 2)) := by
  have hy : y = (ix3 0 (y 1) (y 2) : S1x8x2.Idx) := by
    funext a; fin_cases a
    · exact Subsingleton.elim (α := Fin 1) _ _
    · rfl
    · rfl
  have h1 : (y 1).val < 8 := (y 1).isLt
  have h2 : (y 2).val < 2 := (y 2).isLt
  rw [hy]
  unfold tabk
  refine (sc_tab2 _ (y 1) (y 2)).trans ?_
  rw [chain2_at _ (y 1) (y 2) 16 (le_refl _) (by omega)]
  refine (qscale_at _).trans ?_
  rw [tile_k x _ (y 1) (y 2) (by omega) (by omega)]
  rfl

end Cert.KernelIdeal.Gen
-- ==== Proof.Value.KArr.lean ====
module

public import proofs.«01_k».proof.Proof.Value.KBlock

@[expose] public section

set_option maxRecDepth 8192

noncomputable section

namespace Cert.KernelIdeal.Gen
open Idealize Idealize.ShloMosaic Idealize.ShloMosaic.Pointwise
open Cert.KernelIdeal Cert.Spec

/-! ## The arrays the quantising region leaves -/

theorem blk_q (x : S1x1024x1024.Idx → EReal) (X : SQ.Idx → EReal) (b i : Fin 8) (hx : ∀ (r d : Fin 1024), x (ix3 0 r d) = X (ix3 b ⟨i.val * 1024 + r.val, by omega⟩ d))
    (a e : Fin 8) (j : Fin 64) (h : Fin 2) (g : Fin 4) (hj : j.val = i.val * 8 + a.val) (he : e.val = h.val * 4 + g.val) :
    blkT (w := 8) x a e = tileQ X b j h g := by
  funext r d
  unfold blkT tileQ
  refine (hx _ _).trans (congrArg X (funext fun k => Fin.ext ?_))
  fin_cases k
  · rfl
  · show i.val * 1024 + (a.val * 128 + r.val) = j.val * 128 + r.val
    omega
  · show e.val * 128 + d.val = h.val * 512 + g.val * 128 + d.val
    omega

theorem blk_k (x : S1x1024x256.Idx → EReal) (X : SK.Idx → EReal) (b i : Fin 8) (hx : ∀ (r : Fin 1024) (d : Fin 256), x (ix3 0 r d) = X (ix3 b ⟨i.val * 1024 + r.val, by omega⟩ d))
    (a : Fin 8) (e : Fin 2) (j : Fin 64) (hj : j.val = i.val * 8 + a.val) :
    blkT (w := 2) x a e = tileK X b j e := by
  funext r d
  unfold blkT tileK
  refine (hx _ _).trans (congrArg X (funext fun k => Fin.ext ?_))
  fin_cases k
  · rfl
  · show i.val * 1024 + (a.val * 128 + r.val) = j.val * 128 + r.val
    omega
  · rfl

/-- The scale of each entry of a query row's lane: the scale of the tile the lane lies in. -/
def outLn (X : SQ.Idx → EReal) : S8x64x1024.Idx → EReal := fun y =>
  scaleT (tileQ X (y 0) (y 1) ⟨(y 2).val / 512, Nat.div_lt_of_lt_mul (y 2).isLt⟩ ⟨(y 2).val / 128 % 4, Nat.mod_lt _ (by decide)⟩)
/-- The codes of the values, transposed tile by tile. -/
def outVt (V : SK.Idx → EReal) : S8x2x64x128x128.Idx → EReal := fun y => codeT (tileK V (y 0) (y 2) (y 1)) (y 4) (y 3)

theorem t_lt0 (t : Fin cfg0.N) : (grid0.coords t 0).val < 8 := (grid0.coords t 0).isLt
theorem t_lt1 (t : Fin cfg0.N) : (grid0.coords t 1).val < 8 := (grid0.coords t 1).isLt

section of
variable (x : S1x1024x1024.Idx → EReal) (X : SQ.Idx → EReal) (b i : Fin 8) (hx : ∀ (r d : Fin 1024), x (ix3 0 r d) = X (ix3 b ⟨i.val * 1024 + r.val, by omega⟩ d))
include hx

theorem outQ_of (y1 y2 : Fin 1024) (z : SQ.Idx) (h0 : (z 0).val = b.val) (h1 : (z 1).val = i.val * 1024 + y1.val) (h2 : (z 2).val = y2.val) :
    codesG (w := 8) x y1 y2 = outQ X z := by
  obtain rfl : z 0 = b := Fin.ext h0
  have b1 : (z 1).val < 8192 := (z 1).isLt
  have b2 : (z 2).val < 1024 := (z 2).isLt
  unfold codesG outQ
  rw [blk_q x X (z 0) i hx _ _ ⟨(z 1).val / 128, by omega⟩ ⟨(z 2).val / 512, by omega⟩ ⟨(z 2).val / 128 % 4, by omega⟩ (by show (z 1).val / 128 = i.val * 8 + y1.val / 128; omega)
    (by show y2.val / 128 = (z 2).val / 512 * 4 + (z 2).val / 128 % 4; omega)]
  exact congrArg₂ _ (Fin.ext (show y1.val % 128 = (z 1).val % 128 by omega)) (Fin.ext (show y2.val % 128 = (z 2).val % 128 by omega))

theorem outQs_of (a e : Fin 8) (z : SQs.Idx) (h0 : (z 0).val = b.val) (h1 : (z 1).val = i.val * 8 + a.val) (h2 : (z 2).val = e.val) :
    scaleT (blkT (w := 8) x a e) = outQs X z := by
  obtain rfl : z 0 = b := Fin.ext h0
  have b2 : (z 2).val < 8 := (z 2).isLt
  unfold outQs
  rw [blk_q x X (z 0) i hx _ _ (z 1) ⟨(z 2).val / 4, by omega⟩ ⟨(z 2).val % 4, by omega⟩ h1 (by show e.val = (z 2).val / 4 * 4 + (z 2).val % 4; omega)]

theorem outLn_of (a : Fin 8) (e : Fin 1024) (z : S8x64x1024.Idx) (h0 : (z 0).val = b.val) (h1 : (z 1).val = i.val * 8 + a.val) (h2 : (z 2).val = e.val) :
    scaleT (blkT (w := 8) x a ⟨e.val / 128, by omega⟩) = outLn X z := by
  obtain rfl : z 0 = b := Fin.ext h0
  have b2 : (z 2).val < 1024 := (z 2).isLt
  unfold outLn
  rw [blk_q x X (z 0) i hx _ _ (z 1) ⟨(z 2).val / 512, by omega⟩ ⟨(z 2).val / 128 % 4, by omega⟩ h1 (by show e.val / 128 = (z 2).val / 512 * 4 + (z 2).val / 128 % 4; omega)]

end of

section ofk
variable (x : S1x1024x256.Idx → EReal) (X : SK.Idx → EReal) (b i : Fin 8) (hx : ∀ (r : Fin 1024) (d : Fin 256), x (ix3 0 r d) = X (ix3 b ⟨i.val * 1024 + r.val, by omega⟩ d))
include hx

theorem outK_of (y1 : Fin 1024) (y2 : Fin 256) (z : SK.Idx) (h0 : (z 0).val = b.val) (h1 : (z 1).val = i.val * 1024 + y1.val) (h2 : (z 2).val = y2.val) :
    codesG (w := 2) x y1 y2 = outK X z := by
  obtain rfl : z 0 = b := Fin.ext h0
  obtain rfl : z 2 = y2 := Fin.ext h2
  have b1 : (z 1).val < 8192 := (z 1).isLt
  unfold codesG outK
  rw [blk_k x X (z 0) i hx _ _ ⟨(z 1).val / 128, by omega⟩ (by show (z 1).val / 128 = i.val * 8 + y1.val / 128; omega)]
  exact congrArg₂ _ (Fin.ext (show y1.val % 128 = (z 1).val % 128 by omega)) rfl

theorem outKs_of (a : Fin 8) (e : Fin 2) (z : SKs.Idx) (h0 : (z 0).val = b.val) (h1 : (z 1).val = i.val * 8 + a.val) (h2 : (z 2).val = e.val) :
    scaleT (blkT (w := 2) x a e) = outKs X z := by
  obtain rfl : z 0 = b := Fin.ext h0
  obtain rfl : z 2 = e := Fin.ext h2
  unfold outKs
  exact congrArg scaleT (blk_k x X (z 0) i hx a (z 2) (z 1) h1)

theorem outVt_of (a : Fin 8) (e : Fin 2) (d r : Fin 128) (z : S8x2x64x128x128.Idx) (h0 : (z 0).val = b.val) (h1 : (z 1).val = e.val) (h2 : (z 2).val = i.val * 8 + a.val)
    (h3 : (z 3).val = d.val) (h4 : (z 4).val = r.val) :
    codeT (blkT (w := 2) x a e) r d = outVt X z := by
  obtain rfl : z 0 = b := Fin.ext h0
  obtain rfl : z 1 = e := Fin.ext h1
  obtain rfl : z 3 = d := Fin.ext h3
  obtain rfl : z 4 = r := Fin.ext h4
  unfold outVt
  exact congrArg (fun T => codeT T (z 4) (z 3)) (blk_k x X (z 0) i hx a (z 1) (z 2) h2)

end ofk

variable (m : (l : Loc nD τ sig) → Buf (Elt Ideal) l) (ρ : Dev nD → PrngReg) (c : Dev nD)

abbrev argX : S8x8192x1024.Idx → EReal := m ((c.tc : Thread nD τ).loc main_arg0)
abbrev argK : S8x8192x256.Idx → EReal := m ((c.tc : Thread nD τ).loc main_arg1)
abbrev argV : S8x8192x256.Idx → EReal := m ((c.tc : Thread nD τ).loc main_arg2)

theorem in_q (t : Fin cfg0.N) (r d : Fin 1024) : (iblk0 (V0 m ρ) c 0 t : S1x1024x1024.Idx → EReal) (ix3 0 r d)
    = argX m c (ix3 (⟨_, t_lt0 t⟩ : Fin 8) ⟨(grid0.coords t 1).val * 1024 + r.val, by have := t_lt1 t; omega⟩ d) := by
  have e : ∀ t : Fin cfg0.N, win0_0.index t = ![(grid0.coords t 0).val, (grid0.coords t 1).val, 0] := (by decide +kernel : ∀ t : Fin grid0.N, _)
  blk_simp [iblk0]
  refine congrArg (argX m c) ?_
  blk_ext [e]

theorem in_k (t : Fin cfg0.N) (r : Fin 1024) (d : Fin 256) : (iblk0 (V0 m ρ) c 1 t : S1x1024x256.Idx → EReal) (ix3 0 r d)
    = argK m c (ix3 (⟨_, t_lt0 t⟩ : Fin 8) ⟨(grid0.coords t 1).val * 1024 + r.val, by have := t_lt1 t; omega⟩ d) := by
  have e : ∀ t : Fin cfg0.N, win0_1.index t = ![(grid0.coords t 0).val, (grid0.coords t 1).val, 0] := (by decide +kernel : ∀ t : Fin grid0.N, _)
  blk_simp [iblk0]
  refine congrArg (argK m c) ?_
  blk_ext [e]

theorem in_v (t : Fin cfg0.N) (r : Fin 1024) (d : Fin 256) : (iblk0 (V0 m ρ) c 2 t : S1x1024x256.Idx → EReal) (ix3 0 r d)
    = argV m c (ix3 (⟨_, t_lt0 t⟩ : Fin 8) ⟨(grid0.coords t 1).val * 1024 + r.val, by have := t_lt1 t; omega⟩ d) := by
  have e : ∀ t : Fin cfg0.N, win0_2.index t = ![(grid0.coords t 0).val, (grid0.coords t 1).val, 0] := (by decide +kernel : ∀ t : Fin grid0.N, _)
  blk_simp [iblk0]
  refine congrArg (argV m c) ?_
  blk_ext [e]

theorem arr_3 : ((dat0 (V0 m ρ) c).arrAt 3 cfg0.N : S8x8192x1024.Idx → EReal) = outQ (argX m c) := by
  have e : ∀ t : Fin cfg0.N, win0_3.index t = ![(grid0.coords t 0).val, (grid0.coords t 1).val, 0] := (by decide +kernel : ∀ t : Fin grid0.N, _)
  refine (dat0 (V0 m ρ) c).arrAt_eq_of_covers 3 _ (by decide +kernel) fun t hf y => ?_
  blk_simp
  rw [after0_3]
  refine (codesq_at _ _).trans (outQ_of _ _ _ ⟨_, t_lt1 t⟩ (in_q m ρ c t) _ _ _ ?_ ?_ ?_ )
  all_goals
    idx_bounds y
    blk_simp [e]
    try omega

theorem arr_4 : ((dat0 (V0 m ρ) c).arrAt 4 cfg0.N : S8x64x8.Idx → EReal) = outQs (argX m c) := by
  have e : ∀ t : Fin cfg0.N, win0_4.index t = ![(grid0.coords t 0).val, (grid0.coords t 1).val, 0] := (by decide +kernel : ∀ t : Fin grid0.N, _)
  refine (dat0 (V0 m ρ) c).arrAt_eq_of_covers 4 _ (by decide +kernel) fun t hf y => ?_
  blk_simp
  rw [after0_4]
  refine (tabq_at _ _).trans (outQs_of _ _ _ ⟨_, t_lt1 t⟩ (in_q m ρ c t) _ _ _ ?_ ?_ ?_ )
  all_goals
    idx_bounds y
    blk_simp [e]
    try omega

theorem arr_5 : ((dat0 (V0 m ρ) c).arrAt 5 cfg0.N : S8x64x1024.Idx → EReal) = outLn (argX m c) := by
  have e : ∀ t : Fin cfg0.N, win0_5.index t = ![(grid0.coords t 0).val, (grid0.coords t 1).val, 0] := (by decide +kernel : ∀ t : Fin grid0.N, _)
  refine (dat0 (V0 m ρ) c).arrAt_eq_of_covers 5 _ (by decide +kernel) fun t hf y => ?_
  blk_simp
  rw [after0_5]
  refine (lanesq_at _ _).trans (outLn_of _ _ _ ⟨_, t_lt1 t⟩ (in_q m ρ c t) _ _ _ ?_ ?_ ?_ )
  all_goals
    idx_bounds y
    blk_simp [e]
    try omega

theorem arr_6 : ((dat0 (V0 m ρ) c).arrAt 6 cfg0.N : S8x8192x256.Idx → EReal) = outK (argK m c) := by
  have e : ∀ t : Fin cfg0.N, win0_6.index t = ![(grid0.coords t 0).val, (grid0.coords t 1).val, 0] := (by decide +kernel : ∀ t : Fin grid0.N, _)
  refine (dat0 (V0 m ρ) c).arrAt_eq_of_covers 6 _ (by decide +kernel) fun t hf y => ?_
  blk_simp
  rw [after0_6]
  refine (codesk_at _ _).trans (outK_of _ _ _ ⟨_, t_lt1 t⟩ (in_k m ρ c t) _ _ _ ?_ ?_ ?_ )
  all_goals
    idx_bounds y
    blk_simp [e]
    try omega

theorem arr_7 : ((dat0 (V0 m ρ) c).arrAt 7 cfg0.N : S8x64x2.Idx → EReal) = outKs (argK m c) := by
  have e : ∀ t : Fin cfg0.N, win0_7.index t = ![(grid0.coords t 0).val, (grid0.coords t 1).val, 0] := (by decide +kernel : ∀ t : Fin grid0.N, _)
  refine (dat0 (V0 m ρ) c).arrAt_eq_of_covers 7 _ (by decide +kernel) fun t hf y => ?_
  blk_simp
  rw [after0_7]
  refine (tabk_at _ _).trans (outKs_of _ _ _ ⟨_, t_lt1 t⟩ (in_k m ρ c t) _ _ _ ?_ ?_ ?_ )
  all_goals
    idx_bounds y
    blk_simp [e]
    try omega

theorem arr_8 : ((dat0 (V0 m ρ) c).arrAt 8 cfg0.N : S8x8192x256.Idx → EReal) = outK (argV m c) := by
  have e : ∀ t : Fin cfg0.N, win0_8.index t = ![(grid0.coords t 0).val, (grid0.coords t 1).val, 0] := (by decide +kernel : ∀ t : Fin grid0.N, _)
  refine (dat0 (V0 m ρ) c).arrAt_eq_of_covers 8 _ (by decide +kernel) fun t hf y => ?_
  blk_simp
  rw [after0_8]
  refine (codesk_at _ _).trans (outK_of _ _ _ ⟨_, t_lt1 t⟩ (in_v m ρ c t) _ _ _ ?_ ?_ ?_ )
  all_goals
    idx_bounds y
    blk_simp [e]
    try omega

theorem arr_9 : ((dat0 (V0 m ρ) c).arrAt 9 cfg0.N : S8x64x2.Idx → EReal) = outKs (argV m c) := by
  have e : ∀ t : Fin cfg0.N, win0_9.index t = ![(grid0.coords t 0).val, (grid0.coords t 1).val, 0] := (by decide +kernel : ∀ t : Fin grid0.N, _)
  refine (dat0 (V0 m ρ) c).arrAt_eq_of_covers 9 _ (by decide +kernel) fun t hf y => ?_
  blk_simp
  rw [after0_9]
  refine (tabk_at _ _).trans (outKs_of _ _ _ ⟨_, t_lt1 t⟩ (in_v m ρ c t) _ _ _ ?_ ?_ ?_ )
  all_goals
    idx_bounds y
    blk_simp [e]
    try omega

theorem arr_10 : ((dat0 (V0 m ρ) c).arrAt 10 cfg0.N : S8x2x64x128x128.Idx → EReal) = outVt (argV m c) := by
  have e : ∀ t : Fin cfg0.N, win0_10.index t = ![(grid0.coords t 0).val, 0, (grid0.coords t 1).val, 0, 0] := (by decide +kernel : ∀ t : Fin grid0.N, _)
  refine (dat0 (V0 m ρ) c).arrAt_eq_of_covers 10 _ (by decide +kernel) fun t hf y => ?_
  blk_simp
  rw [after0_10]
  refine (codest_at _ _).trans (outVt_of _ _ _ ⟨_, t_lt1 t⟩ (in_v m ρ c t) _ _ _ _ _ ?_ ?_ ?_ ?_ ?_ )
  all_goals
    idx_bounds y
    blk_simp [e]
    try omega

end Cert.KernelIdeal.Gen
-- ==== Proof.Value.KRun.lean ====
module

public import proofs.«01_k».proof.Proof.Value.KAttn
public import proofs.«01_k».proof.Proof.Value.KArr
public import proofs.«01_k».proof.Proof.KernelIdeal.Run

@[expose] public section

set_option maxRecDepth 8192

noncomputable section

namespace Cert.KernelIdeal.Gen
open Idealize Idealize.ShloMosaic Idealize.ShloMosaic.Pointwise
open Cert.KernelIdeal Cert.Spec

/-! ## What the attention region reads and leaves -/

variable (m : (l : Loc nD τ sig) → Buf (Elt Ideal) l) (ρ : Dev nD → PrngReg) (c : Dev nD)

theorem V2_q : (V2 m ρ c main_v0_0 : S8x8192x1024.Idx → EReal) = outQ (argX m c) :=
  (W2_of m ρ c main_v0_0 (by decide)).trans ((W1_arr m ρ c 3).trans (arr_3 m ρ c))

theorem V2_k : (V2 m ρ c main_v0_3 : S8x8192x256.Idx → EReal) = outK (argK m c) :=
  (W2_of m ρ c main_v0_3 (by decide)).trans ((W1_arr m ρ c 6).trans (arr_6 m ρ c))

theorem V2_vt : (V2 m ρ c main_v0_7 : S8x2x64x128x128.Idx → EReal) = outVt (argV m c) :=
  (W2_of m ρ c main_v0_7 (by decide)).trans ((W1_arr m ρ c 10).trans (arr_10 m ρ c))

theorem V2_ln : (V2 m ρ c main_v5 : S8x64x1x1024.Idx → EReal) = shapeCast S8x64x1x1024 (outLn (argX m c)) shapeCasts_S8x64x1024_S8x64x1x1024 := by
  rw [← (W1_arr m ρ c 5).trans (arr_5 m ρ c)]
  simp only [V2, W2, StableHlo.after_cons, StableHlo.after_nil, hostOps1]
  rfl

theorem V2_ks : (V2 m ρ c main_v2 : S8x2x64x1.Idx → EReal)
    = broadcastInDim S8x2x64x1 ![0, 1, 2] bcast_S8x2x64_S8x2x64x1_0_1_2 (transpose S8x2x64 [0, 2, 1] (outKs (argK m c)) transposes_S8x64x2_S8x2x64_0_2_1) := by
  rw [← (W1_arr m ρ c 7).trans (arr_7 m ρ c)]
  simp only [V2, W2, StableHlo.after_cons, StableHlo.after_nil, hostOps1]
  rfl

theorem V2_vs : (V2 m ρ c main_v4 : S8x2x64x1.Idx → EReal)
    = broadcastInDim S8x2x64x1 ![0, 1, 2] bcast_S8x2x64_S8x2x64x1_0_1_2 (transpose S8x2x64 [0, 2, 1] (outKs (argV m c)) transposes_S8x64x2_S8x2x64_0_2_1) := by
  rw [← (W1_arr m ρ c 9).trans (arr_9 m ρ c)]
  simp only [V2, W2, StableHlo.after_cons, StableHlo.after_nil, hostOps1]
  rfl

theorem ln_at (X : S8x64x1024.Idx → EReal) (b : Fin 8) (i : Fin 64) (l : Fin 1024) :
    (shapeCast S8x64x1x1024 X shapeCasts_S8x64x1024_S8x64x1x1024) (ix4 b i 0 l) = X (ix3 b i l) := by
  pointwise

theorem tr4_at (X : S8x64x2.Idx → EReal) (b : Fin 8) (h : Fin 2) (j : Fin 64) :
    (broadcastInDim S8x2x64x1 ![0, 1, 2] bcast_S8x2x64_S8x2x64x1_0_1_2 (transpose S8x2x64 [0, 2, 1] X transposes_S8x64x2_S8x2x64_0_2_1)) (ix4 b h j 0) = X (ix3 b j h) := by
  pointwise

abbrev gb (t : Fin cfg1.N) : Fin 8 := ⟨(grid1.coords t 0).val, (grid1.coords t 0).isLt⟩
abbrev gh (t : Fin cfg1.N) : Fin 2 := ⟨(grid1.coords t 1).val, (grid1.coords t 1).isLt⟩
abbrev gi (t : Fin cfg1.N) : Fin 64 := qi (grid1.coords t)

theorem ix_0 : ∀ t : Fin cfg1.N, win1_0.index t = ![(grid1.coords t 0).val, (grid1.coords t 2).val, (grid1.coords t 1).val] := (by decide +kernel : ∀ t : Fin grid1.N, _)

theorem ix_1 : ∀ t : Fin cfg1.N, win1_1.index t = ![(grid1.coords t 0).val, (grid1.coords t 2).val, 0, (grid1.coords t 1).val] := (by decide +kernel : ∀ t : Fin grid1.N, _)

theorem ix_2 : ∀ t : Fin cfg1.N, win1_2.index t = ![(grid1.coords t 0).val, 0, (grid1.coords t 1).val] := (by decide +kernel : ∀ t : Fin grid1.N, _)

theorem ix_3 : ∀ t : Fin cfg1.N, win1_3.index t = ![(grid1.coords t 0).val, (grid1.coords t 1).val, 0, 0, 0] := (by decide +kernel : ∀ t : Fin grid1.N, _)

theorem ix_4 : ∀ t : Fin cfg1.N, win1_4.index t = ![(grid1.coords t 0).val, (grid1.coords t 1).val, 0, 0] := (by decide +kernel : ∀ t : Fin grid1.N, _)

theorem ix_5 : ∀ t : Fin cfg1.N, win1_5.index t = ![(grid1.coords t 0).val, (grid1.coords t 1).val, 0, 0] := (by decide +kernel : ∀ t : Fin grid1.N, _)

theorem ix_6 : ∀ t : Fin cfg1.N, win1_6.index t = ![(grid1.coords t 0).val, (grid1.coords t 2).val, (grid1.coords t 1).val] := (by decide +kernel : ∀ t : Fin grid1.N, _)

theorem cov_6 : (cfg1.win 6).Covers := by
  decide +kernel

section Blocks
variable (t : Fin cfg1.N) (g : Fin 4)

theorem in1_0 (r x : Fin 128) : (iblk1 (V2 m ρ) c 0 t : S1x128x512.Idx → EReal) (ix3 0 r (ln g x)) = codeT (tileQ (argX m c) (gb t) (gi t) (gh t) g) r x := by
  rw [← outQ_at, ← V2_q m ρ c]
  have e := ix_0
  blk_simp [iblk1]
  refine congrArg (V2 m ρ c main_v0_0) ?_
  blk_ext [e]

theorem in1_1 (r : Fin 128) : (iblk1 (V2 m ρ) c 1 t : S1x1x1x512.Idx → EReal) (ix4 0 0 0 (ln g r)) = scaleT (tileQ (argX m c) (gb t) (gi t) (gh t) g) := by
  have hl : outLn (argX m c) (ix3 (gb t) (gi t) ⟨(gh t).val * 512 + (g.val * 128 + r.val), by omega⟩) = scaleT (tileQ (argX m c) (gb t) (gi t) (gh t) g) := by
    unfold outLn
    refine congrArg scaleT (congr (congrArg (tileQ (argX m c) (gb t) (gi t)) (Fin.ext ?_)) (Fin.ext ?_))
    · show ((gh t).val * 512 + (g.val * 128 + r.val)) / 512 = (gh t).val
      omega
    · show ((gh t).val * 512 + (g.val * 128 + r.val)) / 128 % 4 = g.val
      omega
  rw [← hl, ← ln_at (outLn (argX m c)), ← V2_ln m ρ c]
  have e := ix_1
  blk_simp [iblk1]
  refine congrArg (V2 m ρ c main_v5) ?_
  blk_ext [e]

theorem in1_2 (j : Fin 64) (y x : Fin 128) (hn : j.val * 128 + y.val < 8192) : (iblk1 (V2 m ρ) c 2 t : S1x8192x128.Idx → EReal) (ix3 0 ⟨j.val * 128 + y.val, hn⟩ x) = codeT (tileK (argK m c) (gb t) j (gh t)) y x := by
  rw [← outK_at, ← V2_k m ρ c]
  have e := ix_2
  blk_simp [iblk1]
  refine congrArg (V2 m ρ c main_v0_3) ?_
  blk_ext [e]

theorem in1_3 (j : Fin 64) (d y : Fin 128) : (iblk1 (V2 m ρ) c 3 t : S1x1x64x128x128.Idx → EReal) (ix5 0 0 j d y) = codeT (tileK (argV m c) (gb t) j (gh t)) y d := by
  have hl : outVt (argV m c) (ix5 (gb t) (gh t) j d y) = codeT (tileK (argV m c) (gb t) j (gh t)) y d := rfl
  rw [← hl, ← V2_vt m ρ c]
  have e := ix_3
  blk_simp [iblk1]
  refine congrArg (V2 m ρ c main_v0_7) ?_
  blk_ext [e]

theorem in1_4 (j : Fin 64) : (iblk1 (V2 m ρ) c 4 t : S1x1x64x1.Idx → EReal) (ix4 0 0 j 0) = scaleT (tileK (argK m c) (gb t) j (gh t)) := by
  have hl : outKs (argK m c) (ix3 (gb t) j (gh t)) = scaleT (tileK (argK m c) (gb t) j (gh t)) := rfl
  rw [← hl, ← tr4_at (outKs (argK m c)), ← V2_ks m ρ c]
  have e := ix_4
  blk_simp [iblk1]
  refine congrArg (V2 m ρ c main_v2) ?_
  blk_ext [e]

theorem in1_5 (j : Fin 64) : (iblk1 (V2 m ρ) c 5 t : S1x1x64x1.Idx → EReal) (ix4 0 0 j 0) = scaleT (tileK (argV m c) (gb t) j (gh t)) := by
  have hl : outKs (argV m c) (ix3 (gb t) j (gh t)) = scaleT (tileK (argV m c) (gb t) j (gh t)) := rfl
  rw [← hl, ← tr4_at (outKs (argV m c)), ← V2_vs m ρ c]
  have e := ix_5
  blk_simp [iblk1]
  refine congrArg (V2 m ρ c main_v4) ?_
  blk_ext [e]

theorem point_at (r d : Fin 128) :
    (attnOut (F := Ideal) (grid1.coords t) (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) : S1x128x512.Idx → EReal) (ix3 0 r (ln g d))
      = outTile (argX m c) (argK m c) (argV m c) (gb t) (gi t) (gh t) g r d :=
  attn_tile (grid1.coords t) _ _ _ _ _ _ g (argX m c) (argK m c) (argV m c) (gb t) (gh t) (in1_0 m ρ c t g) (in1_1 m ρ c t g) (in1_2 m ρ c t) (in1_3 m ρ c t) (in1_4 m ρ c t) (in1_5 m ρ c t) r d

end Blocks

theorem out_of (A : S1x128x512.Idx → EReal) (X : SQ.Idx → EReal) (K V : SK.Idx → EReal) (b : Fin 8) (i : Fin 64) (h : Fin 2)
    (hA : ∀ (g : Fin 4) (r d : Fin 128), A (ix3 0 r (ln g d)) = outTile X K V b i h g r d)
    (y : S1x128x512.Idx) (z : SQ.Idx) (h0 : (z 0).val = b.val) (h1 : (z 1).val = i.val * 128 + (y 1).val) (h2 : (z 2).val = h.val * 512 + (y 2).val) :
    A y = outY X K V z := by
  have y0 : (y 0).val < 1 := (y 0).isLt
  have y1 : (y 1).val < 128 := (y 1).isLt
  have y2 : (y 2).val < 512 := (y 2).isLt
  have ey : ix3 0 ⟨(y 1).val, y1⟩ (ln ⟨(y 2).val / 128, by omega⟩ ⟨(y 2).val % 128, by omega⟩) = y := by
    funext a; fin_cases a
    · exact Fin.ext (show 0 = (y 0).val by omega)
    · rfl
    · exact Fin.ext (show (y 2).val / 128 * 128 + (y 2).val % 128 = (y 2).val by omega)
  have ez : ix3 b ⟨i.val * 128 + (y 1).val, by omega⟩ ⟨h.val * 512 + (y 2).val / 128 * 128 + (y 2).val % 128, by omega⟩ = z := by
    funext a; fin_cases a
    · exact Fin.ext h0.symm
    · exact Fin.ext h1.symm
    · exact Fin.ext (show h.val * 512 + (y 2).val / 128 * 128 + (y 2).val % 128 = (z 2).val by omega)
  have hy := hA ⟨(y 2).val / 128, by omega⟩ ⟨(y 1).val, y1⟩ ⟨(y 2).val % 128, by omega⟩
  rw [ey, ← outY_at, ez] at hy
  exact hy

theorem arr_y : ((dat1 (V2 m ρ) c).arrAt 6 cfg1.N : S8x8192x1024.Idx → EReal) = outY (argX m c) (argK m c) (argV m c) := by
  refine (dat1 (V2 m ρ) c).arrAt_eq_of_covers 6 _ cov_6 fun t hf y => ?_
  have e := ix_6
  blk_simp
  rw [after1_6]
  refine out_of _ _ _ _ (gb t) (gi t) (gh t) (point_at m ρ c t) _ _ ?_ ?_ ?_
  all_goals
    idx_bounds y
    blk_simp [e]
    try omega

end Cert.KernelIdeal.Gen
-- ==== Proof.Value.KFinal.lean ====
module

public import proofs.«01_k».proof.Proof.Value.KRun

@[expose] public section

set_option maxRecDepth 8192

noncomputable section

namespace Cert.KernelIdeal.Gen
open Idealize Idealize.ShloMosaic
open Cert.KernelIdeal Cert.Spec

variable (m : (l : Loc nD τ sig) → Buf (Elt Ideal) l) (ρ : Dev nD → PrngReg)

/-- What the first region leaves in one of its output arrays is still there at the end. -/
theorem kept (c : Dev nD) (w : Fin cfg0.W) (h1 : Pipeline.arrRef spec0 w ∉ hostOps1_W)
    (h3 : ∀ v : Fin cfg1.W, Pipeline.arrRef spec1 v = Pipeline.arrRef spec0 w → (cfg1.win v).isOut = false) :
    W3 m ρ c (Proc.devRef .tc (Pipeline.arrRef spec0 w)) = (dat0 (V0 m ρ) c).arrAt w cfg0.N :=
  (W3_of m ρ c _ h3).trans ((W2_of m ρ c _ h1).trans (W1_arr m ρ c w))

/-- The kernel's results. -/
theorem kernel_run :
    θ_run defs (onTc (τ := τ) (main (F := Ideal))) ⟨m, fun _ => 0, ρ⟩ fun r => ∀ c : Dev nD,
      r.2.mem ((c.tc : Thread nD τ).loc main_v6) = outY (argX m c) (argK m c) (argV m c)
      ∧ r.2.mem ((c.tc : Thread nD τ).loc main_v0_0) = outQ (argX m c)
      ∧ r.2.mem ((c.tc : Thread nD τ).loc main_v0_1) = outQs (argX m c)
      ∧ r.2.mem ((c.tc : Thread nD τ).loc main_v0_3) = outK (argK m c)
      ∧ r.2.mem ((c.tc : Thread nD τ).loc main_v0_4) = outKs (argK m c)
      ∧ r.2.mem ((c.tc : Thread nD τ).loc main_v0_5) = outK (argV m c)
      ∧ r.2.mem ((c.tc : Thread nD τ).loc main_v0_6) = outKs (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h.1 c _ (mem_uc main_v6 (by decide))).trans ((W3_arr m ρ c 6).trans (arr_y m ρ c)),
       (h.1 c _ (mem_uc main_v0_0 (by decide))).trans ((kept m ρ c 3 (by decide) (by decide)).trans (arr_3 m ρ c)),
       (h.1 c _ (mem_uc main_v0_1 (by decide))).trans ((kept m ρ c 4 (by decide) (by decide)).trans (arr_4 m ρ c)),
       (h.1 c _ (mem_uc main_v0_3 (by decide))).trans ((kept m ρ c 6 (by decide) (by decide)).trans (arr_6 m ρ c)),
       (h.1 c _ (mem_uc main_v0_4 (by decide))).trans ((kept m ρ c 7 (by decide) (by decide)).trans (arr_7 m ρ c)),
       (h.1 c _ (mem_uc main_v0_5 (by decide))).trans ((kept m ρ c 8 (by decide) (by decide)).trans (arr_8 m ρ c)),
       (h.1 c _ (mem_uc main_v0_6 (by decide))).trans ((kept m ρ c 9 (by decide) (by decide)).trans (arr_9 m ρ c)),
       (h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c)⟩) (run_all m ρ)

end Cert.KernelIdeal.Gen
-- ==== Proof.Value.RefHost.lean ====
module

public import proofs.«01_k».proof.Proof.Gen.ReferenceIdeal.Run
public import Idealize.ShloMosaic.Lib.Pointwise
public import Idealize.ShloMosaic.Lib.Tactic.CleanTypes
public import proofs.«01_k».proof.Proof.Value.Math

@[expose] public section

set_option maxRecDepth 8192

noncomputable section

namespace Cert.ReferenceIdeal.Gen
open Idealize Idealize.ShloMosaic Idealize.ShloMosaic.Pointwise
open Cert.ReferenceIdeal Cert.Spec Cert.ReferenceIdeal.Value

variable (V0 : Valuation τ sig (Elt Ideal))
/-- The arrays the quantising call leaves: scales of q, k and v, and the codes as numbers. -/
abbrev Qs : S8x64x1x2x4x1.Idx → EReal := V0 (Proc.devRef .tc main_v0_1)
abbrev Ks : S8x64x1x2x1.Idx → EReal := V0 (Proc.devRef .tc main_v0_3)
abbrev Vs : S8x64x1x2x1.Idx → EReal := V0 (Proc.devRef .tc main_v0_5)
abbrev Qf : S8x64x128x2x4x128.Idx → EReal := V0 (Proc.devRef .tc main_v0_6)
abbrev Kf : S8x64x128x2x128.Idx → EReal := V0 (Proc.devRef .tc main_v0_7)
abbrev Vf : S8x64x128x2x128.Idx → EReal := V0 (Proc.devRef .tc main_v0_8)

variable (b : Fin 8) (h : Fin 2) (g : Fin 4) (i : Fin 64)
/-- The raw scores. -/
def rawS (r : Fin 128) (j : Fin 64) (c : Fin 128) : EReal := ∑ x : Fin 128, Kf V0 (ix5 b j c h x) * Qf V0 (ix6 b i r h g x)
abbrev qsc : EReal := Qs V0 (ix6 b i 0 h g 0)
abbrev ksc (j : Fin 64) : EReal := Ks V0 (ix5 b j 0 h 0)
abbrev vsc (j : Fin 64) : EReal := Vs V0 (ix5 b j 0 h 0)
abbrev vco (j : Fin 64) (c d : Fin 128) : EReal := Vf V0 (ix5 b j c h d)

theorem sel_at {s : Shape} {α : Type} (c : IVec s 1) (a b : s.Idx → α) (i : s.Idx) : select c a b i = Scalar.select (c i) (a i) (b i) := rfl

theorem v34_at (r : Fin 128) (j : Fin 64) (c : Fin 128) :
    (res_main_v34 V0 : S8x2x4x64x128x64x128.Idx → EReal) (ix7 b h g i r j c)
      = rs (rawS V0 b h g i) (Win i) (qsc V0 b h g i) (ksc V0 b h) r j c := by
  unfold res_main_v34 res_main_v28
  clean_types
  pointwise
  rw [win_select i r j c _ _ _ (dist_word _ _ _ _), rsqrt128]
  unfold rs rawS
  congr 1

theorem mem_v34 (r : Fin 128) (x : S8x2x4x64x128x64x128.Idx) :
    reducesTo_S8x2x4x64x128x64x128_S8x2x4x64x128_d5_6.drop x = ix5 b h g i r ↔ ∃ (j : Fin 64) (c : Fin 128), x = ix7 b h g i r j c := by
  idx_vars x
  constructor
  · intro hx
    have h0 := congrFun hx 0
    have h1 := congrFun hx 1
    have h2 := congrFun hx 2
    have h3 := congrFun hx 3
    have h4 := congrFun hx 4
    refine ⟨x5, x6, ?_⟩
    change x0 = b at h0; change x1 = h at h1; change x2 = g at h2; change x3 = i at h3; change x4 = r at h4
    subst h0 h1 h2 h3 h4; rfl
  · rintro ⟨j, c, hx⟩
    rw [hx]
    funext a; fin_cases a <;> rfl

theorem v39_at (r : Fin 128) (j : Fin 64) (c : Fin 128) :
    (res_main_v39 V0 : S8x2x4x64x128x64x128.Idx → EReal) (ix7 b h g i r j c)
      = rp (rawS V0 b h g i) (Win i) (qsc V0 b h g i) (ksc V0 b h) r j c := by
  unfold res_main_v39
  clean_types
  pointwise
  unfold rp rm
  have hb : Ideal.ofBits FTy.f32 4286578688#32 = ⊥ := cbot
  rw [hb, v34_at, fold_pairs _ _ (fun j c => ix7 b h g i r j c) (fun x => by rw [Finset.mem_filter]; refine (and_iff_right (Finset.mem_univ x)).trans ?_; exact mem_v34 b h g i r x)]
  simp only [v34_at]

theorem mem_v44 (j : Fin 64) (x : S8x2x4x64x128x64x128.Idx) :
    reducesTo_S8x2x4x64x128x64x128_S8x2x4x64x64_d4_6.drop x = ix5 b h g i j ↔ ∃ (r : Fin 128) (c : Fin 128), x = ix7 b h g i r j c := by
  idx_vars x
  constructor
  · intro hx
    have h0 := congrFun hx 0
    have h1 := congrFun hx 1
    have h2 := congrFun hx 2
    have h3 := congrFun hx 3
    have h4 := congrFun hx 4
    refine ⟨x4, x6, ?_⟩
    change x0 = b at h0; change x1 = h at h1; change x2 = g at h2; change x3 = i at h3; change x5 = j at h4
    subst h0 h1 h2 h3 h4; rfl
  · rintro ⟨j, c, hx⟩
    rw [hx]
    funext a; fin_cases a <;> rfl

theorem rp_nonneg (S : Fin 128 → Fin 64 → Fin 128 → EReal) (W : Fin 128 → Fin 64 → Fin 128 → Prop)
    [∀ r j c, Decidable (W r j c)] (qs : EReal) (ks : Fin 64 → EReal) (r : Fin 128) (j : Fin 64) (c : Fin 128) :
    FloatOps.absf (F := Ideal) (φ := .f32) (rp S W qs ks r j c) = rp S W qs ks r j c := by
  unfold rp
  generalize rs S W qs ks r j c - rm S W qs ks r = x
  have hx : 0 ≤ Ideal.exp x := by
    induction x using EReal.rec with
    | bot => exact le_rfl
    | top => exact le_top
    | coe x => change (0 : EReal) ≤ ((Real.exp x : ℝ) : EReal); exact_mod_cast (Real.exp_pos x).le
  change max (Ideal.exp x) (-(Ideal.exp x)) = _
  exact max_eq_left (le_trans (by rw [EReal.neg_le, neg_zero]; exact hx) hx)

theorem v44_at (j : Fin 64) :
    (res_main_v44 V0 : S8x2x4x64x1x64x1.Idx → EReal) (ix7 b h g i 0 j 0)
      = ra (rawS V0 b h g i) (Win i) (qsc V0 b h g i) (ksc V0 b h) j := by
  unfold res_main_v44
  clean_types
  pointwise
  unfold ra
  have hb : Ideal.ofBits FTy.f32 4286578688#32 = ⊥ := cbot
  rw [hb, fold_pairs _ _ (fun r c => ix7 b h g i r j c) (fun x => by rw [Finset.mem_filter]; simp only [Finset.mem_univ, true_and]; exact mem_v44 b h g i j x)]
  simp only [v39_at, rp_nonneg]

theorem log2_at (x : S_.Idx) : (res_main_v41 V0 : S_.Idx → EReal) x = ((Real.log 2 : ℝ) : EReal) := by
  exact log_two

theorem oeq_at (X : FVec Ideal S8x2x4x64x1x64x1 .f32) (j : Fin 64) :
    (cmpf .oeq X (broadcastInDim S8x2x4x64x1x64x1 ![] bcast_S_S8x2x4x64x1x64x1 (constant S_ .f32 0x00000000#32))) (ix7 b h g i 0 j 0)
      = BitVec.ofBool (decide (X (ix7 b h g i 0 j 0) = 0)) := by pointwise

theorem select_if (c : BitVec 1) (p : Prop) [Decidable p] (x y x' y' : BitVec 32) (hc : c = BitVec.ofBool (decide p))
    (hx : x = x') (hy : y = y') : Scalar.select c x y = if p then x' else y' := by
  subst hc hx hy; unfold Scalar.select; by_cases hp : p <;> simp [hp]

theorem lev1_at (Y : FVec Ideal S8x2x4x64x1x64x1 .f32) (j : Fin 64) :
    (addi (fptosi 32 (Host.floor Y)) (broadcastInDim S8x2x4x64x1x64x1 ![] bcast_S_S8x2x4x64x1x64x1 (constantI S_ 32 1#32))) (ix7 b h g i 0 j 0)
      = IntOp.addi (Ideal.fptosi 32 (Ideal.liftRound Int.floor (Y (ix7 b h g i 0 j 0)))) 1#32 := rfl

theorem lev2_at (X : FVec Ideal S8x2x4x64x1x64x1 .f32) (L : FVec Ideal S_ .f32) (j : Fin 64) :
    (Host.divf (Host.log (mulf X (broadcastInDim S8x2x4x64x1x64x1 ![] bcast_S_S8x2x4x64x1x64x1 (constant S_ .f32 0x3B124925#32)))) (broadcastInDim S8x2x4x64x1x64x1 ![] bcast_S_S8x2x4x64x1x64x1 L)) (ix7 b h g i 0 j 0)
      = Ideal.div (Ideal.log (X (ix7 b h g i 0 j 0) * Ideal.ofBits .f32 0x3B124925#32)) (L ix0) := by
  pointwise

theorem v56_at (j : Fin 64) :
    (res_main_v56 V0 : S8x2x4x64x1x64x1.Idx → BitVec 32) (ix7 b h g i 0 j 0)
      = expo (ra (rawS V0 b h g i) (Win i) (qsc V0 b h g i) (ksc V0 b h) j) := by
  have hX := v44_at V0 b h g i j
  unfold res_main_v56
  clean_types
  rw [sel_at]
  unfold expo lvl
  rw [← hX]
  refine select_if _ _ _ _ _ _ ?_ ?_ ?_
  · exact oeq_at b h g i _ j
  · rfl
  · refine (lev1_at b h g i _ j).trans ?_
    rw [lev2_at, log2_at]

/-- The products that are summed over the key blocks. -/
def yTerm : FVec Ideal S8x2x4x64x128x64x128 .f32 :=
  mulf (transpose S8x2x4x64x128x64x128 [0, 1, 4, 5, 6, 2, 3] (Host.dotGeneral dot_S8x64x128x2x128_S8x2x4x64x128x64x128_S8x2x64x128x4x64x128_2_6_4_234_031_015 none (φ₁ := .f32) (φ₂ := .f32) (Vf V0) (minimumf (broadcastInDim S8x2x4x64x128x64x128 ![] bcast_S_S8x2x4x64x128x64x128 (id (constant S_ .f32 0x43E00000#32))) (maximumf (broadcastInDim S8x2x4x64x128x64x128 ![] bcast_S_S8x2x4x64x128x64x128 (id (constant S_ .f32 0xC3E00000#32))) (mulf (res_main_v39 V0) (broadcastInDim S8x2x4x64x128x64x128 ![0, 1, 2, 3, 4, 5, 6] bcast_S8x2x4x64x1x64x1_S8x2x4x64x128x64x128_0_1_2_3_4_5_6 (Host.exp (mulf (sitofp .f32 (negi (res_main_v56 V0))) (broadcastInDim S8x2x4x64x1x64x1 ![] bcast_S_S8x2x4x64x1x64x1 (res_main_v41 V0))))))))) transposes_S8x2x64x128x4x64x128_S8x2x4x64x128x64x128_0_1_4_5_6_2_3) (broadcastInDim S8x2x4x64x128x64x128 ![0, 1, 2, 3, 4, 5, 6] bcast_S8x2x4x64x1x64x1_S8x2x4x64x128x64x128_0_1_2_3_4_5_6 (mulf (Host.exp (mulf (sitofp .f32 (res_main_v56 V0)) (broadcastInDim S8x2x4x64x1x64x1 ![] bcast_S_S8x2x4x64x1x64x1 (res_main_v41 V0)))) (broadcastInDim S8x2x4x64x1x64x1 ![0, 1, 2, 3, 4, 5, 6] bcast_S8x2x1x1x1x64x1_S8x2x4x64x1x64x1_0_1_2_3_4_5_6 (broadcastInDim S8x2x1x1x1x64x1 ![0, 1, 2, 5, 6] bcast_S8x2x1x64x1_S8x2x1x1x1x64x1_0_1_2_5_6 (transpose S8x2x1x64x1 [0, 3, 2, 1, 4] (Vs V0) transposes_S8x64x1x2x1_S8x2x1x64x1_0_3_2_1_4)))))

/-- The attention output, before it is laid out as an array of rows. -/
def yTiles : FVec Ideal S8x64x128x2x4x128 .f32 :=
  transpose S8x64x128x2x4x128 [0, 3, 4, 1, 2, 5] (Host.divf (Host.reduceAdd (yTerm V0) (constant S_ .f32 0x00000000#32) reducesTo_S8x2x4x64x128x64x128_S8x2x4x64x128x128_d5 h_S_) (broadcastInDim S8x2x4x64x128x128 ![0, 1, 2, 3, 4, 5] bcast_S8x2x4x64x128x1_S8x2x4x64x128x128_0_1_2_3_4_5 (broadcastInDim S8x2x4x64x128x1 ![0, 1, 2, 3, 4] bcast_S8x2x4x64x128_S8x2x4x64x128x1_0_1_2_3_4 (Host.reduceAdd (res_main_v39 V0) (constant S_ .f32 0x00000000#32) reducesTo_S8x2x4x64x128x64x128_S8x2x4x64x128_d5_6 h_S_)))) transposes_S8x2x4x64x128x128_S8x64x128x2x4x128_0_3_4_1_2_5

theorem pc_at (r : Fin 128) (j : Fin 64) (c : Fin 128) (X : FVec Ideal S8x2x4x64x128x64x128 .f32) (e : IVec S8x2x4x64x1x64x1 32) (l : FVec Ideal S_ .f32)
    (hl : l ix0 = ((Real.log 2 : ℝ) : EReal)) :
    (minimumf (broadcastInDim S8x2x4x64x128x64x128 ![] bcast_S_S8x2x4x64x128x64x128 (id (constant S_ .f32 0x43E00000#32))) (maximumf (broadcastInDim S8x2x4x64x128x64x128 ![] bcast_S_S8x2x4x64x128x64x128 (id (constant S_ .f32 0xC3E00000#32))) (mulf X (broadcastInDim S8x2x4x64x128x64x128 ![0, 1, 2, 3, 4, 5, 6] bcast_S8x2x4x64x1x64x1_S8x2x4x64x128x64x128_0_1_2_3_4_5_6 (Host.exp (mulf (sitofp .f32 (negi e)) (broadcastInDim S8x2x4x64x1x64x1 ![] bcast_S_S8x2x4x64x1x64x1 l))))))) (ix7 b h g i r j c)
      = code (X (ix7 b h g i r j c)) (e (ix7 b h g i 0 j 0)) := by
  pointwise
  rw [hl]
  unfold code clip
  rw [← exp_ln2]
  have : IntOp.subi 0#32 (e (ix7 b h g i 0 j 0)) = - e (ix7 b h g i 0 j 0) := BitVec.zero_sub _
  rw [this]
  rfl

theorem sc_at (j : Fin 64) (e : IVec S8x2x4x64x1x64x1 32) (l : FVec Ideal S_ .f32)
    (hl : l ix0 = ((Real.log 2 : ℝ) : EReal)) :
    (Host.exp (mulf (sitofp .f32 e) (broadcastInDim S8x2x4x64x1x64x1 ![] bcast_S_S8x2x4x64x1x64x1 l))) (ix7 b h g i 0 j 0)
      = pow (e (ix7 b h g i 0 j 0)) := by
  pointwise
  rw [hl, ← exp_ln2]
  rfl

theorem yTerm_at (r : Fin 128) (j : Fin 64) (d : Fin 128) :
    yTerm V0 (ix7 b h g i r j d)
      = (∑ c, code (rp (rawS V0 b h g i) (Win i) (qsc V0 b h g i) (ksc V0 b h) r j c) (expo (ra (rawS V0 b h g i) (Win i) (qsc V0 b h g i) (ksc V0 b h) j)) * vco V0 b h j c d)
        * (pow (expo (ra (rawS V0 b h g i) (Win i) (qsc V0 b h g i) (ksc V0 b h) j)) * vsc V0 b h j) := by
  have e1 := fun c => pc_at b h g i r j c (res_main_v39 V0) (res_main_v56 V0) (res_main_v41 V0) (log2_at V0 ix0)
  have e2 := sc_at b h g i j (res_main_v56 V0) (res_main_v41 V0) (log2_at V0 ix0)
  unfold yTerm
  generalize (minimumf _ _ : FVec Ideal S8x2x4x64x128x64x128 .f32) = P at e1 ⊢
  generalize (Host.exp _ : FVec Ideal S8x2x4x64x1x64x1 .f32) = Q at e2 ⊢
  pointwise
  rw [e2, v56_at]
  congr 1
  refine Finset.sum_congr rfl fun c _ => ?_
  rw [e1, v39_at, v56_at, mul_comm]

theorem mem_d5 (r d : Fin 128) (x : S8x2x4x64x128x64x128.Idx) :
    reducesTo_S8x2x4x64x128x64x128_S8x2x4x64x128x128_d5.drop x = ix6 b h g i r d ↔ ∃ (j : Fin 64) (_ : Fin 1), x = ix7 b h g i r j d := by
  idx_vars x
  constructor
  · intro hx
    have h0 := congrFun hx 0
    have h1 := congrFun hx 1
    have h2 := congrFun hx 2
    have h3 := congrFun hx 3
    have h4 := congrFun hx 4
    have h5 := congrFun hx 5
    refine ⟨x5, 0, ?_⟩
    change x0 = b at h0; change x1 = h at h1; change x2 = g at h2; change x3 = i at h3; change x4 = r at h4; change x6 = d at h5
    subst h0 h1 h2 h3 h4 h5; rfl
  · rintro ⟨j, _, hx⟩
    rw [hx]
    funext a; fin_cases a <;> rfl

theorem yTiles_at (r d : Fin 128) :
    yTiles V0 (ix6 b i r h g d)
      = ry (rawS V0 b h g i) (Win i) (qsc V0 b h g i) (ksc V0 b h) (vsc V0 b h) (vco V0 b h) r d := by
  unfold yTiles
  clean_types
  pointwise
  unfold Ideal.hostReduceAdd ry
  congr 1
  · rw [sum_pairs _ _ (fun (j : Fin 64) (_ : Fin 1) => ix7 b h g i r j d) (fun x => by rw [Finset.mem_filter]; refine (and_iff_right (Finset.mem_univ x)).trans ?_; exact mem_d5 b h g i r d x)
      (fun j z j' z' hh => ⟨show j = j' from congrFun hh 5, Subsingleton.elim _ _⟩), zero_add]
    refine Finset.sum_congr rfl fun j _ => ?_
    rw [Finset.univ_unique, Finset.sum_singleton, yTerm_at]
  · rw [sum_pairs _ _ (fun (j : Fin 64) (c : Fin 128) => ix7 b h g i r j c) (fun x => by rw [Finset.mem_filter]; refine (and_iff_right (Finset.mem_univ x)).trans ?_; exact mem_v34 b h g i r x)
      (fun j z j' z' hh => ⟨show j = j' from congrFun hh 5, show z = z' from congrFun hh 6⟩), zero_add]
    simp only [v39_at]
end Cert.ReferenceIdeal.Gen
-- ==== Proof.Value.RefQuant.lean ====
module

public import proofs.«01_k».proof.Proof.Gen.ReferenceIdeal.Run
public import Idealize.ShloMosaic.Lib.Pointwise
public import Idealize.ShloMosaic.Lib.Tactic.CleanTypes
public import proofs.«01_k».proof.Proof.Value.Tiles

@[expose] public section

set_option maxRecDepth 8192

noncomputable section

namespace Cert.ReferenceIdeal.Gen
open Idealize Idealize.ShloMosaic Idealize.ShloMosaic.Pointwise
open Cert.ReferenceIdeal Cert.Spec Cert.ReferenceIdeal.Value

variable (b : Fin 8) (h : Fin 2) (g : Fin 4) (i : Fin 64)

theorem qsel_at {s : Shape} {α : Type} (c : IVec s 1) (x y : s.Idx → α) (j : s.Idx) : select c x y j = Scalar.select (c j) (x j) (y j) := rfl

theorem qsel_if (c : BitVec 1) (p : Prop) [Decidable p] (x y x' y' : BitVec 32) (hc : c = BitVec.ofBool (decide p))
    (hx : x = x') (hy : y = y') : Scalar.select c x y = if p then x' else y' := by
  subst hc hx hy; unfold Scalar.select; by_cases hp : p <;> simp [hp]

theorem named_ln2 : (Named.named κ "ln2" 0x3F317218#32 : Ideal .f32) = ((Real.log 2 : ℝ) : EReal) :=
  IdealRules.named_const.ideal_named_scalar _ _ _ _ rfl

theorem sitofp_int (e : BitVec 32) : (FloatOps.sitofp .f32 e : Ideal .f32) = ((e.toInt : ℝ) : EReal) := rfl

/-! ## Queries: six axes -/

theorem pay4_at (X : Vec Ideal S8x8192x1024 .bf16) (r d : Fin 128) :
    (k0_pay4 (F := Ideal) X : FVec Ideal S8x64x128x2x4x128 .f32) (ix6 b i r h g d) = tileQ X b i h g r d := by
  unfold k0_pay4
  pointwise
  rfl

theorem mem_q (x : S8x64x128x2x4x128.Idx) :
    reduces_S8x64x128x2x4x128_S8x64x2x4.drop x = ix4 b i h g ↔ ∃ (r d : Fin 128), x = ix6 b i r h g d := by
  idx_vars x
  constructor
  · intro hx
    have h0 := congrFun hx 0
    have h1 := congrFun hx 1
    have h2 := congrFun hx 2
    have h3 := congrFun hx 3
    refine ⟨x2, x5, ?_⟩
    change x0 = b at h0; change x1 = i at h1; change x3 = h at h2; change x4 = g at h3
    subst h0 h1 h2 h3; rfl
  · rintro ⟨r, d, hx⟩
    rw [hx]
    funext a; fin_cases a <;> rfl

theorem amaxq_at (X : FVec Ideal S8x64x128x2x4x128 .f32) (T : Fin 128 → Fin 128 → EReal) (hX : ∀ r d, X (ix6 b i r h g d) = T r d) :
    (shapeCast S8x64x1x2x4x1 (multiReduction .maximumf [2, 5] S8x64x2x4 (absf X) 0xFF800000#32 reduces_S8x64x128x2x4x128_S8x64x2x4 (.inl rfl) rfl : FVec Ideal S8x64x2x4 .f32) shapeCasts_S8x64x2x4_S8x64x1x2x4x1) (ix6 b i 0 h g 0) = amax T := by
  pointwise
  have hb : Ideal.ofBits FTy.f32 4286578688#32 = ⊥ := cbot
  rw [hb, fold_pairs _ _ (fun (r : Fin 128) (d : Fin 128) => ix6 b i r h g d) (fun x => by rw [Finset.mem_filter]; refine (and_iff_right (Finset.mem_univ x)).trans ?_; exact mem_q b h g i x)]
  simp only [hX]
  rfl

theorem levq_at (X : FVec Ideal S8x64x1x2x4x1 .f32) :
    (divf (log (mulf X (broadcast S8x64x1x2x4x1 (Scalar.ofBits .f32 0x3B124925#32)))) (broadcast S8x64x1x2x4x1 (Named.named κ "ln2" 0x3F317218#32)) : FVec Ideal S8x64x1x2x4x1 .f32) (ix6 b i 0 h g 0)
      = Ideal.div (Ideal.log (X (ix6 b i 0 h g 0) * Ideal.ofBits .f32 0x3B124925#32)) ((Real.log 2 : ℝ) : EReal) := by
  pointwise
  rw [named_ln2]

theorem oeqq_at (X : FVec Ideal S8x64x1x2x4x1 .f32) :
    (cmpf .oeq X (broadcast S8x64x1x2x4x1 (Scalar.ofBits .f32 0x00000000#32))) (ix6 b i 0 h g 0)
      = BitVec.ofBool (decide (X (ix6 b i 0 h g 0) = 0)) := by pointwise

theorem lev1q_at (Y : FVec Ideal S8x64x1x2x4x1 .f32) :
    (addi (fptosi 32 (floor Y)) (broadcast S8x64x1x2x4x1 1#32)) (ix6 b i 0 h g 0)
      = IntOp.addi (Ideal.fptosi 32 (Ideal.liftRound Int.floor (Y (ix6 b i 0 h g 0)))) 1#32 := rfl

theorem pay5_at (X : Vec Ideal S8x8192x1024 .bf16) :
    (k0_pay5 (F := Ideal) X) (ix6 b i 0 h g 0) = expT (tileQ X b i h g) := by
  have hX := amaxq_at b h g i (k0_pay4 (F := Ideal) X) _ (pay4_at b h g i X)
  unfold k0_pay5
  rw [qsel_at]
  unfold expT expo lvl
  rw [← hX]
  refine qsel_if _ _ _ _ _ _ ?_ ?_ ?_
  · exact oeqq_at b h g i _
  · rfl
  · refine (lev1q_at b h g i _).trans ?_
    rw [levq_at]

theorem pay6_at (X : Vec Ideal S8x8192x1024 .bf16) :
    (k0_pay6 (F := Ideal) X : FVec Ideal S8x64x1x2x4x1 .f32) (ix6 b i 0 h g 0) = scaleT (tileQ X b i h g) := by
  unfold k0_pay6
  pointwise
  rw [pay5_at, named_ln2, sitofp_int, exp_ln2]
  rfl

theorem clipq_at (X : FVec Ideal S8x64x128x2x4x128 .f32) (e : IVec S8x64x1x2x4x1 32) (r d : Fin 128) :
    (minimumf (broadcast S8x64x128x2x4x128 (Scalar.ofBits .f32 0x43E00000#32)) (maximumf (broadcast S8x64x128x2x4x128 (Scalar.ofBits .f32 0xC3E00000#32)) (mulf X (broadcastTo S8x64x128x2x4x128 (exp (mulf (sitofp .f32 (subi (broadcast S8x64x1x2x4x1 0#32) e)) (broadcast S8x64x1x2x4x1 (Named.named κ "ln2" 0x3F317218#32)) : FVec Ideal S8x64x1x2x4x1 .f32)) broadcasts_S8x64x1x2x4x1_S8x64x128x2x4x128))) : FVec Ideal _ .f32) (ix6 b i r h g d)
      = code (X (ix6 b i r h g d)) (e (ix6 b i 0 h g 0)) := by
  pointwise
  rw [named_ln2, sitofp_int, exp_ln2]
  rfl

theorem pay7_at (X : Vec Ideal S8x8192x1024 .bf16) (r d : Fin 128) :
    (k0_pay7 (F := Ideal) X : S8x64x128x2x4x128.Idx → EReal) (ix6 b i r h g d) = codeT (tileQ X b i h g) r d := by
  refine (clipq_at b h g i (k0_pay4 (F := Ideal) X) (k0_pay5 (F := Ideal) X) r d).trans ?_
  rw [pay4_at, pay5_at]
  rfl

/-! ## Keys and values: five axes -/

theorem pay9_at (Y : Vec Ideal S8x8192x256 .bf16) (c d : Fin 128) :
    (k0_pay9 (F := Ideal) Y : FVec Ideal S8x64x128x2x128 .f32) (ix5 b i c h d) = tileK Y b i h c d := by
  unfold k0_pay9
  pointwise
  rfl

theorem mem_k (x : S8x64x128x2x128.Idx) :
    reduces_S8x64x128x2x128_S8x64x2.drop x = ix3 b i h ↔ ∃ (c d : Fin 128), x = ix5 b i c h d := by
  idx_vars x
  constructor
  · intro hx
    have h0 := congrFun hx 0
    have h1 := congrFun hx 1
    have h2 := congrFun hx 2
    refine ⟨x2, x4, ?_⟩
    change x0 = b at h0; change x1 = i at h1; change x3 = h at h2
    subst h0 h1 h2; rfl
  · rintro ⟨r, d, hx⟩
    rw [hx]
    funext a; fin_cases a <;> rfl

theorem amaxk_at (X : FVec Ideal S8x64x128x2x128 .f32) (T : Fin 128 → Fin 128 → EReal) (hX : ∀ r d, X (ix5 b i r h d) = T r d) :
    (shapeCast S8x64x1x2x1 (multiReduction .maximumf [2, 4] S8x64x2 (absf X) 0xFF800000#32 reduces_S8x64x128x2x128_S8x64x2 (.inl rfl) rfl : FVec Ideal S8x64x2 .f32) shapeCasts_S8x64x2_S8x64x1x2x1) (ix5 b i 0 h 0) = amax T := by
  pointwise
  have hb : Ideal.ofBits FTy.f32 4286578688#32 = ⊥ := cbot
  rw [hb, fold_pairs _ _ (fun (r : Fin 128) (d : Fin 128) => ix5 b i r h d) (fun x => by rw [Finset.mem_filter]; refine (and_iff_right (Finset.mem_univ x)).trans ?_; exact mem_k b h i x)]
  simp only [hX]
  rfl

theorem levk_at (X : FVec Ideal S8x64x1x2x1 .f32) :
    (divf (log (mulf X (broadcast S8x64x1x2x1 (Scalar.ofBits .f32 0x3B124925#32)))) (broadcast S8x64x1x2x1 (Named.named κ "ln2" 0x3F317218#32)) : FVec Ideal S8x64x1x2x1 .f32) (ix5 b i 0 h 0)
      = Ideal.div (Ideal.log (X (ix5 b i 0 h 0) * Ideal.ofBits .f32 0x3B124925#32)) ((Real.log 2 : ℝ) : EReal) := by
  pointwise
  rw [named_ln2]

theorem oeqk_at (X : FVec Ideal S8x64x1x2x1 .f32) :
    (cmpf .oeq X (broadcast S8x64x1x2x1 (Scalar.ofBits .f32 0x00000000#32))) (ix5 b i 0 h 0)
      = BitVec.ofBool (decide (X (ix5 b i 0 h 0) = 0)) := by pointwise

theorem lev1k_at (Y : FVec Ideal S8x64x1x2x1 .f32) :
    (addi (fptosi 32 (floor Y)) (broadcast S8x64x1x2x1 1#32)) (ix5 b i 0 h 0)
      = IntOp.addi (Ideal.fptosi 32 (Ideal.liftRound Int.floor (Y (ix5 b i 0 h 0)))) 1#32 := rfl

theorem pay10_at (Y : Vec Ideal S8x8192x256 .bf16) :
    (k0_pay10 (F := Ideal) Y) (ix5 b i 0 h 0) = expT (tileK Y b i h) := by
  have hX := amaxk_at b h i (k0_pay9 (F := Ideal) Y) _ (pay9_at b h i Y)
  unfold k0_pay10
  rw [qsel_at]
  unfold expT expo lvl
  rw [← hX]
  refine qsel_if _ _ _ _ _ _ ?_ ?_ ?_
  · exact oeqk_at b h i _
  · rfl
  · refine (lev1k_at b h i _).trans ?_
    rw [levk_at]

theorem pay17_eq (Y : Vec Ideal S8x8192x256 .bf16) : k0_pay17 (F := Ideal) Y = k0_pay10 (F := Ideal) Y := rfl

theorem pay13_at (Y : Vec Ideal S8x8192x256 .bf16) :
    (k0_pay13 (F := Ideal) (k0_pay12 (F := Ideal) Y) : FVec Ideal S8x64x1x2x1 .f32) (ix5 b i 0 h 0) = scaleT (tileK Y b i h) := by
  unfold k0_pay13 k0_pay12
  pointwise
  rw [pay10_at, named_ln2, sitofp_int, exp_ln2]
  rfl

theorem pay1_eq (Y : Vec Ideal S8x8192x256 .bf16) :
    k0_pay1 (F := Ideal) (k0_pay17 (F := Ideal) Y) = k0_pay13 (F := Ideal) (k0_pay12 (F := Ideal) Y) := rfl

theorem clipk_at (X : FVec Ideal S8x64x128x2x128 .f32) (e : IVec S8x64x1x2x1 32) (c d : Fin 128) :
    (minimumf (broadcast S8x64x128x2x128 (Scalar.ofBits .f32 0x43E00000#32)) (maximumf (broadcast S8x64x128x2x128 (Scalar.ofBits .f32 0xC3E00000#32)) (mulf X (broadcastTo S8x64x128x2x128 (exp (mulf (sitofp .f32 (subi (broadcast S8x64x1x2x1 0#32) e)) (broadcast S8x64x1x2x1 (Named.named κ "ln2" 0x3F317218#32)) : FVec Ideal S8x64x1x2x1 .f32)) broadcasts_S8x64x1x2x1_S8x64x128x2x128))) : FVec Ideal _ .f32) (ix5 b i c h d)
      = code (X (ix5 b i c h d)) (e (ix5 b i 0 h 0)) := by
  pointwise
  rw [named_ln2, sitofp_int, exp_ln2]
  rfl

theorem pay11_at (Y : Vec Ideal S8x8192x256 .bf16) (c d : Fin 128) :
    (k0_pay11 (F := Ideal) Y : FVec Ideal S8x64x128x2x128 .f32) (ix5 b i c h d) = codeT (tileK Y b i h) c d := by
  refine (clipk_at b h i (k0_pay9 (F := Ideal) Y) (k0_pay10 (F := Ideal) Y) c d).trans ?_
  rw [pay9_at, pay10_at]
  rfl

theorem pay2_eq (Y : Vec Ideal S8x8192x256 .bf16) :
    (k0_pay2 (F := Ideal) (k0_pay16 (F := Ideal) Y) (k0_pay18 (F := Ideal) Y) (Named.named κ "ln2" 0x3F317218#32) : S8x64x128x2x128.Idx → EReal)
      = k0_pay11 (F := Ideal) Y := rfl

end Cert.ReferenceIdeal.Gen
-- ==== Proof.Value.RefReg.lean ====
module

public import proofs.«01_k».proof.Proof.Gen.ReferenceIdeal.Run
public import Idealize.ShloMosaic.Lib.Pointwise
public import Idealize.ShloMosaic.Lib.Tactic.CleanTypes
public import Idealize.ShloMosaic.Lib.Pipeline.ValueKit.Geometry
public import Idealize.ShloMosaic.Lib.Pipeline.ValueKit.Acc
public import proofs.«01_k».proof.Proof.Value.Tiles
public import proofs.«01_k».proof.Proof.Value.RefQuant

@[expose] public section

set_option maxRecDepth 8192

noncomputable section

namespace Cert.ReferenceIdeal.Gen
open Idealize Idealize.ShloMosaic Idealize.ShloMosaic.Pointwise
open Cert.ReferenceIdeal Cert.Spec Cert.ReferenceIdeal.Value

variable (m : (l : Loc nD τ sig) → Buf (Elt Ideal) l) (c : Dev nD)

abbrev argX : S8x8192x1024.Idx → EReal := m ((c.tc : Thread nD τ).loc main_arg0)
abbrev argK : S8x8192x256.Idx → EReal := m ((c.tc : Thread nD τ).loc main_arg1)
abbrev argV : S8x8192x256.Idx → EReal := m ((c.tc : Thread nD τ).loc main_arg2)

theorem iblk_0 (t : Fin cfg0.N) : (iblk m c 0 t : S8x8192x1024.Idx → EReal) = argX m c := by
  have e : ∀ t : Fin cfg0.N, win0_0.index t = ![0, 0, 0] := (by decide +kernel : ∀ t : Fin grid0.N, _)
  funext y
  blk_simp [iblk]
  refine (congrFun (V_main_arg0 m c) _).trans ?_
  congr 1
  blk_ext [e]

theorem iblk_1 (t : Fin cfg0.N) : (iblk m c 1 t : S8x8192x256.Idx → EReal) = argK m c := by
  have e : ∀ t : Fin cfg0.N, win0_1.index t = ![0, 0, 0] := (by decide +kernel : ∀ t : Fin grid0.N, _)
  funext y
  blk_simp [iblk]
  refine (congrFun (V_main_arg1 m c) _).trans ?_
  congr 1
  blk_ext [e]

theorem iblk_2 (t : Fin cfg0.N) : (iblk m c 2 t : S8x8192x256.Idx → EReal) = argV m c := by
  have e : ∀ t : Fin cfg0.N, win0_2.index t = ![0, 0, 0] := (by decide +kernel : ∀ t : Fin grid0.N, _)
  funext y
  blk_simp [iblk]
  refine (congrFun (V_main_arg2 m c) _).trans ?_
  congr 1
  blk_ext [e]

theorem ld_kv (Y : Vec Ideal S8x8192x256 .bf16) : View.ld Y r0_3 = Y :=
  View.ld_unit_zero (by funext a; fin_cases a <;> rfl) _ Y

theorem kcode_eq (A : Vec Ideal S8x8192x1024 .bf16) (B C : Vec Ideal S8x8192x256 .bf16) :
    (k0_pay14 (F := Ideal) (k0_pay19 (F := Ideal) A B C) : S8x64x128x2x128.Idx → EReal) = k0_pay11 (F := Ideal) B := by
  unfold k0_pay19
  rw [ld_kv]
  rfl

theorem vcode_eq (A : Vec Ideal S8x8192x1024 .bf16) (B C : Vec Ideal S8x8192x256 .bf16) :
    (k0_pay2 (F := Ideal) (k0_pay20 (F := Ideal) A B C) (k0_pay21 (F := Ideal) A B C) (Named.named κ "ln2" 0x3F317218#32) : S8x64x128x2x128.Idx → EReal)
      = k0_pay11 (F := Ideal) C := by
  unfold k0_pay20 k0_pay21
  rw [ld_kv]
  rfl

theorem reg_0 : (reg_main_v0_0 m c : S8x64x128x2x4x128.Idx → EReal) = k0_pay7 (F := Ideal) (argX m c) := by
  have e : ∀ t : Fin cfg0.N, win0_3.index t = ![0, 0, 0, 0, 0, 0] := (by decide +kernel : ∀ t : Fin grid0.N, _)
  refine (dats m 0 c).arrAt_eq_of_covers 3 _ (by decide +kernel) fun t hf y => ?_
  blk_simp
  rw [after0_3]
  frame_out
  rw [iblk_0]
  refine congrArg (k0_pay7 (F := Ideal) (argX m c)) ?_
  blk_ext [e]

theorem reg_1 : (reg_main_v0_1 m c : S8x64x1x2x4x1.Idx → EReal) = k0_pay6 (F := Ideal) (argX m c) := by
  have e : ∀ t : Fin cfg0.N, win0_4.index t = ![0, 0, 0, 0, 0, 0] := (by decide +kernel : ∀ t : Fin grid0.N, _)
  refine (dats m 0 c).arrAt_eq_of_covers 4 _ (by decide +kernel) fun t hf y => ?_
  blk_simp
  rw [after0_4]
  frame_out
  rw [iblk_0]
  refine congrArg (k0_pay6 (F := Ideal) (argX m c)) ?_
  blk_ext [e]

theorem reg_2 : (reg_main_v0_2 m c : S8x64x128x2x128.Idx → EReal) = k0_pay11 (F := Ideal) (argK m c) := by
  have e : ∀ t : Fin cfg0.N, win0_5.index t = ![0, 0, 0, 0, 0] := (by decide +kernel : ∀ t : Fin grid0.N, _)
  refine (dats m 0 c).arrAt_eq_of_covers 5 _ (by decide +kernel) fun t hf y => ?_
  blk_simp
  rw [after0_5]
  frame_out
  rw [iblk_1]
  refine (congrFun (kcode_eq _ _ _) _).trans ?_
  refine congrArg (k0_pay11 (F := Ideal) (argK m c)) ?_
  blk_ext [e]

theorem reg_3 : (reg_main_v0_3 m c : S8x64x1x2x1.Idx → EReal) = k0_pay13 (F := Ideal) (k0_pay12 (F := Ideal) (argK m c)) := by
  have e : ∀ t : Fin cfg0.N, win0_6.index t = ![0, 0, 0, 0, 0] := (by decide +kernel : ∀ t : Fin grid0.N, _)
  refine (dats m 0 c).arrAt_eq_of_covers 6 _ (by decide +kernel) fun t hf y => ?_
  blk_simp
  rw [after0_6]
  frame_out
  rw [iblk_1]
  refine congrArg (k0_pay13 (F := Ideal) (k0_pay12 (F := Ideal) (argK m c))) ?_
  blk_ext [e]

theorem reg_4 : (reg_main_v0_4 m c : S8x64x128x2x128.Idx → EReal) = k0_pay11 (F := Ideal) (argV m c) := by
  have e : ∀ t : Fin cfg0.N, win0_7.index t = ![0, 0, 0, 0, 0] := (by decide +kernel : ∀ t : Fin grid0.N, _)
  refine (dats m 0 c).arrAt_eq_of_covers 7 _ (by decide +kernel) fun t hf y => ?_
  blk_simp
  rw [after0_7]
  frame_out
  rw [iblk_2]
  refine (congrFun (vcode_eq _ _ _) _).trans ?_
  refine congrArg (k0_pay11 (F := Ideal) (argV m c)) ?_
  blk_ext [e]

theorem reg_5 : (reg_main_v0_5 m c : S8x64x1x2x1.Idx → EReal) = k0_pay13 (F := Ideal) (k0_pay12 (F := Ideal) (argV m c)) := by
  have e : ∀ t : Fin cfg0.N, win0_8.index t = ![0, 0, 0, 0, 0] := (by decide +kernel : ∀ t : Fin grid0.N, _)
  refine (dats m 0 c).arrAt_eq_of_covers 8 _ (by decide +kernel) fun t hf y => ?_
  blk_simp
  rw [after0_8]
  frame_out
  rw [iblk_2]
  refine congrArg (k0_pay13 (F := Ideal) (k0_pay12 (F := Ideal) (argV m c))) ?_
  blk_ext [e]

theorem reg_6 : (reg_main_v0_6 m c : S8x64x128x2x4x128.Idx → EReal) = k0_pay7 (F := Ideal) (argX m c) := by
  have e : ∀ t : Fin cfg0.N, win0_9.index t = ![0, 0, 0, 0, 0, 0] := (by decide +kernel : ∀ t : Fin grid0.N, _)
  refine (dats m 0 c).arrAt_eq_of_covers 9 _ (by decide +kernel) fun t hf y => ?_
  blk_simp
  rw [after0_9]
  frame_out
  rw [iblk_0]
  refine congrArg (k0_pay7 (F := Ideal) (argX m c)) ?_
  blk_ext [e]

theorem reg_7 : (reg_main_v0_7 m c : S8x64x128x2x128.Idx → EReal) = k0_pay11 (F := Ideal) (argK m c) := by
  have e : ∀ t : Fin cfg0.N, win0_10.index t = ![0, 0, 0, 0, 0] := (by decide +kernel : ∀ t : Fin grid0.N, _)
  refine (dats m 0 c).arrAt_eq_of_covers 10 _ (by decide +kernel) fun t hf y => ?_
  blk_simp
  rw [after0_10]
  frame_out
  rw [iblk_1]
  refine (congrFun (kcode_eq (iblk m c 0 t) _ (iblk m c 2 t)) _).trans ?_
  refine congrArg (k0_pay11 (F := Ideal) (argK m c)) ?_
  blk_ext [e]

theorem reg_8 : (reg_main_v0_8 m c : S8x64x128x2x128.Idx → EReal) = k0_pay11 (F := Ideal) (argV m c) := by
  have e : ∀ t : Fin cfg0.N, win0_11.index t = ![0, 0, 0, 0, 0] := (by decide +kernel : ∀ t : Fin grid0.N, _)
  refine (dats m 0 c).arrAt_eq_of_covers 11 _ (by decide +kernel) fun t hf y => ?_
  blk_simp
  rw [after0_11]
  frame_out
  rw [iblk_2]
  refine (congrFun (vcode_eq _ _ _) _).trans ?_
  refine congrArg (k0_pay11 (F := Ideal) (argV m c)) ?_
  blk_ext [e]

end Cert.ReferenceIdeal.Gen
-- ==== Proof.Value.RefFinal.lean ====
module

public import proofs.«01_k».proof.Proof.Value.RefHost
public import proofs.«01_k».proof.Proof.Value.RefReg

@[expose] public section

set_option maxRecDepth 8192

noncomputable section

namespace Cert.ReferenceIdeal.Gen
open Idealize Idealize.ShloMosaic Idealize.ShloMosaic.Pointwise
open Cert.ReferenceIdeal Cert.Spec Cert.ReferenceIdeal.Value

/-! The results laid out as arrays of rows. -/

theorem sc_q (Z : S8x64x128x2x4x128.Idx → EReal) (b : Fin 8) (i : Fin 64) (r : Fin 128) (h : Fin 2) (e : Fin 4) (d : Fin 128) :
    shapeCast S8x8192x1024 Z shapeCasts_S8x64x128x2x4x128_S8x8192x1024 (ix3 b ⟨i.val * 128 + r.val, by omega⟩ ⟨h.val * 512 + e.val * 128 + d.val, by omega⟩)
      = Z (ix6 b i r h e d) := by
  pointwise

theorem sc_qs (Z : S8x64x1x2x4x1.Idx → EReal) (b : Fin 8) (i : Fin 64) (h : Fin 2) (e : Fin 4) :
    shapeCast S8x64x8 Z shapeCasts_S8x64x1x2x4x1_S8x64x8 (ix3 b i ⟨h.val * 4 + e.val, by omega⟩) = Z (ix6 b i 0 h e 0) := by
  pointwise

theorem sc_k (Z : S8x64x128x2x128.Idx → EReal) (b : Fin 8) (i : Fin 64) (r : Fin 128) (h : Fin 2) (d : Fin 128) :
    shapeCast S8x8192x256 Z shapeCasts_S8x64x128x2x128_S8x8192x256 (ix3 b ⟨i.val * 128 + r.val, by omega⟩ ⟨h.val * 128 + d.val, by omega⟩)
      = Z (ix5 b i r h d) := by
  pointwise

theorem sc_ks (Z : S8x64x1x2x1.Idx → EReal) (b : Fin 8) (i : Fin 64) (h : Fin 2) :
    shapeCast S8x64x2 Z shapeCasts_S8x64x1x2x1_S8x64x2 (ix3 b i h) = Z (ix5 b i 0 h 0) := by
  pointwise

variable (m : (l : Loc nD τ sig) → Buf (Elt Ideal) l) (c : Dev nD)

theorem y_arr : shapeCast S8x8192x1024 (yTiles (exitV m c)) shapeCasts_S8x64x128x2x4x128_S8x8192x1024 = outY (argX m c) (argK m c) (argV m c) := by
  refine ext_q _ _ fun b i r h g d => ?_
  rw [sc_q, yTiles_at, outY_at]
  unfold outTile
  have e1 : rawS (exitV m c) b h g i = fun r j c' => ∑ x : Fin 128, codeT (tileK (argK m c) b j h) c' x * codeT (tileQ (argX m c) b i h g) r x := by
    funext r j c'
    unfold rawS
    refine Finset.sum_congr rfl fun x _ => congrArg₂ _ ?_ ?_
    · exact (congrFun ((exit_main_v0_7 m c).trans (reg_7 m c)) _).trans (pay11_at b h j _ _ _)
    · exact (congrFun ((exit_main_v0_6 m c).trans (reg_6 m c)) _).trans (pay7_at b h g i _ _ _)
  have e2 : qsc (exitV m c) b h g i = scaleT (tileQ (argX m c) b i h g) :=
    (congrFun ((exit_main_v0_1 m c).trans (reg_1 m c)) _).trans (pay6_at b h g i _)
  have e3 : ksc (exitV m c) b h = fun j => scaleT (tileK (argK m c) b j h) := funext fun j =>
    (congrFun ((exit_main_v0_3 m c).trans (reg_3 m c)) _).trans (pay13_at b h j _)
  have e4 : vsc (exitV m c) b h = fun j => scaleT (tileK (argV m c) b j h) := funext fun j =>
    (congrFun ((exit_main_v0_5 m c).trans (reg_5 m c)) _).trans (pay13_at b h j _)
  have e5 : vco (exitV m c) b h = fun j c' d => codeT (tileK (argV m c) b j h) c' d := funext fun j => funext fun c' => funext fun d =>
    (congrFun ((exit_main_v0_8 m c).trans (reg_8 m c)) _).trans (pay11_at b h j _ _ _)
  rw [e1, e2, e3, e4, e5]

theorem q_arr : shapeCast S8x8192x1024 ((exitV m c) (Proc.devRef .tc main_v0_0) : S8x64x128x2x4x128.Idx → EReal) shapeCasts_S8x64x128x2x4x128_S8x8192x1024 = outQ (argX m c) := by
  refine ext_q _ _ fun b i r h g d => ?_
  rw [sc_q, outQ_at]
  exact (congrFun ((exit_main_v0_0 m c).trans (reg_0 m c)) _).trans (pay7_at b h g i _ _ _)

theorem qs_arr : shapeCast S8x64x8 ((exitV m c) (Proc.devRef .tc main_v0_1) : S8x64x1x2x4x1.Idx → EReal) shapeCasts_S8x64x1x2x4x1_S8x64x8 = outQs (argX m c) := by
  refine ext_qs _ _ fun b i h g => ?_
  rw [sc_qs, outQs_at]
  exact (congrFun ((exit_main_v0_1 m c).trans (reg_1 m c)) _).trans (pay6_at b h g i _)

theorem k_arr : shapeCast S8x8192x256 ((exitV m c) (Proc.devRef .tc main_v0_2) : S8x64x128x2x128.Idx → EReal) shapeCasts_S8x64x128x2x128_S8x8192x256 = outK (argK m c) := by
  refine ext_k _ _ fun b i r h d => ?_
  rw [sc_k, outK_at]
  exact (congrFun ((exit_main_v0_2 m c).trans (reg_2 m c)) _).trans (pay11_at b h i _ _ _)

theorem ks_arr : shapeCast S8x64x2 ((exitV m c) (Proc.devRef .tc main_v0_3) : S8x64x1x2x1.Idx → EReal) shapeCasts_S8x64x1x2x1_S8x64x2 = outKs (argK m c) := by
  refine ext_ks _ _ fun b i h => ?_
  rw [sc_ks]
  exact (congrFun ((exit_main_v0_3 m c).trans (reg_3 m c)) _).trans (pay13_at b h i _)

theorem v_arr : shapeCast S8x8192x256 ((exitV m c) (Proc.devRef .tc main_v0_4) : S8x64x128x2x128.Idx → EReal) shapeCasts_S8x64x128x2x128_S8x8192x256 = outK (argV m c) := by
  refine ext_k _ _ fun b i r h d => ?_
  rw [sc_k, outK_at]
  exact (congrFun ((exit_main_v0_4 m c).trans (reg_4 m c)) _).trans (pay11_at b h i _ _ _)

theorem vs_arr : shapeCast S8x64x2 ((exitV m c) (Proc.devRef .tc main_v0_5) : S8x64x1x2x1.Idx → EReal) shapeCasts_S8x64x1x2x1_S8x64x2 = outKs (argV m c) := by
  refine ext_ks _ _ fun b i h => ?_
  rw [sc_ks]
  exact (congrFun ((exit_main_v0_5 m c).trans (reg_5 m c)) _).trans (pay13_at b h i _)

/-- The reference's results. -/
theorem ref_run (ρ : Dev nD → PrngReg) :
    θ_run defs (onTc (τ := τ) (main (F := Ideal))) ⟨m, fun _ => 0, ρ⟩ fun r => ∀ c : Dev nD,
      r.2.mem ((c.tc : Thread nD τ).loc main_v81) = outY (argX m c) (argK m c) (argV m c)
      ∧ r.2.mem ((c.tc : Thread nD τ).loc main_v82) = outQ (argX m c)
      ∧ r.2.mem ((c.tc : Thread nD τ).loc main_v83) = outQs (argX m c)
      ∧ r.2.mem ((c.tc : Thread nD τ).loc main_v84) = outK (argK m c)
      ∧ r.2.mem ((c.tc : Thread nD τ).loc main_v85) = outKs (argK m c)
      ∧ r.2.mem ((c.tc : Thread nD τ).loc main_v86) = outK (argV m c)
      ∧ r.2.mem ((c.tc : Thread nD τ).loc main_v87) = outKs (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r hr c => ?_) (run m ρ)
  obtain ⟨h0, h1, h2, h3, h4, h5, h6, h7, h8, h9⟩ := hr c
  exact ⟨h0.trans (y_arr m c), h1.trans (q_arr m c), h2.trans (qs_arr m c), h3.trans (k_arr m c), h4.trans (ks_arr m c), h5.trans (v_arr m c), h6.trans (vs_arr m c), h7, h8, h9⟩

end Cert.ReferenceIdeal.Gen
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Kernel.Run
public import proofs.«01_k».proof.Proof.KernelIdeal.Run
public import proofs.«01_k».proof.Proof.Value.KFinal
public import proofs.«01_k».proof.Proof.Value.RefFinal

@[expose] public section

noncomputable section

namespace Cert.Proof

open Idealize Idealize.ShloMosaic Idealize.SL.Sem Cert.Spec

theorem preserves : Cert.preserves_Kernel_KernelIdeal :=
  ⟨IdealRules.named_const.statement Cert.KernelIdeal.κ "ln2" .f32 0x3F317218#32 ((Real.log 2 : ℝ) : EReal) rfl,
   IdealRules.named_const.statement Cert.KernelIdeal.κ "sm_log2e" .f32 0x3E0293EE#32
     (((Real.sqrt 128)⁻¹ * (Real.log 2)⁻¹ : ℝ) : EReal) rfl⟩

/-- From equal arguments both programs end with the arrays of `Proof/Value/Spec` at those arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => outY (Cert.KernelIdeal.Gen.argX m c) (Cert.KernelIdeal.Gen.argK m c) (Cert.KernelIdeal.Gen.argV m c),
    fun c => outQ (Cert.KernelIdeal.Gen.argX m c), fun c => outQs (Cert.KernelIdeal.Gen.argX m c),
    fun c => outK (Cert.KernelIdeal.Gen.argK m c), fun c => outKs (Cert.KernelIdeal.Gen.argK m c),
    fun c => outK (Cert.KernelIdeal.Gen.argV m c), fun c => outKs (Cert.KernelIdeal.Gen.argV m c),
    Cert.KernelIdeal.Gen.kernel_run m g, ?_⟩
  refine (θ_run _ _ _).mono (fun r hr c => ?_) (Cert.ReferenceIdeal.Gen.ref_run m' g')
  obtain ⟨h0, h1, h2, h3, h4, h5, h6, h7⟩ := hr c
  have ex : Cert.ReferenceIdeal.Gen.argX m' c = Cert.KernelIdeal.Gen.argX m c := (hargs c).1
  have ek : Cert.ReferenceIdeal.Gen.argK m' c = Cert.KernelIdeal.Gen.argK m c := (hargs c).2.1
  have ev : Cert.ReferenceIdeal.Gen.argV m' c = Cert.KernelIdeal.Gen.argV m c := (hargs c).2.2
  exact ⟨h0.trans (by rw [ex, ek, ev]), h1.trans (congrArg outQ ex), h2.trans (congrArg outQs ex),
    h3.trans (congrArg outK ek), h4.trans (congrArg outKs ek), h5.trans (congrArg outK ev),
    h6.trans (congrArg outKs ev), h7⟩

theorem claim : Cert.Claim :=
  ⟨Cert.Kernel.Gen.facts, Cert.KernelIdeal.Gen.facts, Cert.ReferenceIdeal.Gen.facts,
   fun m ρ _ => Cert.Kernel.Gen.frame m ρ, fun m ρ _ => Cert.KernelIdeal.Gen.frame m ρ,
   fun m ρ _ => Cert.ReferenceIdeal.Gen.frame m ρ, preserves, algebraic⟩

end Cert.Proof

end
